-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lengths_not_negative [hPre_lengths_not_negative : Cert.Pre_lengths_not_negative.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_not_negative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lengths_not_negative [hPre_lengths_not_negative : Cert.Pre_lengths_not_negative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths_not_negative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_lengths_not_negative [hKernelIdeal : Cert.KernelIdeal.Facts] [hPre_lengths_not_negative : Cert.Pre_lengths_not_negative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lengths_not_negative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_lengths_not_negative [hReferenceIdeal : Cert.ReferenceIdeal.Facts] [hPre_lengths_not_negative : Cert.Pre_lengths_not_negative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lengths_not_negative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_lengths_not_negative [hKernelIdeal : Cert.KernelIdeal.Facts] [hReferenceIdeal : Cert.ReferenceIdeal.Facts] [hPre_lengths_not_negative : Cert.Pre_lengths_not_negative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lengths_not_negative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)) (v3 : (c : Dev Cert.KernelIdeal.nD) → Buf (Elt Ideal) ((c.tc : Thread Cert.KernelIdeal.nD Cert.KernelIdeal.τ).loc Cert.KernelIdeal.main_v16_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_v16_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51_0) = v0 c
          ∧ r.2.mem ((c.tc : Thread Cert.ReferenceIdeal.nD Cert.ReferenceIdeal.τ).loc Cert.ReferenceIdeal.main_v51_1) = v1 c
          ∧ r.2.mem ((c.tc : Thread Cert.ReferenceIdeal.nD Cert.ReferenceIdeal.τ).loc Cert.ReferenceIdeal.main_v51_2) = v2 c
          ∧ r.2.mem ((c.tc : Thread Cert.ReferenceIdeal.nD Cert.ReferenceIdeal.τ).loc Cert.ReferenceIdeal.main_v51_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_lengths_not_negative : Cert.Pre_lengths_not_negative.Facts),
    quiescent_Kernel (hKernel := hKernel)
    ∧ quiescent_KernelIdeal (hKernelIdeal := hKernelIdeal)
    ∧ quiescent_KernelIdeal_pre_lengths_not_negative (hKernelIdeal := hKernelIdeal) (hPre_lengths_not_negative := hPre_lengths_not_negative)
    ∧ quiescent_ReferenceIdeal (hReferenceIdeal := hReferenceIdeal)
    ∧ quiescent_ReferenceIdeal_pre_lengths_not_negative (hReferenceIdeal := hReferenceIdeal) (hPre_lengths_not_negative := hPre_lengths_not_negative)
    ∧ preserves_Kernel_KernelIdeal
    ∧ algebraic_KernelIdeal_ReferenceIdeal_pre_lengths_not_negative (hKernelIdeal := hKernelIdeal) (hReferenceIdeal := hReferenceIdeal) (hPre_lengths_not_negative := hPre_lengths_not_negative)
-- ==== Pre_lengths_not_negative.lean ====
abbrev S2x16384x7168 : Shape := ⟨3, ![2, 16384, 7168]⟩
abbrev S2x16384x56 : Shape := ⟨3, ![2, 16384, 56]⟩
abbrev S576x7168 : Shape := ⟨2, ![576, 7168]⟩
abbrev S5x56 : Shape := ⟨2, ![5, 56]⟩
abbrev S512 : Shape := ⟨1, ![512]⟩
abbrev S2x16384 : Shape := ⟨2, ![2, 16384]⟩
abbrev S2 : Shape := ⟨1, ![2]⟩
abbrev S2x16384x512 : Shape := ⟨3, ![2, 16384, 512]⟩
abbrev S2x16384x64 : Shape := ⟨3, ![2, 16384, 64]⟩
abbrev S_ : Shape := ⟨0, ![]⟩

class Facts : Prop where
  bcast_S_S2 : S_.BroadcastsInDim S2 (![] : Fin 0 → Fin S2.rank)

variable [Facts]

def fn {F : FTy → Type} [FloatOps F] (main_arg0 : FVec F S2x16384x7168 .fp8e4m3) (main_arg1 : FVec F S2x16384x56 .f32) (main_arg2 : FVec F S576x7168 .fp8e4m3) (main_arg3 : FVec F S5x56 .f32) (main_arg4 : FVec F S512 .f32) (main_arg5 : IVec S2x16384 32) (main_arg6 : IVec S2 32) (main_arg7 : FVec F S2x16384x512 .bf16) (main_arg8 : FVec F S2x16384x64 .bf16) : IVec S2 1 :=
  let main_c : IVec S_ 32 := constantI S_ 32 0#32
  let main_v0 : IVec S2 32 := broadcastInDim S2 ![] bcast_S_S2 main_c
  let main_v1 : IVec S2 1 := cmpi .sge main_arg6 main_v0
  main_v1
-- ==== Kernel.lean ====
abbrev S2x16384x7168 : Shape := ⟨3, ![2, 16384, 7168]⟩
abbrev S2x16384x56 : Shape := ⟨3, ![2, 16384, 56]⟩
abbrev S576x7168 : Shape := ⟨2, ![576, 7168]⟩
abbrev S5x56 : Shape := ⟨2, ![5, 56]⟩
abbrev S512 : Shape := ⟨1, ![512]⟩
abbrev S2x16384 : Shape := ⟨2, ![2, 16384]⟩
abbrev S2 : Shape := ⟨1, ![2]⟩
abbrev S2x16384x512 : Shape := ⟨3, ![2, 16384, 512]⟩
abbrev S2x16384x64 : Shape := ⟨3, ![2, 16384, 64]⟩
abbrev S32 : Shape := ⟨1, ![32]⟩
abbrev S_ : Shape := ⟨0, ![]⟩
abbrev S32x2 : Shape := ⟨2, ![32, 2]⟩
abbrev S64 : Shape := ⟨1, ![64]⟩
abbrev S64x1 : Shape := ⟨2, ![64, 1]⟩
abbrev S1x512 : Shape := ⟨2, ![1, 512]⟩
abbrev S128x1x256 : Shape := ⟨3, ![128, 1, 256]⟩
abbrev S2x64x2x512 : Shape := ⟨4, ![2, 64, 2, 512]⟩
abbrev S2x16384x576 : Shape := ⟨3, ![2, 16384, 576]⟩
abbrev S2x16384x5 : Shape := ⟨3, ![2, 16384, 5]⟩
abbrev S1x256x7168 : Shape := ⟨3, ![1, 256, 7168]⟩
abbrev S1 : Shape := ⟨1, ![1]⟩
abbrev S1x256x56 : Shape := ⟨3, ![1, 256, 56]⟩
abbrev S1x1x256 : Shape := ⟨3, ![1, 1, 256]⟩
abbrev S1x256x512 : Shape := ⟨3, ![1, 256, 512]⟩
abbrev S1x256x64 : Shape := ⟨3, ![1, 256, 64]⟩
abbrev S1x1x2x512 : Shape := ⟨4, ![1, 1, 2, 512]⟩
abbrev S1x256x576 : Shape := ⟨3, ![1, 256, 576]⟩
abbrev S1x256x5 : Shape := ⟨3, ![1, 256, 5]⟩
abbrev S256x7168 : Shape := ⟨2, ![256, 7168]⟩
abbrev S256x576 : Shape := ⟨2, ![256, 576]⟩
abbrev S1x1 : Shape := ⟨2, ![1, 1]⟩
abbrev S128x128 : Shape := ⟨2, ![128, 128]⟩
abbrev S64x128 : Shape := ⟨2, ![64, 128]⟩
abbrev S2x512 : Shape := ⟨2, ![2, 512]⟩
abbrev S256x5 : Shape := ⟨2, ![256, 5]⟩
abbrev S256x56 : Shape := ⟨2, ![256, 56]⟩
abbrev S1x256x128 : Shape := ⟨3, ![1, 256, 128]⟩
abbrev S256x128 : Shape := ⟨2, ![256, 128]⟩
abbrev S256x1 : Shape := ⟨2, ![256, 1]⟩
abbrev S512x7168 : Shape := ⟨2, ![512, 7168]⟩
abbrev S256x512 : Shape := ⟨2, ![256, 512]⟩
abbrev S256 : Shape := ⟨1, ![256]⟩
abbrev S2x128x512 : Shape := ⟨3, ![2, 128, 512]⟩
abbrev S1x256 : Shape := ⟨2, ![1, 256]⟩
abbrev S64x256 : Shape := ⟨2, ![64, 256]⟩
abbrev S128x256 : Shape := ⟨2, ![128, 256]⟩
abbrev S256x64 : Shape := ⟨2, ![256, 64]⟩
abbrev S256x256 : Shape := ⟨2, ![256, 256]⟩
abbrev S1x256x1 : Shape := ⟨3, ![1, 256, 1]⟩

abbrev nBuf : Space → Nat
  | .hbm => 33
  | .vmem => 24
  | .smem => 2
  | _ => 0

abbrev bufTy : (tb : Table) → Fin (tcTables nBuf tb) → BufTy
  | .hbm, ⟨0, _⟩ => ⟨S2x16384x7168, .fp8e4m3⟩
  | .hbm, ⟨1, _⟩ => ⟨S2x16384x56, .f32⟩
  | .hbm, ⟨2, _⟩ => ⟨S576x7168, .fp8e4m3⟩
  | .hbm, ⟨3, _⟩ => ⟨S5x56, .f32⟩
  | .hbm, ⟨4, _⟩ => ⟨S512, .f32⟩
  | .hbm, ⟨5, _⟩ => ⟨S2x16384, .i32⟩
  | .hbm, ⟨6, _⟩ => ⟨S2x16384x512, .bf16⟩
  | .hbm, ⟨7, _⟩ => ⟨S2x16384x64, .bf16⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S32x2, .f32⟩
  | .hbm, ⟨25, _⟩ => ⟨S64, .f32⟩
  | .hbm, ⟨26, _⟩ => ⟨S64x1, .f32⟩
  | .hbm, ⟨27, _⟩ => ⟨S1x512, .f32⟩
  | .hbm, ⟨28, _⟩ => ⟨S128x1x256, .i32⟩
  | .hbm, ⟨29, _⟩ => ⟨S2x16384x7168, .bf16⟩
  | .hbm, ⟨30, _⟩ => ⟨S2x64x2x512, .f32⟩
  | .hbm, ⟨31, _⟩ => ⟨S2x16384x576, .fp8e5m2⟩
  | .hbm, ⟨32, _⟩ => ⟨S2x16384x5, .f32⟩
  | .local _ .vmem, ⟨0, _⟩ => ⟨S1x256x7168, .fp8e4m3⟩
  | .local _ .vmem, ⟨1, _⟩ => ⟨S1x256x7168, .fp8e4m3⟩
  | .local _ .vmem, ⟨2, _⟩ => ⟨S1x256x56, .f32⟩
  | .local _ .vmem, ⟨3, _⟩ => ⟨S1x256x56, .f32⟩
  | .local _ .vmem, ⟨4, _⟩ => ⟨S576x7168, .fp8e4m3⟩
  | .local _ .vmem, ⟨5, _⟩ => ⟨S1x512, .f32⟩
  | .local _ .vmem, ⟨6, _⟩ => ⟨S1x1x256, .i32⟩
  | .local _ .vmem, ⟨7, _⟩ => ⟨S1x1x256, .i32⟩
  | .local _ .vmem, ⟨8, _⟩ => ⟨S64x1, .f32⟩
  | .local _ .vmem, ⟨9, _⟩ => ⟨S1x256x512, .bf16⟩
  | .local _ .vmem, ⟨10, _⟩ => ⟨S1x256x512, .bf16⟩
  | .local _ .vmem, ⟨11, _⟩ => ⟨S1x256x64, .bf16⟩
  | .local _ .vmem, ⟨12, _⟩ => ⟨S1x256x64, .bf16⟩
  | .local _ .vmem, ⟨13, _⟩ => ⟨S1x256x7168, .bf16⟩
  | .local _ .vmem, ⟨14, _⟩ => ⟨S1x256x7168, .bf16⟩
  | .local _ .vmem, ⟨15, _⟩ => ⟨S1x1x2x512, .f32⟩
  | .local _ .vmem, ⟨16, _⟩ => ⟨S1x1x2x512, .f32⟩
  | .local _ .vmem, ⟨17, _⟩ => ⟨S1x256x576, .fp8e5m2⟩
  | .local _ .vmem, ⟨18, _⟩ => ⟨S1x256x576, .fp8e5m2⟩
  | .local _ .vmem, ⟨19, _⟩ => ⟨S1x256x5, .f32⟩
  | .local _ .vmem, ⟨20, _⟩ => ⟨S1x256x5, .f32⟩
  | .local _ .vmem, ⟨21, _⟩ => ⟨S576x7168, .bf16⟩
  | .local _ .vmem, ⟨22, _⟩ => ⟨S256x7168, .bf16⟩
  | .local _ .vmem, ⟨23, _⟩ => ⟨S256x576, .bf16⟩
  | .local _ .smem, ⟨0, _⟩ => ⟨S2, .i32⟩
  | .local _ .smem, ⟨1, _⟩ => ⟨S5x56, .f32⟩
  | _, _ => ⟨S2x16384x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨1, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16_0 : Ref sig .tc := ⟨.hbm, 29, rfl⟩
abbrev main_v16_1 : Ref sig .tc := ⟨.hbm, 30, rfl⟩
abbrev main_v16_2 : Ref sig .tc := ⟨.hbm, 31, rfl⟩
abbrev main_v16_3 : Ref sig .tc := ⟨.hbm, 32, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_stg2_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c64_i32 : BitVec 32 := 64#32
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let v0 : BitVec 32 := Scalar.divsi arg0 c64_i32
  let c1_i32 : BitVec 32 := 1#32
  let v15 : BitVec 32 := Scalar.subi v0 c1_i32
  let v16 : BitVec 32 := Scalar.select v14 v15 v0
  let v17 : Index := Scalar.indexCast v16
  ![v17.toNat]
def k0_cond1 (i : grid0.Coords) : BitVec 1 :=
  let arg0 : BitVec 32 := BitVec.ofNat 32 (i 0).val
  let c0_i32_10 : BitVec 32 := 0#32
  let v31 : BitVec 1 := Scalar.cmpi .eq arg0 c0_i32_10
  let v32 : BitVec 32 := Scalar.extui v31
  let c0_i32_11 : BitVec 32 := 0#32
  let v33 : BitVec 1 := Scalar.cmpi .ne v32 c0_i32_11
  v33

@[reducible] def k0_t1_loop : Scf.Loop 32 :=
  let c0_i32_16 : BitVec 32 := 0#32
  let c56_i32 : BitVec 32 := 56#32
  let v40 : BitVec 32 := Scalar.addi c0_i32_16 c56_i32
  let c1_i32_17 : BitVec 32 := 1#32
  ⟨c0_i32_16, v40, c1_i32_17⟩
def k0_mult1 (k0_t1 : Fin k0_t1_loop.trips) : BitVec 32 :=
  let c0_i32_36 : BitVec 32 := 0#32
  let c0_i32_16 : BitVec 32 := 0#32
  let c1_i32_17 : BitVec 32 := 1#32
  let arg18 : BitVec 32 := Scf.iv c0_i32_16 c1_i32_17 k0_t1
  let c1_i32_35 : BitVec 32 := 1#32
  let v45 : BitVec 32 := Scalar.muli arg18 c1_i32_35
  let v46 : BitVec 32 := Scalar.addi c0_i32_36 v45
  let c128_i32 : BitVec 32 := 128#32
  let v47 : BitVec 32 := Scalar.muli v46 c128_i32
  v47
def k0_off2 (k0_t1 : Fin k0_t1_loop.trips) : Fin 2 → Nat :=
  let c0 : Index := 0#32
  let c0_i32_36 : BitVec 32 := 0#32
  let c0_i32_16 : BitVec 32 := 0#32
  let c1_i32_17 : BitVec 32 := 1#32
  let arg18 : BitVec 32 := Scf.iv c0_i32_16 c1_i32_17 k0_t1
  let c1_i32_35 : BitVec 32 := 1#32
  let v45 : BitVec 32 := Scalar.muli arg18 c1_i32_35
  let v46 : BitVec 32 := Scalar.addi c0_i32_36 v45
  let v49 : Index := Scalar.indexCast v46
  ![0, v49.toNat]
def k0_off3 (k0_t1 : Fin k0_t1_loop.trips) : Fin 2 → Nat :=
  let c0_37 : Index := 0#32
  let c0_i32_36 : BitVec 32 := 0#32
  let c0_i32_16 : BitVec 32 := 0#32
  let c1_i32_17 : BitVec 32 := 1#32
  let arg18 : BitVec 32 := Scf.iv c0_i32_16 c1_i32_17 k0_t1
  let c1_i32_35 : BitVec 32 := 1#32
  let v45 : BitVec 32 := Scalar.muli arg18 c1_i32_35
  let v46 : BitVec 32 := Scalar.addi c0_i32_36 v45
  let c128_i32 : BitVec 32 := 128#32
  let v47 : BitVec 32 := Scalar.muli v46 c128_i32
  let v48 : BitVec 32 := v47
  let v53 : Index := Scalar.indexCast v48
  ![0, v53.toNat]
@[reducible] def k0_t2_loop : Scf.Loop 32 :=
  let c0_i32_19 : BitVec 32 := 0#32
  let c56_i32_20 : BitVec 32 := 56#32
  let v41 : BitVec 32 := Scalar.addi c0_i32_19 c56_i32_20
  let c1_i32_21 : BitVec 32 := 1#32
  ⟨c0_i32_19, v41, c1_i32_21⟩
def k0_mult2 (k0_t2 : Fin k0_t2_loop.trips) : BitVec 32 :=
  let c0_i32_36 : BitVec 32 := 0#32
  let c0_i32_19 : BitVec 32 := 0#32
  let c1_i32_21 : BitVec 32 := 1#32
  let arg18 : BitVec 32 := Scf.iv c0_i32_19 c1_i32_21 k0_t2
  let c1_i32_35 : BitVec 32 := 1#32
  let v45 : BitVec 32 := Scalar.muli arg18 c1_i32_35
  let v46 : BitVec 32 := Scalar.addi c0_i32_36 v45
  let c128_i32 : BitVec 32 := 128#32
  let v47 : BitVec 32 := Scalar.muli v46 c128_i32
  v47
def k0_off4 (k0_t2 : Fin k0_t2_loop.trips) : Fin 2 → Nat :=
  let c1 : Index := 1#32
  let c0_i32_36 : BitVec 32 := 0#32
  let c0_i32_19 : BitVec 32 := 0#32
  let c1_i32_21 : BitVec 32 := 1#32
  let arg18 : BitVec 32 := Scf.iv c0_i32_19 c1_i32_21 k0_t2
  let c1_i32_35 : BitVec 32 := 1#32
  let v45 : BitVec 32 := Scalar.muli arg18 c1_i32_35
  let v46 : BitVec 32 := Scalar.addi c0_i32_36 v45
  let v49 : Index := Scalar.indexCast v46
  ![1, v49.toNat]
def k0_off5 (k0_t2 : Fin k0_t2_loop.trips) : Fin 2 → Nat :=
  let c128 : Index := 128#32
  let c0_i32_36 : BitVec 32 := 0#32
  let c0_i32_19 : BitVec 32 := 0#32
  let c1_i32_21 : BitVec 32 := 1#32
  let arg18 : BitVec 32 := Scf.iv c0_i32_19 c1_i32_21 k0_t2
  let c1_i32_35 : BitVec 32 := 1#32
  let v45 : BitVec 32 := Scalar.muli arg18 c1_i32_35
  let v46 : BitVec 32 := Scalar.addi c0_i32_36 v45
  let c128_i32 : BitVec 32 := 128#32
  let v47 : BitVec 32 := Scalar.muli v46 c128_i32
  let v48 : BitVec 32 := v47
  let v53 : Index := Scalar.indexCast v48
  ![128, v53.toNat]
@[reducible] def k0_t3_loop : Scf.Loop 32 :=
  let c0_i32_23 : BitVec 32 := 0#32
  let c56_i32_24 : BitVec 32 := 56#32
  let v42 : BitVec 32 := Scalar.addi c0_i32_23 c56_i32_24
  let c1_i32_25 : BitVec 32 := 1#32
  ⟨c0_i32_23, v42, c1_i32_25⟩
def k0_mult3 (k0_t3 : Fin k0_t3_loop.trips) : BitVec 32 :=
  let c0_i32_36 : BitVec 32 := 0#32
  let c0_i32_23 : BitVec 32 := 0#32
  let c1_i32_25 : BitVec 32 := 1#32
  let arg18 : BitVec 32 := Scf.iv c0_i32_23 c1_i32_25 k0_t3
  let c1_i32_35 : BitVec 32 := 1#32
  let v45 : BitVec 32 := Scalar.muli arg18 c1_i32_35
  let v46 : BitVec 32 := Scalar.addi c0_i32_36 v45
  let c128_i32 : BitVec 32 := 128#32
  let v47 : BitVec 32 := Scalar.muli v46 c128_i32
  v47
def k0_off6 (k0_t3 : Fin k0_t3_loop.trips) : Fin 2 → Nat :=
  let c2 : Index := 2#32
  let c0_i32_36 : BitVec 32 := 0#32
  let c0_i32_23 : BitVec 32 := 0#32
  let c1_i32_25 : BitVec 32 := 1#32
  let arg18 : BitVec 32 := Scf.iv c0_i32_23 c1_i32_25 k0_t3
  let c1_i32_35 : BitVec 32 := 1#32
  let v45 : BitVec 32 := Scalar.muli arg18 c1_i32_35
  let v46 : BitVec 32 := Scalar.addi c0_i32_36 v45
  let v49 : Index := Scalar.indexCast v46
  ![2, v49.toNat]
def k0_off7 (k0_t3 : Fin k0_t3_loop.trips) : Fin 2 → Nat :=
  let c256 : Index := 256#32
  let c0_i32_36 : BitVec 32 := 0#32
  let c0_i32_23 : BitVec 32 := 0#32
  let c1_i32_25 : BitVec 32 := 1#32
  let arg18 : BitVec 32 := Scf.iv c0_i32_23 c1_i32_25 k0_t3
  let c1_i32_35 : BitVec 32 := 1#32
  let v45 : BitVec 32 := Scalar.muli arg18 c1_i32_35
  let v46 : BitVec 32 := Scalar.addi c0_i32_36 v45
  let c128_i32 : BitVec 32 := 128#32
  let v47 : BitVec 32 := Scalar.muli v46 c128_i32
  let v48 : BitVec 32 := v47
  let v53 : Index := Scalar.indexCast v48
  ![256, v53.toNat]
@[reducible] def k0_t4_loop : Scf.Loop 32 :=
  let c0_i32_27 : BitVec 32 := 0#32
  let c56_i32_28 : BitVec 32 := 56#32
  let v43 : BitVec 32 := Scalar.addi c0_i32_27 c56_i32_28
  let c1_i32_29 : BitVec 32 := 1#32
  ⟨c0_i32_27, v43, c1_i32_29⟩
def k0_mult4 (k0_t4 : Fin k0_t4_loop.trips) : BitVec 32 :=
  let c0_i32_36 : BitVec 32 := 0#32
  let c0_i32_27 : BitVec 32 := 0#32
  let c1_i32_29 : BitVec 32 := 1#32
  let arg18 : BitVec 32 := Scf.iv c0_i32_27 c1_i32_29 k0_t4
  let c1_i32_35 : BitVec 32 := 1#32
  let v45 : BitVec 32 := Scalar.muli arg18 c1_i32_35
  let v46 : BitVec 32 := Scalar.addi c0_i32_36 v45
  let c128_i32 : BitVec 32 := 128#32
  let v47 : BitVec 32 := Scalar.muli v46 c128_i32
  v47
def k0_off8 (k0_t4 : Fin k0_t4_loop.trips) : Fin 2 → Nat :=
  let c3 : Index := 3#32
  let c0_i32_36 : BitVec 32 := 0#32
  let c0_i32_27 : BitVec 32 := 0#32
  let c1_i32_29 : BitVec 32 := 1#32
  let arg18 : BitVec 32 := Scf.iv c0_i32_27 c1_i32_29 k0_t4
  let c1_i32_35 : BitVec 32 := 1#32
  let v45 : BitVec 32 := Scalar.muli arg18 c1_i32_35
  let v46 : BitVec 32 := Scalar.addi c0_i32_36 v45
  let v49 : Index := Scalar.indexCast v46
  ![3, v49.toNat]
def k0_off9 (k0_t4 : Fin k0_t4_loop.trips) : Fin 2 → Nat :=
  let c384 : Index := 384#32
  let c0_i32_36 : BitVec 32 := 0#32
  let c0_i32_27 : BitVec 32 := 0#32
  let c1_i32_29 : BitVec 32 := 1#32
  let arg18 : BitVec 32 := Scf.iv c0_i32_27 c1_i32_29 k0_t4
  let c1_i32_35 : BitVec 32 := 1#32
  let v45 : BitVec 32 := Scalar.muli arg18 c1_i32_35
  let v46 : BitVec 32 := Scalar.addi c0_i32_36 v45
  let c128_i32 : BitVec 32 := 128#32
  let v47 : BitVec 32 := Scalar.muli v46 c128_i32
  let v48 : BitVec 32 := v47
  let v53 : Index := Scalar.indexCast v48
  ![384, v53.toNat]
@[reducible] def k0_t5_loop : Scf.Loop 32 :=
  let c0_i32_31 : BitVec 32 := 0#32
  let c56_i32_32 : BitVec 32 := 56#32
  let v44 : BitVec 32 := Scalar.addi c0_i32_31 c56_i32_32
  let c1_i32_33 : BitVec 32 := 1#32
  ⟨c0_i32_31, v44, c1_i32_33⟩
def k0_mult5 (k0_t5 : Fin k0_t5_loop.trips) : BitVec 32 :=
  let c0_i32_36 : BitVec 32 := 0#32
  let c0_i32_31 : BitVec 32 := 0#32
  let c1_i32_33 : BitVec 32 := 1#32
  let arg18 : BitVec 32 := Scf.iv c0_i32_31 c1_i32_33 k0_t5
  let c1_i32_35 : BitVec 32 := 1#32
  let v45 : BitVec 32 := Scalar.muli arg18 c1_i32_35
  let v46 : BitVec 32 := Scalar.addi c0_i32_36 v45
  let c128_i32 : BitVec 32 := 128#32
  let v47 : BitVec 32 := Scalar.muli v46 c128_i32
  v47
def k0_off10 (k0_t5 : Fin k0_t5_loop.trips) : Fin 2 → Nat :=
  let c4 : Index := 4#32
  let c0_i32_36 : BitVec 32 := 0#32
  let c0_i32_31 : BitVec 32 := 0#32
  let c1_i32_33 : BitVec 32 := 1#32
  let arg18 : BitVec 32 := Scf.iv c0_i32_31 c1_i32_33 k0_t5
  let c1_i32_35 : BitVec 32 := 1#32
  let v45 : BitVec 32 := Scalar.muli arg18 c1_i32_35
  let v46 : BitVec 32 := Scalar.addi c0_i32_36 v45
  let v49 : Index := Scalar.indexCast v46
  ![4, v49.toNat]
def k0_off11 (k0_t5 : Fin k0_t5_loop.trips) : Fin 2 → Nat :=
  let c512 : Index := 512#32
  let c0_i32_36 : BitVec 32 := 0#32
  let c0_i32_31 : BitVec 32 := 0#32
  let c1_i32_33 : BitVec 32 := 1#32
  let arg18 : BitVec 32 := Scf.iv c0_i32_31 c1_i32_33 k0_t5
  let c1_i32_35 : BitVec 32 := 1#32
  let v45 : BitVec 32 := Scalar.muli arg18 c1_i32_35
  let v46 : BitVec 32 := Scalar.addi c0_i32_36 v45
  let c128_i32 : BitVec 32 := 128#32
  let v47 : BitVec 32 := Scalar.muli v46 c128_i32
  let v48 : BitVec 32 := v47
  let v53 : Index := Scalar.indexCast v48
  ![512, v53.toNat]
def k0_cond2 (i : grid0.Coords) (v29 : BitVec 32) : BitVec 1 :=
  let arg0 : BitVec 32 := BitVec.ofNat 32 (i 0).val
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c256_i32 : BitVec 32 := 256#32
  let v27 : BitVec 32 := Scalar.muli v26 c256_i32
  let v30 : BitVec 32 := Scalar.subi v29 v27
  let c0_i32_12 : BitVec 32 := 0#32
  let v34 : BitVec 1 := Scalar.cmpi .sle v30 c0_i32_12
  let v35 : BitVec 32 := Scalar.extui v34
  let c0_i32_13 : BitVec 32 := 0#32
  let v36 : BitVec 1 := Scalar.cmpi .ne v35 c0_i32_13
  v36

def k0_cond3 (i : grid0.Coords) (v29 : BitVec 32) : BitVec 1 :=
  let arg0 : BitVec 32 := BitVec.ofNat 32 (i 0).val
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c256_i32 : BitVec 32 := 256#32
  let v27 : BitVec 32 := Scalar.muli v26 c256_i32
  let v30 : BitVec 32 := Scalar.subi v29 v27
  let c0_i32_14 : BitVec 32 := 0#32
  let v37 : BitVec 1 := Scalar.cmpi .sgt v30 c0_i32_14
  let v38 : BitVec 32 := Scalar.extui v37
  let c0_i32_15 : BitVec 32 := 0#32
  let v39 : BitVec 1 := Scalar.cmpi .ne v38 c0_i32_15
  v39

def cc0_transform_0 (k0_off1_inb : ∀ i : grid0.Coords, ∀ a, (k0_off1 i) a + S1.size a ≤ S2.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast v16
  let v18 : BitVec 32 := pf.at 0 (Rect.unit (s := S2) ![v17.toNat] S1.size (k0_off1_inb i)) numel1_S1
  let c1_i32_4 : BitVec 32 := 1#32
  let v19 : BitVec 32 := Scalar.subi v18 c1_i32_4
  let c0_i32_5 : BitVec 32 := 0#32
  let v20 : BitVec 32 := Scalar.maxsi v19 c0_i32_5
  let c256_i32 : BitVec 32 := 256#32
  let v21 : BitVec 32 := Scalar.divsi v20 c256_i32
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c0_i32_8 : BitVec 32 := 0#32
  let v27 : BitVec 1 := Scalar.cmpi .sgt c256_i32 c0_i32_8
  let v28 : BitVec 32 := Scalar.extui v27
  let c0_i32_9 : BitVec 32 := 0#32
  let v29 : BitVec 1 := Scalar.cmpi .slt c256_i32 c0_i32_9
  let v30 : BitVec 32 := Scalar.extui v29
  let v31 : BitVec 32 := Scalar.subi v28 v30
  let v32 : BitVec 1 := Scalar.cmpi .ne v26 v31
  let v33 : BitVec 32 := Scalar.remsi v20 c256_i32
  let c0_i32_10 : BitVec 32 := 0#32
  let v34 : BitVec 1 := Scalar.cmpi .ne v33 c0_i32_10
  let v35 : BitVec 1 := Scalar.andi v32 v34
  let c1_i32_11 : BitVec 32 := 1#32
  let v36 : BitVec 32 := Scalar.subi v21 c1_i32_11
  let v37 : BitVec 32 := Scalar.select v35 v36 v21
  let c64_i32_12 : BitVec 32 := 64#32
  let c0_i32_13 : BitVec 32 := 0#32
  let v38 : BitVec 1 := Scalar.cmpi .eq c64_i32_12 c0_i32_13
  let c1_i32_14 : BitVec 32 := 1#32
  let v39 : BitVec 32 := Scalar.select v38 c1_i32_14 c64_i32_12
  let v40 : BitVec 32 := Scalar.remsi arg0 v39
  let c0_i32_15 : BitVec 32 := 0#32
  let v41 : BitVec 1 := Scalar.cmpi .ne v40 c0_i32_15
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let v45 : BitVec 1 := Scalar.andi v44 v41
  let v46 : BitVec 32 := Scalar.addi v40 v39
  let v47 : BitVec 32 := Scalar.select v45 v46 v40
  let v48 : BitVec 32 := Scalar.minsi v47 v37
  let c0_i32_18 : BitVec 32 := 0#32
  let c0_i32_19 : BitVec 32 := 0#32
  ![v16.toNat, v48.toNat, c0_i32_18.toNat]

def cc0_transform_1 (k0_off1_inb : ∀ i : grid0.Coords, ∀ a, (k0_off1 i) a + S1.size a ≤ S2.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast v16
  let v18 : BitVec 32 := pf.at 0 (Rect.unit (s := S2) ![v17.toNat] S1.size (k0_off1_inb i)) numel1_S1
  let c1_i32_4 : BitVec 32 := 1#32
  let v19 : BitVec 32 := Scalar.subi v18 c1_i32_4
  let c0_i32_5 : BitVec 32 := 0#32
  let v20 : BitVec 32 := Scalar.maxsi v19 c0_i32_5
  let c256_i32 : BitVec 32 := 256#32
  let v21 : BitVec 32 := Scalar.divsi v20 c256_i32
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c0_i32_8 : BitVec 32 := 0#32
  let v27 : BitVec 1 := Scalar.cmpi .sgt c256_i32 c0_i32_8
  let v28 : BitVec 32 := Scalar.extui v27
  let c0_i32_9 : BitVec 32 := 0#32
  let v29 : BitVec 1 := Scalar.cmpi .slt c256_i32 c0_i32_9
  let v30 : BitVec 32 := Scalar.extui v29
  let v31 : BitVec 32 := Scalar.subi v28 v30
  let v32 : BitVec 1 := Scalar.cmpi .ne v26 v31
  let v33 : BitVec 32 := Scalar.remsi v20 c256_i32
  let c0_i32_10 : BitVec 32 := 0#32
  let v34 : BitVec 1 := Scalar.cmpi .ne v33 c0_i32_10
  let v35 : BitVec 1 := Scalar.andi v32 v34
  let c1_i32_11 : BitVec 32 := 1#32
  let v36 : BitVec 32 := Scalar.subi v21 c1_i32_11
  let v37 : BitVec 32 := Scalar.select v35 v36 v21
  let c64_i32_12 : BitVec 32 := 64#32
  let c0_i32_13 : BitVec 32 := 0#32
  let v38 : BitVec 1 := Scalar.cmpi .eq c64_i32_12 c0_i32_13
  let c1_i32_14 : BitVec 32 := 1#32
  let v39 : BitVec 32 := Scalar.select v38 c1_i32_14 c64_i32_12
  let v40 : BitVec 32 := Scalar.remsi arg0 v39
  let c0_i32_15 : BitVec 32 := 0#32
  let v41 : BitVec 1 := Scalar.cmpi .ne v40 c0_i32_15
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let v45 : BitVec 1 := Scalar.andi v44 v41
  let v46 : BitVec 32 := Scalar.addi v40 v39
  let v47 : BitVec 32 := Scalar.select v45 v46 v40
  let v48 : BitVec 32 := Scalar.minsi v47 v37
  let c0_i32_18 : BitVec 32 := 0#32
  let c0_i32_19 : BitVec 32 := 0#32
  ![v16.toNat, v48.toNat, c0_i32_18.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (k0_off1_inb : ∀ i : grid0.Coords, ∀ a, (k0_off1 i) a + S1.size a ≤ S2.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast v16
  let v18 : BitVec 32 := pf.at 0 (Rect.unit (s := S2) ![v17.toNat] S1.size (k0_off1_inb i)) numel1_S1
  let c1_i32_4 : BitVec 32 := 1#32
  let v19 : BitVec 32 := Scalar.subi v18 c1_i32_4
  let c0_i32_5 : BitVec 32 := 0#32
  let v20 : BitVec 32 := Scalar.maxsi v19 c0_i32_5
  let c256_i32 : BitVec 32 := 256#32
  let v21 : BitVec 32 := Scalar.divsi v20 c256_i32
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c0_i32_8 : BitVec 32 := 0#32
  let v27 : BitVec 1 := Scalar.cmpi .sgt c256_i32 c0_i32_8
  let v28 : BitVec 32 := Scalar.extui v27
  let c0_i32_9 : BitVec 32 := 0#32
  let v29 : BitVec 1 := Scalar.cmpi .slt c256_i32 c0_i32_9
  let v30 : BitVec 32 := Scalar.extui v29
  let v31 : BitVec 32 := Scalar.subi v28 v30
  let v32 : BitVec 1 := Scalar.cmpi .ne v26 v31
  let v33 : BitVec 32 := Scalar.remsi v20 c256_i32
  let c0_i32_10 : BitVec 32 := 0#32
  let v34 : BitVec 1 := Scalar.cmpi .ne v33 c0_i32_10
  let v35 : BitVec 1 := Scalar.andi v32 v34
  let c1_i32_11 : BitVec 32 := 1#32
  let v36 : BitVec 32 := Scalar.subi v21 c1_i32_11
  let v37 : BitVec 32 := Scalar.select v35 v36 v21
  let c64_i32_12 : BitVec 32 := 64#32
  let c0_i32_13 : BitVec 32 := 0#32
  let v38 : BitVec 1 := Scalar.cmpi .eq c64_i32_12 c0_i32_13
  let c1_i32_14 : BitVec 32 := 1#32
  let v39 : BitVec 32 := Scalar.select v38 c1_i32_14 c64_i32_12
  let v40 : BitVec 32 := Scalar.remsi arg0 v39
  let c0_i32_15 : BitVec 32 := 0#32
  let v41 : BitVec 1 := Scalar.cmpi .ne v40 c0_i32_15
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let v45 : BitVec 1 := Scalar.andi v44 v41
  let v46 : BitVec 32 := Scalar.addi v40 v39
  let v47 : BitVec 32 := Scalar.select v45 v46 v40
  let v48 : BitVec 32 := Scalar.minsi v47 v37
  let c64_i32_18 : BitVec 32 := 64#32
  let v49 : BitVec 32 := Scalar.muli v16 c64_i32_18
  let v50 : BitVec 32 := Scalar.addi v49 v48
  let c0_i32_19 : BitVec 32 := 0#32
  let c0_i32_20 : BitVec 32 := 0#32
  let c0_i32_21 : BitVec 32 := 0#32
  ![v50.toNat, c0_i32_19.toNat, c0_i32_20.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (k0_off1_inb : ∀ i : grid0.Coords, ∀ a, (k0_off1 i) a + S1.size a ≤ S2.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast v16
  let v18 : BitVec 32 := pf.at 0 (Rect.unit (s := S2) ![v17.toNat] S1.size (k0_off1_inb i)) numel1_S1
  let c1_i32_4 : BitVec 32 := 1#32
  let v19 : BitVec 32 := Scalar.subi v18 c1_i32_4
  let c0_i32_5 : BitVec 32 := 0#32
  let v20 : BitVec 32 := Scalar.maxsi v19 c0_i32_5
  let c256_i32 : BitVec 32 := 256#32
  let v21 : BitVec 32 := Scalar.divsi v20 c256_i32
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c0_i32_8 : BitVec 32 := 0#32
  let v27 : BitVec 1 := Scalar.cmpi .sgt c256_i32 c0_i32_8
  let v28 : BitVec 32 := Scalar.extui v27
  let c0_i32_9 : BitVec 32 := 0#32
  let v29 : BitVec 1 := Scalar.cmpi .slt c256_i32 c0_i32_9
  let v30 : BitVec 32 := Scalar.extui v29
  let v31 : BitVec 32 := Scalar.subi v28 v30
  let v32 : BitVec 1 := Scalar.cmpi .ne v26 v31
  let v33 : BitVec 32 := Scalar.remsi v20 c256_i32
  let c0_i32_10 : BitVec 32 := 0#32
  let v34 : BitVec 1 := Scalar.cmpi .ne v33 c0_i32_10
  let v35 : BitVec 1 := Scalar.andi v32 v34
  let c1_i32_11 : BitVec 32 := 1#32
  let v36 : BitVec 32 := Scalar.subi v21 c1_i32_11
  let v37 : BitVec 32 := Scalar.select v35 v36 v21
  let c64_i32_12 : BitVec 32 := 64#32
  let c0_i32_13 : BitVec 32 := 0#32
  let v38 : BitVec 1 := Scalar.cmpi .eq c64_i32_12 c0_i32_13
  let c1_i32_14 : BitVec 32 := 1#32
  let v39 : BitVec 32 := Scalar.select v38 c1_i32_14 c64_i32_12
  let v40 : BitVec 32 := Scalar.remsi arg0 v39
  let c0_i32_15 : BitVec 32 := 0#32
  let v41 : BitVec 1 := Scalar.cmpi .ne v40 c0_i32_15
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let v45 : BitVec 1 := Scalar.andi v44 v41
  let v46 : BitVec 32 := Scalar.addi v40 v39
  let v47 : BitVec 32 := Scalar.select v45 v46 v40
  let v48 : BitVec 32 := Scalar.minsi v47 v37
  let c0_i32_18 : BitVec 32 := 0#32
  let c0_i32_19 : BitVec 32 := 0#32
  ![v16.toNat, v48.toNat, c0_i32_18.toNat]

def cc0_transform_8 (k0_off1_inb : ∀ i : grid0.Coords, ∀ a, (k0_off1 i) a + S1.size a ≤ S2.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast v16
  let v18 : BitVec 32 := pf.at 0 (Rect.unit (s := S2) ![v17.toNat] S1.size (k0_off1_inb i)) numel1_S1
  let c1_i32_4 : BitVec 32 := 1#32
  let v19 : BitVec 32 := Scalar.subi v18 c1_i32_4
  let c0_i32_5 : BitVec 32 := 0#32
  let v20 : BitVec 32 := Scalar.maxsi v19 c0_i32_5
  let c256_i32 : BitVec 32 := 256#32
  let v21 : BitVec 32 := Scalar.divsi v20 c256_i32
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c0_i32_8 : BitVec 32 := 0#32
  let v27 : BitVec 1 := Scalar.cmpi .sgt c256_i32 c0_i32_8
  let v28 : BitVec 32 := Scalar.extui v27
  let c0_i32_9 : BitVec 32 := 0#32
  let v29 : BitVec 1 := Scalar.cmpi .slt c256_i32 c0_i32_9
  let v30 : BitVec 32 := Scalar.extui v29
  let v31 : BitVec 32 := Scalar.subi v28 v30
  let v32 : BitVec 1 := Scalar.cmpi .ne v26 v31
  let v33 : BitVec 32 := Scalar.remsi v20 c256_i32
  let c0_i32_10 : BitVec 32 := 0#32
  let v34 : BitVec 1 := Scalar.cmpi .ne v33 c0_i32_10
  let v35 : BitVec 1 := Scalar.andi v32 v34
  let c1_i32_11 : BitVec 32 := 1#32
  let v36 : BitVec 32 := Scalar.subi v21 c1_i32_11
  let v37 : BitVec 32 := Scalar.select v35 v36 v21
  let c64_i32_12 : BitVec 32 := 64#32
  let c0_i32_13 : BitVec 32 := 0#32
  let v38 : BitVec 1 := Scalar.cmpi .eq c64_i32_12 c0_i32_13
  let c1_i32_14 : BitVec 32 := 1#32
  let v39 : BitVec 32 := Scalar.select v38 c1_i32_14 c64_i32_12
  let v40 : BitVec 32 := Scalar.remsi arg0 v39
  let c0_i32_15 : BitVec 32 := 0#32
  let v41 : BitVec 1 := Scalar.cmpi .ne v40 c0_i32_15
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let v45 : BitVec 1 := Scalar.andi v44 v41
  let v46 : BitVec 32 := Scalar.addi v40 v39
  let v47 : BitVec 32 := Scalar.select v45 v46 v40
  let v48 : BitVec 32 := Scalar.minsi v47 v37
  let c0_i32_18 : BitVec 32 := 0#32
  let c0_i32_19 : BitVec 32 := 0#32
  ![v16.toNat, v48.toNat, c0_i32_18.toNat]

def cc0_transform_9 (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_10 (i : grid0.Coords) : Fin 4 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_11 (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_12 (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x256x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S5x56 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S576x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x7168 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x2x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x576 .fp8e5m2 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x5 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S2x16384x7168 : Shape := ⟨3, ![2, 16384, 7168]⟩
abbrev S2x16384x56 : Shape := ⟨3, ![2, 16384, 56]⟩
abbrev S576x7168 : Shape := ⟨2, ![576, 7168]⟩
abbrev S5x56 : Shape := ⟨2, ![5, 56]⟩
abbrev S512 : Shape := ⟨1, ![512]⟩
abbrev S2x16384 : Shape := ⟨2, ![2, 16384]⟩
abbrev S2 : Shape := ⟨1, ![2]⟩
abbrev S2x16384x512 : Shape := ⟨3, ![2, 16384, 512]⟩
abbrev S2x16384x64 : Shape := ⟨3, ![2, 16384, 64]⟩
abbrev S5x128x56 : Shape := ⟨3, ![5, 128, 56]⟩
abbrev S640x56 : Shape := ⟨2, ![640, 56]⟩
abbrev S576x56 : Shape := ⟨2, ![576, 56]⟩
abbrev S16384 : Shape := ⟨1, ![16384]⟩
abbrev S1x16384 : Shape := ⟨2, ![1, 16384]⟩
abbrev S2x1 : Shape := ⟨2, ![2, 1]⟩
abbrev S2x16384x1 : Shape := ⟨3, ![2, 16384, 1]⟩
abbrev S32 : Shape := ⟨1, ![32]⟩
abbrev S_ : Shape := ⟨0, ![]⟩
abbrev S1x1x32 : Shape := ⟨3, ![1, 1, 32]⟩
abbrev S2x16384x32 : Shape := ⟨3, ![2, 16384, 32]⟩
abbrev S2x16384x32x2 : Shape := ⟨4, ![2, 16384, 32, 2]⟩
abbrev S2x16384x32x1 : Shape := ⟨4, ![2, 16384, 32, 1]⟩
abbrev S2x64x2x512 : Shape := ⟨4, ![2, 64, 2, 512]⟩
abbrev S2x16384x576 : Shape := ⟨3, ![2, 16384, 576]⟩
abbrev S2x16384x5 : Shape := ⟨3, ![2, 16384, 5]⟩
abbrev S576x56x128 : Shape := ⟨3, ![576, 56, 128]⟩
abbrev S576x56x1 : Shape := ⟨3, ![576, 56, 1]⟩
abbrev S32768x56x128 : Shape := ⟨3, ![32768, 56, 128]⟩
abbrev S32768x56 : Shape := ⟨2, ![32768, 56]⟩
abbrev S32768x56x1 : Shape := ⟨3, ![32768, 56, 1]⟩
abbrev S32768x7168 : Shape := ⟨2, ![32768, 7168]⟩
abbrev S512x7168 : Shape := ⟨2, ![512, 7168]⟩
abbrev S32768x512 : Shape := ⟨2, ![32768, 512]⟩
abbrev S2x64x2x128x512 : Shape := ⟨5, ![2, 64, 2, 128, 512]⟩
abbrev S1x1x512 : Shape := ⟨3, ![1, 1, 512]⟩
abbrev S2x16384x4x128 : Shape := ⟨4, ![2, 16384, 4, 128]⟩
abbrev S2x16384x4 : Shape := ⟨3, ![2, 16384, 4]⟩
abbrev S2x16384x5x1 : Shape := ⟨4, ![2, 16384, 5, 1]⟩
abbrev S1x1x1x253 : Shape := ⟨4, ![1, 1, 1, 253]⟩
abbrev S2x16384x5x253 : Shape := ⟨4, ![2, 16384, 5, 253]⟩
abbrev S2x16384x128 : Shape := ⟨3, ![2, 16384, 128]⟩
abbrev S32768x576 : Shape := ⟨2, ![32768, 576]⟩

abbrev nBuf : Space → Nat
  | .hbm => 69
  | .vmem => 12
  | .smem => 0
  | _ => 0

abbrev bufTy : (tb : Table) → Fin (tcTables nBuf tb) → BufTy
  | .hbm, ⟨0, _⟩ => ⟨S2x16384x7168, .fp8e4m3⟩
  | .hbm, ⟨1, _⟩ => ⟨S2x16384x56, .f32⟩
  | .hbm, ⟨2, _⟩ => ⟨S576x7168, .fp8e4m3⟩
  | .hbm, ⟨3, _⟩ => ⟨S5x56, .f32⟩
  | .hbm, ⟨4, _⟩ => ⟨S512, .f32⟩
  | .hbm, ⟨5, _⟩ => ⟨S2x16384, .i32⟩
  | .hbm, ⟨6, _⟩ => ⟨S2, .i32⟩
  | .hbm, ⟨7, _⟩ => ⟨S2x16384x512, .bf16⟩
  | .hbm, ⟨8, _⟩ => ⟨S2x16384x64, .bf16⟩
  | .hbm, ⟨9, _⟩ => ⟨S5x128x56, .f32⟩
  | .hbm, ⟨10, _⟩ => ⟨S640x56, .f32⟩
  | .hbm, ⟨11, _⟩ => ⟨S576x56, .f32⟩
  | .hbm, ⟨12, _⟩ => ⟨S576x56, .bf16⟩
  | .hbm, ⟨13, _⟩ => ⟨S16384, .i32⟩
  | .hbm, ⟨14, _⟩ => ⟨S1x16384, .i32⟩
  | .hbm, ⟨15, _⟩ => ⟨S2x1, .i32⟩
  | .hbm, ⟨16, _⟩ => ⟨S2x16384, .i32⟩
  | .hbm, ⟨17, _⟩ => ⟨S2x16384, .i32⟩
  | .hbm, ⟨18, _⟩ => ⟨S2x16384, .i1⟩
  | .hbm, ⟨19, _⟩ => ⟨S2x16384, .f32⟩
  | .hbm, ⟨20, _⟩ => ⟨S2x16384x1, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S2x16384, .f32⟩
  | .hbm, ⟨38, _⟩ => ⟨S2x16384x1, .f32⟩
  | .hbm, ⟨39, _⟩ => ⟨S1x1x32, .f32⟩
  | .hbm, ⟨40, _⟩ => ⟨S2x16384x32, .f32⟩
  | .hbm, ⟨41, _⟩ => ⟨S2x16384x32, .f32⟩
  | .hbm, ⟨42, _⟩ => ⟨S2x16384x32, .f32⟩
  | .hbm, ⟨43, _⟩ => ⟨S2x16384x32, .f32⟩
  | .hbm, ⟨44, _⟩ => ⟨S2x16384x32, .f32⟩
  | .hbm, ⟨45, _⟩ => ⟨S2x16384x64, .f32⟩
  | .hbm, ⟨46, _⟩ => ⟨S2x16384x64, .f32⟩
  | .hbm, ⟨47, _⟩ => ⟨S2x16384x64, .f32⟩
  | .hbm, ⟨48, _⟩ => ⟨S2x16384x32x2, .f32⟩
  | .hbm, ⟨49, _⟩ => ⟨S2x16384x32x1, .f32⟩
  | .hbm, ⟨50, _⟩ => ⟨S2x16384x32, .f32⟩
  | .hbm, ⟨51, _⟩ => ⟨S2x16384x32x1, .f32⟩
  | .hbm, ⟨52, _⟩ => ⟨S2x16384x32, .f32⟩
  | .hbm, ⟨53, _⟩ => ⟨S2x16384x32, .f32⟩
  | .hbm, ⟨54, _⟩ => ⟨S2x16384x32, .f32⟩
  | .hbm, ⟨55, _⟩ => ⟨S2x16384x32, .f32⟩
  | .hbm, ⟨56, _⟩ => ⟨S2x16384x32, .f32⟩
  | .hbm, ⟨57, _⟩ => ⟨S2x16384x32, .f32⟩
  | .hbm, ⟨58, _⟩ => ⟨S2x16384x32, .f32⟩
  | .hbm, ⟨59, _⟩ => ⟨S2x16384x32, .f32⟩
  | .hbm, ⟨60, _⟩ => ⟨S2x16384x32x1, .f32⟩
  | .hbm, ⟨61, _⟩ => ⟨S2x16384x32x1, .f32⟩
  | .hbm, ⟨62, _⟩ => ⟨S2x16384x32x2, .f32⟩
  | .hbm, ⟨63, _⟩ => ⟨S2x16384x64, .f32⟩
  | .hbm, ⟨64, _⟩ => ⟨S2x16384x56, .bf16⟩
  | .hbm, ⟨65, _⟩ => ⟨S2x16384x7168, .bf16⟩
  | .hbm, ⟨66, _⟩ => ⟨S2x64x2x512, .f32⟩
  | .hbm, ⟨67, _⟩ => ⟨S2x16384x576, .fp8e5m2⟩
  | .hbm, ⟨68, _⟩ => ⟨S2x16384x5, .f32⟩
  | .local _ .vmem, ⟨0, _⟩ => ⟨S2x16384x7168, .fp8e4m3⟩
  | .local _ .vmem, ⟨1, _⟩ => ⟨S2x16384x56, .bf16⟩
  | .local _ .vmem, ⟨2, _⟩ => ⟨S576x7168, .fp8e4m3⟩
  | .local _ .vmem, ⟨3, _⟩ => ⟨S576x56, .bf16⟩
  | .local _ .vmem, ⟨4, _⟩ => ⟨S2x16384x512, .bf16⟩
  | .local _ .vmem, ⟨5, _⟩ => ⟨S2x16384x1, .f32⟩
  | .local _ .vmem, ⟨6, _⟩ => ⟨S512, .f32⟩
  | .local _ .vmem, ⟨7, _⟩ => ⟨S2x16384x64, .f32⟩
  | .local _ .vmem, ⟨8, _⟩ => ⟨S2x16384x7168, .bf16⟩
  | .local _ .vmem, ⟨9, _⟩ => ⟨S2x64x2x512, .f32⟩
  | .local _ .vmem, ⟨10, _⟩ => ⟨S2x16384x576, .fp8e5m2⟩
  | .local _ .vmem, ⟨11, _⟩ => ⟨S2x16384x5, .f32⟩
  | _, _ => ⟨S2x16384x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51_0 : Ref sig .tc := ⟨.hbm, 65, rfl⟩
abbrev main_v51_1 : Ref sig .tc := ⟨.hbm, 66, rfl⟩
abbrev main_v51_2 : Ref sig .tc := ⟨.hbm, 67, rfl⟩
abbrev main_v51_3 : Ref sig .tc := ⟨.hbm, 68, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S2x16384x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x16384x56 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S576x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S576x56 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x16384x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x16384x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x16384x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x16384x7168 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x64x2x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x16384x576 .fp8e5m2 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x16384x5 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.K.Words.lean ====
/- The integer words of the kernel in closed form: which rows a grid point's tile holds, which branch the
   body takes there, and which block each index map that reads the sequence lengths points at. -/
module

public import proofs.«01_k».proof.Proof.Gen.Kernel.Launch
public import proofs.«01_k».proof.Proof.Gen.Kernel.Skeleton
public import Idealize.ShloMosaic.Lib.WordCmp

@[expose] public section

set_option maxRecDepth 16384

noncomputable section

namespace Cert.Kernel.Hand

open Idealize.ShloMosaic Idealize.ShloMosaic.TcCoe Cert.Kernel.Gen

variable {F : FTy → Type} [FloatOps F]

/-- The grid coordinate is below 128. -/
theorem coord_lt (i : grid0.Coords) : (i 0).val < 128 := (i 0).isLt

/-- The number of the tile in its sequence, as the kernel computes it. -/
def tileW (n : ℕ) : BitVec 32 :=
  Scalar.select (Scalar.andi (Scalar.xori (Scalar.cmpi .slt (Scalar.remsi (BitVec.ofNat 32 n) (Scalar.select (Scalar.cmpi .eq 64#32 0#32) 1#32 64#32)) 0#32) (Scalar.cmpi .slt (Scalar.select (Scalar.cmpi .eq 64#32 0#32) 1#32 64#32) 0#32)) (Scalar.cmpi .ne (Scalar.remsi (BitVec.ofNat 32 n) (Scalar.select (Scalar.cmpi .eq 64#32 0#32) 1#32 64#32)) 0#32)) (Scalar.addi (Scalar.remsi (BitVec.ofNat 32 n) (Scalar.select (Scalar.cmpi .eq 64#32 0#32) 1#32 64#32)) (Scalar.select (Scalar.cmpi .eq 64#32 0#32) 1#32 64#32)) (Scalar.remsi (BitVec.ofNat 32 n) (Scalar.select (Scalar.cmpi .eq 64#32 0#32) 1#32 64#32))

/-- The number of the sequence, as the kernel computes it. -/
def seqW (n : ℕ) : BitVec 32 :=
  Scalar.select (Scalar.andi (Scalar.cmpi .ne (Scalar.subi (Scalar.extui (Scalar.cmpi .sgt (BitVec.ofNat 32 n) 0#32)) (Scalar.extui (Scalar.cmpi .slt (BitVec.ofNat 32 n) 0#32))) (Scalar.subi (Scalar.extui (Scalar.cmpi .sgt 64#32 0#32)) (Scalar.extui (Scalar.cmpi .slt 64#32 0#32)))) (Scalar.cmpi .ne (Scalar.remsi (BitVec.ofNat 32 n) 64#32) 0#32)) (Scalar.subi (Scalar.divsi (BitVec.ofNat 32 n) 64#32) 1#32) (Scalar.divsi (BitVec.ofNat 32 n) 64#32)

/-- The number of the last tile with a valid row, as the index maps compute it from the length `x`. -/
def lastW (x : BitVec 32) : BitVec 32 :=
  let y : BitVec 32 := Scalar.maxsi (Scalar.subi x 1#32) 0#32
  Scalar.select (Scalar.andi (Scalar.cmpi .ne (Scalar.subi (Scalar.extui (Scalar.cmpi .sgt y 0#32)) (Scalar.extui (Scalar.cmpi .slt y 0#32))) (Scalar.subi (Scalar.extui (Scalar.cmpi .sgt 256#32 0#32)) (Scalar.extui (Scalar.cmpi .slt 256#32 0#32)))) (Scalar.cmpi .ne (Scalar.remsi y 256#32) 0#32)) (Scalar.subi (Scalar.divsi y 256#32) 1#32) (Scalar.divsi y 256#32)

theorem tileW_eq (n : ℕ) (h : n < 128) : tileW n = BitVec.ofNat 32 (n % 64) :=
  (by decide +kernel : ∀ k : Fin 128, tileW k.val = BitVec.ofNat 32 (k.val % 64)) ⟨n, h⟩

theorem seqW_eq (n : ℕ) (h : n < 128) : seqW n = BitVec.ofNat 32 (n / 64) :=
  (by decide +kernel : ∀ k : Fin 128, seqW k.val = BitVec.ofNat 32 (k.val / 64)) ⟨n, h⟩

/-- Division of a natural word by 256. -/
theorem divsi_256 (n : ℕ) (h : n < 2147483648) : Scalar.divsi (BitVec.ofNat 32 n) 256#32 = BitVec.ofNat 32 (n / 256) := by
  have hc : ¬ IntOp.SDivCorner (BitVec.ofNat 32 n) 256#32 := by
    unfold IntOp.SDivCorner; rintro (h | ⟨-, h⟩) <;> exact absurd h (by decide)
  simp only [Scalar.divsi, IntOp.divsi]
  rw [if_neg hc]
  have e : (BitVec.ofNat 32 n).msb = false := by
    rw [BitVec.msb_eq_false_iff_two_mul_lt, BitVec.toNat_ofNat]; omega
  rw [BitVec.sdiv_eq, e, show (256#32 : BitVec 32).msb = false from by decide]
  apply BitVec.eq_of_toNat_eq
  show (BitVec.udiv (BitVec.ofNat 32 n) 256#32).toNat = _
  rw [BitVec.udiv_eq, BitVec.toNat_udiv, BitVec.toNat_ofNat, BitVec.toNat_ofNat, BitVec.toNat_ofNat,
    Nat.mod_eq_of_lt (show n < 2 ^ 32 by omega), Nat.mod_eq_of_lt (show 256 < 2 ^ 32 by omega), Nat.mod_eq_of_lt (show n / 256 < 2 ^ 32 by omega)]

theorem lastW_eq (x : BitVec 32) : lastW x = BitVec.ofNat 32 ((x - 1#32).toInt.toNat / 256) := by
  have hy : Scalar.maxsi (Scalar.subi x 1#32) 0#32 = BitVec.ofNat 32 (x - 1#32).toInt.toNat := by
    have key : ∀ z : BitVec 32, (if (0#32 : BitVec 32).slt z = true then z else 0#32) = BitVec.ofNat 32 z.toInt.toNat := by
      intro z
      by_cases hz : (0#32 : BitVec 32).slt z = true
      · rw [if_pos hz]
        rw [BitVec.slt_iff_toInt_lt] at hz
        apply BitVec.eq_of_toInt_eq
        have h2 := z.toInt_lt
        have h0 : (0#32 : BitVec 32).toInt = 0 := by decide
        rw [WordCmp.toInt_ofNat_of_lt (by omega)]
        omega
      · rw [if_neg hz]
        rw [BitVec.slt_iff_toInt_lt] at hz
        have h0 : (0#32 : BitVec 32).toInt = 0 := by decide
        rw [show z.toInt.toNat = 0 by omega]
    exact key (x - 1#32)
  unfold lastW
  rw [hy]
  have hb := (x - 1#32).toInt_lt
  generalize hn : (x - 1#32).toInt.toNat = n
  have hlt : n < 2147483648 := by omega
  dsimp only
  rw [divsi_256 n hlt]
  have e1 : Scalar.cmpi .slt (BitVec.ofNat 32 n) 0#32 = 0#1 := by
    simp only [Scalar.cmpi, IntOp.cmpi, BitVec.slt, WordCmp.toInt_ofNat_of_lt (w := 32) (a := n) (by omega)]
    rw [show (0#32 : BitVec 32).toInt = 0 from by decide, decide_eq_false (by omega)]; rfl
  rw [e1]
  by_cases h0 : n = 0
  · subst h0; decide
  · have e2 : Scalar.cmpi .sgt (BitVec.ofNat 32 n) 0#32 = 1#1 := by
      simp only [Scalar.cmpi, IntOp.cmpi, BitVec.slt, WordCmp.toInt_ofNat_of_lt (w := 32) (a := n) (by omega)]
      rw [show (0#32 : BitVec 32).toInt = 0 from by decide, decide_eq_true (by omega)]; rfl
    rw [e2]
    have e3 : ∀ b : BitVec 1, Scalar.andi (Scalar.cmpi .ne (Scalar.subi (Scalar.extui 1#1) (Scalar.extui 0#1)) (Scalar.subi (Scalar.extui (Scalar.cmpi .sgt 256#32 0#32)) (Scalar.extui (Scalar.cmpi .slt 256#32 0#32)))) b = 0#1 := by decide
    rw [e3]
    rfl

/-- The number of the tile whose rows the input windows hold at point `n` under the length `x`. -/
def tin (n : ℕ) (x : BitVec 32) : ℕ := min (n % 64) ((x - 1#32).toInt.toNat / 256)

theorem minW_eq (n : ℕ) (h : n < 128) (x : BitVec 32) :
    (Scalar.minsi (tileW n) (lastW x)).toNat = tin n x := by
  rw [tileW_eq n h, lastW_eq]
  have hb := (x - 1#32).toInt_lt
  unfold tin
  generalize hm : (x - 1#32).toInt.toNat / 256 = k
  have hk : k < 8388608 := by omega
  simp only [Scalar.minsi, IntOp.minsi, BitVec.slt, WordCmp.toInt_ofNat_of_lt (w := 32) (a := n % 64) (by omega),
    WordCmp.toInt_ofNat_of_lt (w := 32) (a := k) (by omega)]
  split <;> rename_i hc <;> simp only [decide_eq_true_eq] at hc <;> rw [BitVec.toNat_ofNat] <;> omega

theorem seqW_toNat (n : ℕ) (h : n < 128) : (seqW n).toNat = n / 64 := by
  rw [seqW_eq n h, BitVec.toNat_ofNat]; omega

theorem tileW_toNat (n : ℕ) (h : n < 128) : (tileW n).toNat = n % 64 := by
  rw [tileW_eq n h, BitVec.toNat_ofNat]; omega

/-- The length word of the sequence that point `i` works on. -/
def lenAt (pf : pre0.Contents (Elt F)) (i : grid0.Coords) : BitVec 32 :=
  pf.at 0 (Rect.unit (s := S2) (k0_off1 i) S1.size (k0_off1_inb i)) numel1_S1

theorem transform_0 (pf : pre0.Contents (Elt F)) (i : grid0.Coords) :
    cc0_transform_0 k0_off1_inb numel1_S1 pf i = ![(i 0).val / 64, tin (i 0).val (lenAt pf i), 0] := by
  have h := coord_lt i
  rw [← seqW_toNat _ h, ← minW_eq _ h]; rfl

theorem transform_1 (pf : pre0.Contents (Elt F)) (i : grid0.Coords) :
    cc0_transform_1 k0_off1_inb numel1_S1 pf i = ![(i 0).val / 64, tin (i 0).val (lenAt pf i), 0] := by
  have h := coord_lt i
  rw [← seqW_toNat _ h, ← minW_eq _ h]; rfl

theorem transform_7 (pf : pre0.Contents (Elt F)) (i : grid0.Coords) :
    cc0_transform_7 k0_off1_inb numel1_S1 pf i = ![(i 0).val / 64, tin (i 0).val (lenAt pf i), 0] := by
  have h := coord_lt i
  rw [← seqW_toNat _ h, ← minW_eq _ h]; rfl

theorem transform_8 (pf : pre0.Contents (Elt F)) (i : grid0.Coords) :
    cc0_transform_8 k0_off1_inb numel1_S1 pf i = ![(i 0).val / 64, tin (i 0).val (lenAt pf i), 0] := by
  have h := coord_lt i
  rw [← seqW_toNat _ h, ← minW_eq _ h]; rfl

theorem transform_5 (pf : pre0.Contents (Elt F)) (i : grid0.Coords) :
    cc0_transform_5 k0_off1_inb numel1_S1 pf i = ![64 * ((i 0).val / 64) + tin (i 0).val (lenAt pf i), 0, 0] := by
  have h := coord_lt i
  have e : cc0_transform_5 k0_off1_inb numel1_S1 pf i = ![(Scalar.addi (Scalar.muli (seqW (i 0).val) 64#32) (Scalar.minsi (tileW (i 0).val) (lastW (lenAt pf i)))).toNat, 0, 0] := rfl
  rw [e]
  have h1 := seqW_toNat _ h
  have h2 := minW_eq _ h (lenAt pf i)
  have h3 : tin (i 0).val (lenAt pf i) < 64 := by unfold tin; omega
  congr 1
  simp only [Scalar.addi, IntOp.addi, Scalar.muli, IntOp.muli, BitVec.toNat_add, BitVec.toNat_mul, h1, h2, BitVec.toNat_ofNat]
  omega

theorem transform_9 (i : grid0.Coords) : cc0_transform_9 i = ![(i 0).val / 64, (i 0).val % 64, 0] := by
  have h := coord_lt i
  rw [← seqW_toNat _ h, ← tileW_toNat _ h]; rfl
theorem transform_10 (i : grid0.Coords) : cc0_transform_10 i = ![(i 0).val / 64, (i 0).val % 64, 0, 0] := by
  have h := coord_lt i
  rw [← seqW_toNat _ h, ← tileW_toNat _ h]; rfl
theorem transform_11 (i : grid0.Coords) : cc0_transform_11 i = ![(i 0).val / 64, (i 0).val % 64, 0] := by
  have h := coord_lt i
  rw [← seqW_toNat _ h, ← tileW_toNat _ h]; rfl
theorem transform_12 (i : grid0.Coords) : cc0_transform_12 i = ![(i 0).val / 64, (i 0).val % 64, 0] := by
  have h := coord_lt i
  rw [← seqW_toNat _ h, ← tileW_toNat _ h]; rfl

/-- The number of valid rows of the tile, as a word: the length less the tile's first row. -/
def nValid (i : grid0.Coords) (v : BitVec 32) : BitVec 32 := v - BitVec.ofNat 32 (256 * ((i 0).val % 64))

theorem nValid_eq (i : grid0.Coords) (v : BitVec 32) : nValid i v = Scalar.subi v (Scalar.muli (tileW (i 0).val) 256#32) := by
  rw [tileW_eq _ (coord_lt i)]
  unfold nValid
  simp only [Scalar.subi, IntOp.subi, Scalar.muli, IntOp.muli]
  congr 1
  apply BitVec.eq_of_toNat_eq
  simp only [BitVec.toNat_mul, BitVec.toNat_ofNat]
  omega

theorem k0_cond3_iff (i : grid0.Coords) (v : BitVec 32) : k0_cond3 i v = 1#1 ↔ 0 < (nValid i v).toInt := by
  have e : k0_cond3 i v = Scalar.cmpi .ne (Scalar.extui (Scalar.cmpi .sgt (nValid i v) 0#32)) 0#32 := by
    rw [nValid_eq]; rfl
  rw [e]
  have : ∀ b : Bool, Scalar.cmpi .ne (Scalar.extui (BitVec.ofBool b)) 0#32 = 1#1 ↔ b = true := by decide
  simp only [Scalar.cmpi, IntOp.cmpi] at this ⊢
  rw [this, BitVec.slt_iff_toInt_lt]; rfl

theorem k0_cond2_iff (i : grid0.Coords) (v : BitVec 32) : k0_cond2 i v = 1#1 ↔ ¬ 0 < (nValid i v).toInt := by
  have e : k0_cond2 i v = Scalar.cmpi .ne (Scalar.extui (Scalar.cmpi .sle (nValid i v) 0#32)) 0#32 := by
    rw [nValid_eq]; rfl
  rw [e]
  have : ∀ b : Bool, Scalar.cmpi .ne (Scalar.extui (BitVec.ofBool b)) 0#32 = 1#1 ↔ b = true := by decide
  simp only [Scalar.cmpi, IntOp.cmpi] at this ⊢
  rw [this, BitVec.sle_iff_toInt_le, show (0#32 : BitVec 32).toInt = 0 from rfl]; omega

/-- The body pads exactly where it does not work on tokens. -/
theorem cond2_iff_not_cond3 (i : grid0.Coords) (v : BitVec 32) : k0_cond2 i v = 1#1 ↔ ¬ k0_cond3 i v = 1#1 := by
  rw [k0_cond2_iff, k0_cond3_iff]

/-- The first point, and no other, widens the weight. -/
theorem k0_cond1_iff (i : grid0.Coords) : k0_cond1 i = 1#1 ↔ (i 0).val = 0 := by
  have h := coord_lt i
  have e : k0_cond1 i = Scalar.cmpi .ne (Scalar.extui (Scalar.cmpi .eq (BitVec.ofNat 32 (i 0).val) 0#32)) 0#32 := rfl
  rw [e]
  exact (by decide +kernel : ∀ k : Fin 128, Scalar.cmpi .ne (Scalar.extui (Scalar.cmpi .eq (BitVec.ofNat 32 k.val) 0#32)) 0#32 = 1#1 ↔ k.val = 0) ⟨_, h⟩

/-- Every block the index maps point at lies inside its array, whatever the lengths. -/
theorem ok (pf : pre0.Contents (Elt F)) : ok0 pf := by
  have ht : ∀ i, tin (i 0).val (lenAt pf i) < 64 := fun i => by unfold tin; omega
  have hb : ∀ i : grid0.Coords, (i 0).val / 64 < 2 := fun i => by have := coord_lt i; omega
  unfold ok0
  refine ⟨fun i => ?_, fun i => ?_, fun i => ?_, fun i => ?_, fun i => ?_⟩
  · have h : (∀ a, (cc0_transform_0 k0_off1_inb numel1_S1 pf i a + 1) * S1x256x7168.size a ≤ S2x16384x7168.size a) := by
      rw [transform_0]; intro a; have := ht i; have := hb i
      fin_cases a <;> simp [Shape.size] <;> omega
    exact ⟨h, .inr (Affine.block_words_dvd (of_decide_eq_true rfl) (by decide))⟩
  · have h : (∀ a, (cc0_transform_1 k0_off1_inb numel1_S1 pf i a + 1) * S1x256x56.size a ≤ S2x16384x56.size a) := by
      rw [transform_1]; intro a; have := ht i; have := hb i
      fin_cases a <;> simp [Shape.size] <;> omega
    exact ⟨h, .inr (Affine.block_words_dvd (of_decide_eq_true rfl) (by decide))⟩
  · have h : (∀ a, (cc0_transform_5 k0_off1_inb numel1_S1 pf i a + 1) * S1x1x256.size a ≤ S128x1x256.size a) := by
      rw [transform_5]; intro a; have := ht i; have := hb i
      fin_cases a <;> simp [Shape.size] <;> omega
    exact ⟨h, .inr (Affine.block_words_dvd (of_decide_eq_true rfl) (by decide))⟩
  · have h : (∀ a, (cc0_transform_7 k0_off1_inb numel1_S1 pf i a + 1) * S1x256x512.size a ≤ S2x16384x512.size a) := by
      rw [transform_7]; intro a; have := ht i; have := hb i
      fin_cases a <;> simp [Shape.size] <;> omega
    exact ⟨h, .inr (Affine.block_words_dvd (of_decide_eq_true rfl) (by decide))⟩
  · have h : (∀ a, (cc0_transform_8 k0_off1_inb numel1_S1 pf i a + 1) * S1x256x64.size a ≤ S2x16384x64.size a) := by
      rw [transform_8]; intro a; have := ht i; have := hb i
      fin_cases a <;> simp [Shape.size] <;> omega
    exact ⟨h, .inr (Affine.block_words_dvd (of_decide_eq_true rfl) (by decide))⟩

end Cert.Kernel.Hand

end
-- ==== Proof.K.Setup.lean ====
/- What the runs of the kernel's body share: the buffers as the region finds them, the length table, each
   window's block at a grid point, and the staging and scratch memrefs the body is called with. -/
module

public import proofs.«01_k».proof.Proof.Gen.Kernel.Launch
public import proofs.«01_k».proof.Proof.Gen.Kernel.Skeleton
public import proofs.«01_k».proof.Proof.Gen.Kernel.Loops
public import proofs.«01_k».proof.Proof.K.Words
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes an argument: the region finds each as launched. -/
theorem V_arg (c : Dev nD) (b : Ref sig .tc) (hb : b ∈ ([main_arg0, main_arg1, main_arg2, main_arg3, main_arg4, main_arg5, main_arg6, main_arg7, main_arg8] : List (Ref sig .tc))) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by rintro rfl; revert hb; decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; `adm_ok` proves it for every contents. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2 .i32 := Memref.whole main_arg6
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The side condition holds at every launch. -/
theorem adm_ok : Ok m := ok _

/-! An input window's current staging buffer holds its block at every point, fetched there or not, for any proof data whose
    array is `V`'s and whose body leaves the block in place. -/

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, spelled as the pipeline passes it (`bodyAt0`), and its wholeness. -/
abbrev ms0_0 (hO : Ok m) (t : Fin (cfgM m hO).N) : Memref sig .tc .vmem S1x256x7168 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x256x56 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .smem S5x56 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S576x7168 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x512 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x256 .i32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S64x1 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x256x512 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x256x64 .bf16 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x256x7168 .bf16 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x1x2x512 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x256x576 .fp8e5m2 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x256x5 .f32 := spec0_12.stage ((cfgM m hO).slots t 12)
abbrev hs0_12 (hO : Ok m) (t : Fin (cfgM m hO).N) : (ms0_12 m hO t).IsWhole := hstage0_12 (((cfgM m hO).slots t 12).cast nbuf0_12)
/-- The scratch operands: whole scoped buffers of the kernel's own, passed beside the windows. -/
abbrev scM0_0 : Memref sig .tc .vmem S576x7168 .bf16 := Memref.whole cc0_scratch0
abbrev scM0_1 : Memref sig .tc .vmem S256x7168 .bf16 := Memref.whole cc0_scratch1
abbrev scM0_2 : Memref sig .tc .vmem S256x576 .bf16 := Memref.whole cc0_scratch2
/-- The scratch `arg15` the kernel carries between points, as a view: what it holds is stated through it. -/
abbrev VS0_0 : View sig .tc .vmem S576x7168 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- Window 9 (result 0 (%16#0)) is written back at every point, at any contents of the tables (its index map reads none). -/
theorem flush0_9 (a : (pcfg0 (F := F)).Adm) : ∀ t : Fin (cfg0 a).N, ((cfg0 a).win 9).flush t = true :=
  (by decide +kernel : ∀ t : Fin grid0.N, Pipeline.Window.flushOf grid0 true cc0_transform_9 t = true)
/-- Window 10 (result 1 (%16#1)) is written back at every point, at any contents of the tables (its index map reads none). -/
theorem flush0_10 (a : (pcfg0 (F := F)).Adm) : ∀ t : Fin (cfg0 a).N, ((cfg0 a).win 10).flush t = true :=
  (by decide +kernel : ∀ t : Fin grid0.N, Pipeline.Window.flushOf grid0 true cc0_transform_10 t = true)
/-- Window 11 (result 2 (%16#2)) is written back at every point, at any contents of the tables (its index map reads none). -/
theorem flush0_11 (a : (pcfg0 (F := F)).Adm) : ∀ t : Fin (cfg0 a).N, ((cfg0 a).win 11).flush t = true :=
  (by decide +kernel : ∀ t : Fin grid0.N, Pipeline.Window.flushOf grid0 true cc0_transform_11 t = true)
/-- Window 12 (result 3 (%16#3)) is written back at every point, at any contents of the tables (its index map reads none). -/
theorem flush0_12 (a : (pcfg0 (F := F)).Adm) : ∀ t : Fin (cfg0 a).N, ((cfg0 a).win 12).flush t = true :=
  (by decide +kernel : ∀ t : Fin grid0.N, Pipeline.Window.flushOf grid0 true cc0_transform_12 t = true)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_kv_down_bwd (grid0.coords t) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (Memref.whole cc0_scratch0) (Memref.isWhole_whole _) (Memref.whole cc0_scratch1) (Memref.isWhole_whole _) (Memref.whole cc0_scratch2) (Memref.isWhole_whole _)

end Cert.Kernel.Hand

end
-- ==== Proof.K.Tok.lean ====
/- The body's work on tokens: its run on any staging memrefs. -/
module

public import proofs.«01_k».proof.Proof.K.Setup

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

/-- What the body does at a point that has tokens, `v30` of them or more. -/
noncomputable def tokens (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (v30 : BitVec 32) :
    Prog (TpuEff nD τ sig (Elt F) Λ₀ .tc) PUnit := do
  let v943 : FVec F S256x64 .bf16 ← k0_part24 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30
  let v944 : Vec F S256x64 .bf16 ← Prog.lift (.load arg17 (Rect.unit (s := S256x576) ![0, 512] S256x64.size inb_S256x576_S256x64_0_512).toLoadRect (View.loadsAt_vmem h_S256x64))
  Prog.lift (.store arg17 (Rect.unit (s := S256x576) ![0, 512] S256x64.size inb_S256x576_S256x64_0_512) (k0_pay1 v943) Finset.univ (View.stores_vmem h_S256x64 (harg17.storeExact_slice rfl _ packedbf16_S256x576_S256x64_0_512) (fun _ => rfl)) (.inl rfl))
  let v947 : Vec F S256x576 .bf16 ← Prog.lift (.load arg17 (Rect.unit (s := S256x576) ![0, 0] S256x576.size inb_S256x576_S256x576_0_0).toLoadRect (View.loadsAt_vmem h_S256x576))
  let v948 : Vec F S576x7168 .bf16 ← Prog.lift (.load arg15 (Rect.unit (s := S576x7168) ![0, 0] S576x7168.size inb_S576x7168_S576x7168_0_0).toLoadRect (View.loadsAt_vmem h_S576x7168))
  let v951 : Vec F S1x256x7168 .bf16 ← Prog.lift (.load arg11 (Rect.unit (s := S1x256x7168) ![0, 0, 0] S1x256x7168.size inb_S1x256x7168_S1x256x7168_0_0_0).toLoadRect (View.loadsAt_vmem h_S1x256x7168))
  Prog.lift (.store arg11 (Rect.unit (s := S1x256x7168) ![0, 0, 0] S1x256x7168.size inb_S1x256x7168_S1x256x7168_0_0_0) (k0_pay2 v947 v948) Finset.univ (View.stores_vmem h_S1x256x7168 (harg11.storeExact_slice rfl _ packedbf16_S1x256x7168_S1x256x7168_0_0_0) (fun _ => rfl)) (.inl rfl))
  pure ⟨⟩

/-- The whole body: the first part, then the tokens where there are any. -/
theorem body_split (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) :
    cc0_kv_down_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = (k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 >>= fun r =>
      (if h : k0_cond3 i r.1 = 1#1 then tokens i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 r.2.1 else pure PUnit.unit) >>= fun _ => pure PUnit.unit) := by
  rw [cc0_kv_down_bwd_eq_skeleton]
  unfold cc0_kv_down_bwd_skel tokens
  refine congrArg (Bind.bind _) (funext fun r => ?_)
  obtain ⟨a, b, d⟩ := r
  dsimp only
  split_ifs <;> rfl

set_option maxHeartbeats 4000000 in
/-- THE TOKENS: the pieces the body's stores leave in each output, found by the run. -/
noncomputable def tokRun (c : Dev nD) (v30 : BitVec 32) (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole)
    (x0 : Vec F S1x256x7168 .fp8e4m3) (x1 : Vec F S1x256x56 .f32) (x4 : Vec F S1x512 .f32) (x5 : Vec F S1x1x256 .i32) (x6 : Vec F S64x1 .f32) (x7 : Vec F S1x256x512 .bf16) (x8 : Vec F S1x256x64 .bf16) (W : Vec F S576x7168 .bf16) :
    { L : List (View.Piece (Elt F) S1x256x7168 .bf16) × List (View.Piece (Elt F) S1x1x2x512 .f32) × List (View.Piece (Elt F) S1x256x576 .fp8e5m2) × List (View.Piece (Elt F) S1x256x5 .f32) //
      ∀ (E : Set ℕ) (K : PUnit → sProp 𝕄),
        iprop(owns (c : Thread nD τ) arg2 fullShare x0 ∗ owns (c : Thread nD τ) arg3 fullShare x1 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare W ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L.1) ∗ (∃ f, arg12.view.loc (c : Thread nD τ) ↦[arg12.view.set]{fullShare} arg12.view.writes (Elt F) f L.2.1) ∗ (∃ f, arg13.view.loc (c : Thread nD τ) ↦[arg13.view.set]{fullShare} arg13.view.writes (Elt F) f L.2.2.1) ∗ (∃ f, arg14.view.loc (c : Thread nD τ) ↦[arg14.view.set]{fullShare} arg14.view.writes (Elt F) f L.2.2.2) ∗ owns (c : Thread nD τ) arg15 fullShare W ∗ (∃ d, owns (c : Thread nD τ) arg16 fullShare d) ∗ (∃ d, owns (c : Thread nD τ) arg17 fullShare d)) -∗ K ⟨⟩))
          ⊢ wp frame (wpE (defs₀ (F := F)) Variants.none c none) E (tokens i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30) K } := by
  refine ⟨(?_, ?_, ?_, ?_), fun E K => ?run⟩
  case run =>
    unfold tokens
    simp only [k0_part24_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%fs0, %hfs0, HS0⟩, ⟨%ds1, %fs1, -, HS1⟩, ⟨%ds2, %fs2, -, HS2⟩, Hk⟩
    obtain rfl := harg2.eq_unread hf0; obtain rfl := harg3.eq_unread hf1; obtain rfl := harg6.eq_unread hf4; obtain rfl := harg7.eq_unread hf5; obtain rfl := harg8.eq_unread hf6; obtain rfl := harg9.eq_unread hf7; obtain rfl := harg10.eq_unread hf8; obtain rfl := harg15.eq_unread hfs0
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [H12]; · iexists _; iexact H12
    isplitl [HS0]
    · iexists _; isplitr; · ipureintro; exact harg15.read_unread _
      iexact HS0
    isplitl [HS1]
    · iexists _, _; isplitr; swap; · iexact HS1
      ipureintro; rfl
    iexists _, _; isplitr; swap; · iexact HS2
    ipureintro; rfl

end Cert.Kernel.Hand

end
-- ==== Proof.K.Wide.lean ====
/- The weight, widened once: what the first grid point leaves in the scratch that the later points read. -/
module

public import proofs.«01_k».proof.Proof.K.Setup
public import Idealize.ShloMosaic.Lib.WholeRead
public import Idealize.ShloMosaic.Lib.VecWindow

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

/-- One element of the widened weight: the code at bf16 times its block's scale at bf16. -/
def widePt (s : Elt F .f32) (w : Elt F .fp8e4m3) : Elt F .bf16 :=
  FloatOps.mulf (FloatOps.extf .bf16 bitsLt_fp8e4m3_bf16 w) (FloatOps.truncf .bf16 bitsLt_bf16_f32 s)

/-- The scale's place for a place of the weight: blocks of 128 by 128. -/
def sIx (y : S576x7168.Idx) : S5x56.Idx
  | ⟨0, _⟩ => ⟨(y 0).val / 128, by have : (y 0).val < 576 := (y 0).isLt; show _ < 5; omega⟩
  | ⟨1, _⟩ => ⟨(y 1).val / 128, by have : (y 1).val < 7168 := (y 1).isLt; show _ < 56; omega⟩

/-- The weight widened: every code times its block's scale. -/
def wide (x2 : Vec F S5x56 .f32) (x3 : Vec F S576x7168 .fp8e4m3) : Vec F S576x7168 .bf16 := fun y => widePt (x2 (sIx y)) (x3 y)

theorem pay126_apply (s : Elt F .f32) (v : Vec F S128x128 .fp8e4m3) (x : S128x128.Idx) : k0_pay126 s v x = widePt s (v x) := by
  unfold k0_pay126; rw [shapeCast_self]; rfl
theorem pay127_apply (s : Elt F .f32) (v : Vec F S128x128 .fp8e4m3) (x : S128x128.Idx) : k0_pay127 s v x = widePt s (v x) := by
  unfold k0_pay127; rw [shapeCast_self]; rfl
theorem pay128_apply (s : Elt F .f32) (v : Vec F S128x128 .fp8e4m3) (x : S128x128.Idx) : k0_pay128 s v x = widePt s (v x) := by
  unfold k0_pay128; rw [shapeCast_self]; rfl
theorem pay129_apply (s : Elt F .f32) (v : Vec F S128x128 .fp8e4m3) (x : S128x128.Idx) : k0_pay129 s v x = widePt s (v x) := by
  unfold k0_pay129; rw [shapeCast_self]; rfl
theorem pay130_apply (s : Elt F .f32) (v : Vec F S64x128 .fp8e4m3) (x : S64x128.Idx) : k0_pay130 s v x = widePt s (v x) := by
  unfold k0_pay130; rw [shapeCast_self]; rfl

/-- Trip `k` of loop 1 stores into block row 0, block column `k` what `wide` holds there. -/
theorem trip1 (c : Dev nD) (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (h1 : k0_cond1 i = 1#1) (x2 : Vec F S5x56 .f32) (x3 : Vec F S576x7168 .fp8e4m3) (k : Fin k0_t1_loop.trips) :
    ∀ p ∈ tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg4.unread x2) (harg5.unread x3) k, ∀ x : p.1.shape.Idx, p.2 x = wide x2 x3 (p.1.emb x) := by
  have hk : k.val < 56 := Nat.lt_of_lt_of_le k.isLt k0_t1_abs.2.1
  unfold tripL_k0_t1 trip_k0_t1
  dsimp only
  intro p hp x
  obtain rfl := List.mem_singleton.mp hp
  refine (pay126_apply _ _ x).trans (congrArg₂ widePt ?_ ?_)
  · unfold trip_k0_t1.sl.r
    refine (harg4.readAt_unread x2 _ _).trans (congrArg x2 (funext fun a => Fin.ext ?_))
    have h0 : (x 0).val < 128 := (x 0).isLt
    have h1 : (x 1).val < 128 := (x 1).isLt
    have e1 := congrFun (k0_off2_eq k)
    have e2 := congrFun (k0_off3_eq k)
    match a with
    | ⟨0, _⟩ =>
      show k0_off2 k 0 + 1 * 0 = (k0_off3 k 0 + 1 * (x 0).val) / 128
      rw [e1, e2]; show 0 + 1 * 0 = (0 + 1 * (x 0).val) / 128; omega
    | ⟨1, _⟩ =>
      show k0_off2 k 1 + 1 * 0 = (k0_off3 k 1 + 1 * (x 1).val) / 128
      rw [e1, e2]; show k.val + 1 * 0 = (128 * k.val + 1 * (x 1).val) / 128; omega
  · exact harg5.readAt_unread x3 _ _

theorem pieces1 (c : Dev nD) (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (h1 : k0_cond1 i = 1#1) (x2 : Vec F S5x56 .f32) (x3 : Vec F S576x7168 .fp8e4m3) : ∀ k : ℕ, k ≤ k0_t1_loop.trips →
    ∀ p ∈ pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg4.unread x2) (harg5.unread x3) k, ∀ x : p.1.shape.Idx, p.2 x = wide x2 x3 (p.1.emb x)
  | 0, _ => fun p hp => absurd hp List.not_mem_nil
  | k + 1, hk => by
    rw [pb_k0_t1_succ (k := ⟨k, hk⟩)]
    intro p hp
    rcases List.mem_append.mp hp with hp | hp
    · exact trip1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 x2 x3 _ p hp
    · exact pieces1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 x2 x3 k (Nat.le_of_succ_le hk) p hp

/-- Trip `k` of loop 2 stores into block row 1, block column `k` what `wide` holds there. -/
theorem trip2 (c : Dev nD) (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (h1 : k0_cond1 i = 1#1) (x2 : Vec F S5x56 .f32) (x3 : Vec F S576x7168 .fp8e4m3) (k : Fin k0_t2_loop.trips) :
    ∀ p ∈ tripL_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg4.unread x2) (harg5.unread x3) k, ∀ x : p.1.shape.Idx, p.2 x = wide x2 x3 (p.1.emb x) := by
  have hk : k.val < 56 := Nat.lt_of_lt_of_le k.isLt k0_t2_abs.2.1
  unfold tripL_k0_t2 trip_k0_t2
  dsimp only
  intro p hp x
  obtain rfl := List.mem_singleton.mp hp
  refine (pay127_apply _ _ x).trans (congrArg₂ widePt ?_ ?_)
  · unfold trip_k0_t2.sl.r
    refine (harg4.readAt_unread x2 _ _).trans (congrArg x2 (funext fun a => Fin.ext ?_))
    have h0 : (x 0).val < 128 := (x 0).isLt
    have h1 : (x 1).val < 128 := (x 1).isLt
    have e1 := congrFun (k0_off4_eq k)
    have e2 := congrFun (k0_off5_eq k)
    match a with
    | ⟨0, _⟩ =>
      show k0_off4 k 0 + 1 * 0 = (k0_off5 k 0 + 1 * (x 0).val) / 128
      rw [e1, e2]; show 1 + 1 * 0 = (128 + 1 * (x 0).val) / 128; omega
    | ⟨1, _⟩ =>
      show k0_off4 k 1 + 1 * 0 = (k0_off5 k 1 + 1 * (x 1).val) / 128
      rw [e1, e2]; show k.val + 1 * 0 = (128 * k.val + 1 * (x 1).val) / 128; omega
  · exact harg5.readAt_unread x3 _ _

theorem pieces2 (c : Dev nD) (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (h1 : k0_cond1 i = 1#1) (x2 : Vec F S5x56 .f32) (x3 : Vec F S576x7168 .fp8e4m3) : ∀ k : ℕ, k ≤ k0_t2_loop.trips →
    ∀ p ∈ pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg4.unread x2) (harg5.unread x3) k, ∀ x : p.1.shape.Idx, p.2 x = wide x2 x3 (p.1.emb x)
  | 0, _ => fun p hp => absurd hp List.not_mem_nil
  | k + 1, hk => by
    rw [pb_k0_t2_succ (k := ⟨k, hk⟩)]
    intro p hp
    rcases List.mem_append.mp hp with hp | hp
    · exact trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 x2 x3 _ p hp
    · exact pieces2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 x2 x3 k (Nat.le_of_succ_le hk) p hp

/-- Trip `k` of loop 3 stores into block row 2, block column `k` what `wide` holds there. -/
theorem trip3 (c : Dev nD) (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (h1 : k0_cond1 i = 1#1) (x2 : Vec F S5x56 .f32) (x3 : Vec F S576x7168 .fp8e4m3) (k : Fin k0_t3_loop.trips) :
    ∀ p ∈ tripL_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg4.unread x2) (harg5.unread x3) k, ∀ x : p.1.shape.Idx, p.2 x = wide x2 x3 (p.1.emb x) := by
  have hk : k.val < 56 := Nat.lt_of_lt_of_le k.isLt k0_t3_abs.2.1
  unfold tripL_k0_t3 trip_k0_t3
  dsimp only
  intro p hp x
  obtain rfl := List.mem_singleton.mp hp
  refine (pay128_apply _ _ x).trans (congrArg₂ widePt ?_ ?_)
  · unfold trip_k0_t3.sl.r
    refine (harg4.readAt_unread x2 _ _).trans (congrArg x2 (funext fun a => Fin.ext ?_))
    have h0 : (x 0).val < 128 := (x 0).isLt
    have h1 : (x 1).val < 128 := (x 1).isLt
    have e1 := congrFun (k0_off6_eq k)
    have e2 := congrFun (k0_off7_eq k)
    match a with
    | ⟨0, _⟩ =>
      show k0_off6 k 0 + 1 * 0 = (k0_off7 k 0 + 1 * (x 0).val) / 128
      rw [e1, e2]; show 2 + 1 * 0 = (256 + 1 * (x 0).val) / 128; omega
    | ⟨1, _⟩ =>
      show k0_off6 k 1 + 1 * 0 = (k0_off7 k 1 + 1 * (x 1).val) / 128
      rw [e1, e2]; show k.val + 1 * 0 = (128 * k.val + 1 * (x 1).val) / 128; omega
  · exact harg5.readAt_unread x3 _ _

theorem pieces3 (c : Dev nD) (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (h1 : k0_cond1 i = 1#1) (x2 : Vec F S5x56 .f32) (x3 : Vec F S576x7168 .fp8e4m3) : ∀ k : ℕ, k ≤ k0_t3_loop.trips →
    ∀ p ∈ pb_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg4.unread x2) (harg5.unread x3) k, ∀ x : p.1.shape.Idx, p.2 x = wide x2 x3 (p.1.emb x)
  | 0, _ => fun p hp => absurd hp List.not_mem_nil
  | k + 1, hk => by
    rw [pb_k0_t3_succ (k := ⟨k, hk⟩)]
    intro p hp
    rcases List.mem_append.mp hp with hp | hp
    · exact trip3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 x2 x3 _ p hp
    · exact pieces3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 x2 x3 k (Nat.le_of_succ_le hk) p hp

/-- Trip `k` of loop 4 stores into block row 3, block column `k` what `wide` holds there. -/
theorem trip4 (c : Dev nD) (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (h1 : k0_cond1 i = 1#1) (x2 : Vec F S5x56 .f32) (x3 : Vec F S576x7168 .fp8e4m3) (k : Fin k0_t4_loop.trips) :
    ∀ p ∈ tripL_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg4.unread x2) (harg5.unread x3) k, ∀ x : p.1.shape.Idx, p.2 x = wide x2 x3 (p.1.emb x) := by
  have hk : k.val < 56 := Nat.lt_of_lt_of_le k.isLt k0_t4_abs.2.1
  unfold tripL_k0_t4 trip_k0_t4
  dsimp only
  intro p hp x
  obtain rfl := List.mem_singleton.mp hp
  refine (pay129_apply _ _ x).trans (congrArg₂ widePt ?_ ?_)
  · unfold trip_k0_t4.sl.r
    refine (harg4.readAt_unread x2 _ _).trans (congrArg x2 (funext fun a => Fin.ext ?_))
    have h0 : (x 0).val < 128 := (x 0).isLt
    have h1 : (x 1).val < 128 := (x 1).isLt
    have e1 := congrFun (k0_off8_eq k)
    have e2 := congrFun (k0_off9_eq k)
    match a with
    | ⟨0, _⟩ =>
      show k0_off8 k 0 + 1 * 0 = (k0_off9 k 0 + 1 * (x 0).val) / 128
      rw [e1, e2]; show 3 + 1 * 0 = (384 + 1 * (x 0).val) / 128; omega
    | ⟨1, _⟩ =>
      show k0_off8 k 1 + 1 * 0 = (k0_off9 k 1 + 1 * (x 1).val) / 128
      rw [e1, e2]; show k.val + 1 * 0 = (128 * k.val + 1 * (x 1).val) / 128; omega
  · exact harg5.readAt_unread x3 _ _

theorem pieces4 (c : Dev nD) (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (h1 : k0_cond1 i = 1#1) (x2 : Vec F S5x56 .f32) (x3 : Vec F S576x7168 .fp8e4m3) : ∀ k : ℕ, k ≤ k0_t4_loop.trips →
    ∀ p ∈ pb_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg4.unread x2) (harg5.unread x3) k, ∀ x : p.1.shape.Idx, p.2 x = wide x2 x3 (p.1.emb x)
  | 0, _ => fun p hp => absurd hp List.not_mem_nil
  | k + 1, hk => by
    rw [pb_k0_t4_succ (k := ⟨k, hk⟩)]
    intro p hp
    rcases List.mem_append.mp hp with hp | hp
    · exact trip4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 x2 x3 _ p hp
    · exact pieces4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 x2 x3 k (Nat.le_of_succ_le hk) p hp

/-- Trip `k` of loop 5 stores into block row 4, block column `k` what `wide` holds there. -/
theorem trip5 (c : Dev nD) (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (h1 : k0_cond1 i = 1#1) (x2 : Vec F S5x56 .f32) (x3 : Vec F S576x7168 .fp8e4m3) (k : Fin k0_t5_loop.trips) :
    ∀ p ∈ tripL_k0_t5 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg4.unread x2) (harg5.unread x3) k, ∀ x : p.1.shape.Idx, p.2 x = wide x2 x3 (p.1.emb x) := by
  have hk : k.val < 56 := Nat.lt_of_lt_of_le k.isLt k0_t5_abs.2.1
  unfold tripL_k0_t5 trip_k0_t5
  dsimp only
  intro p hp x
  obtain rfl := List.mem_singleton.mp hp
  refine (pay130_apply _ _ x).trans (congrArg₂ widePt ?_ ?_)
  · unfold trip_k0_t5.sl.r
    refine (harg4.readAt_unread x2 _ _).trans (congrArg x2 (funext fun a => Fin.ext ?_))
    have h0 : (x 0).val < 64 := (x 0).isLt
    have h1 : (x 1).val < 128 := (x 1).isLt
    have e1 := congrFun (k0_off10_eq k)
    have e2 := congrFun (k0_off11_eq k)
    match a with
    | ⟨0, _⟩ =>
      show k0_off10 k 0 + 1 * 0 = (k0_off11 k 0 + 1 * (x 0).val) / 128
      rw [e1, e2]; show 4 + 1 * 0 = (512 + 1 * (x 0).val) / 128; omega
    | ⟨1, _⟩ =>
      show k0_off10 k 1 + 1 * 0 = (k0_off11 k 1 + 1 * (x 1).val) / 128
      rw [e1, e2]; show k.val + 1 * 0 = (128 * k.val + 1 * (x 1).val) / 128; omega
  · exact harg5.readAt_unread x3 _ _

theorem pieces5 (c : Dev nD) (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (h1 : k0_cond1 i = 1#1) (x2 : Vec F S5x56 .f32) (x3 : Vec F S576x7168 .fp8e4m3) : ∀ k : ℕ, k ≤ k0_t5_loop.trips →
    ∀ p ∈ pb_k0_t5 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg4.unread x2) (harg5.unread x3) k, ∀ x : p.1.shape.Idx, p.2 x = wide x2 x3 (p.1.emb x)
  | 0, _ => fun p hp => absurd hp List.not_mem_nil
  | k + 1, hk => by
    rw [pb_k0_t5_succ (k := ⟨k, hk⟩)]
    intro p hp
    rcases List.mem_append.mp hp with hp | hp
    · exact trip5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 x2 x3 _ p hp
    · exact pieces5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 x2 x3 k (Nat.le_of_succ_le hk) p hp

set_option maxHeartbeats 2000000 in
/-- The body's first part at a first point, nothing valid. -/
noncomputable def part25FirstPad (c : Dev nD) (i : grid0.Coords) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (hc1 : k0_cond1 i = 1#1) (x2 : Vec F S5x56 .f32) (x3 : Vec F S576x7168 .fp8e4m3) (xt0 : TbBuf0 (F := F) c tbM0_0) (hc2 : k0_cond2 i (tbM0_0.view.readAt (Elt F) (Rect.unit (s := S2) (k0_off1 i) S1.size (k0_off1_inb i)).toLoadRect xt0 (Shape.Idx.first (numel1_S1.symm ▸ Nat.one_pos))) = 1#1) :
    { LS0 : List (View.Piece (Elt F) S576x7168 .bf16) // ∀ (E : Set ℕ) (K : (Σ' (v29 : Elt F .i32) (v30 : BitVec 32), BitVec 1) → sProp 𝕄),
        iprop(owns (c : Thread nD τ) arg4 fullShare x2 ∗ owns (c : Thread nD τ) arg5 fullShare x3 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0 ∗ (iprop(owns (c : Thread nD τ) arg4 fullShare x2 ∗ owns (c : Thread nD τ) arg5 fullShare x3 ∗ owns (c : Thread nD τ) arg11 fullShare (k0_pay131 (F := F)) ∗ owns (c : Thread nD τ) arg12 fullShare (k0_pay132 (F := F)) ∗ owns (c : Thread nD τ) arg13 fullShare (k0_pay133 (F := F)) ∗ owns (c : Thread nD τ) arg14 fullShare (k0_pay134 (F := F)) ∗ (∃ f, arg15.view.loc (c : Thread nD τ) ↦[arg15.view.set]{fullShare} arg15.view.writes (Elt F) f LS0) ∗ tbPt0 c tbM0_0 xt0) -∗ K (⟨(tbM0_0.view.readAt (Elt F) (Rect.unit (s := S2) (k0_off1 i) S1.size (k0_off1_inb i)).toLoadRect xt0 (Shape.Idx.first (numel1_S1.symm ▸ Nat.one_pos))), nValid i (tbM0_0.view.readAt (Elt F) (Rect.unit (s := S2) (k0_off1 i) S1.size (k0_off1_inb i)).toLoadRect xt0 (Shape.Idx.first (numel1_S1.symm ▸ Nat.one_pos))), Scalar.cmpi .sgt (nValid i (tbM0_0.view.readAt (Elt F) (Rect.unit (s := S2) (k0_off1 i) S1.size (k0_off1_inb i)).toLoadRect xt0 (Shape.Idx.first (numel1_S1.symm ▸ Nat.one_pos)))) 0#32⟩ : Σ' (v29 : Elt F .i32) (v30 : BitVec 32), BitVec 1)))
          ⊢ wp frame (wpE (defs₀ (F := F)) Variants.none c none) E (k0_part25 i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [k0_part25_eq_skeleton]; unfold k0_part25_skel
    unfold owns
    iintro ⟨⟨%f2, %hf2, H2⟩, ⟨%f3, %hf3, H3⟩, ⟨%d9, %f9, -, H9⟩, ⟨%d10, %f10, -, H10⟩, ⟨%d11, %f11, -, H11⟩, ⟨%d12, %f12, -, H12⟩, ⟨%ds0, %fs0, -, HS0⟩, HT0, Hk⟩
    obtain rfl := harg4.eq_unread hf2; obtain rfl := harg5.eq_unread hf3
    sl_exec (disch := first | sl_exact hc1 | sl_exact hc2)
    sl_step
    have e : (⟨part25FirstPad.sl.r c i xt0, part25FirstPad.sl.v30 c i xt0, part25FirstPad.sl.v37 c i xt0⟩ : Σ' (v29 : Elt F .i32) (v30 : BitVec 32), BitVec 1) =
        ⟨(tbM0_0.view.readAt (Elt F) (Rect.unit (s := S2) (k0_off1 i) S1.size (k0_off1_inb i)).toLoadRect xt0 (Shape.Idx.first (numel1_S1.symm ▸ Nat.one_pos))), nValid i (tbM0_0.view.readAt (Elt F) (Rect.unit (s := S2) (k0_off1 i) S1.size (k0_off1_inb i)).toLoadRect xt0 (Shape.Idx.first (numel1_S1.symm ▸ Nat.one_pos))), Scalar.cmpi .sgt (nValid i (tbM0_0.view.readAt (Elt F) (Rect.unit (s := S2) (k0_off1 i) S1.size (k0_off1_inb i)).toLoadRect xt0 (Shape.Idx.first (numel1_S1.symm ▸ Nat.one_pos)))) 0#32⟩ := by
      rw [nValid_eq]; rfl
    rw [e]
    iapply Hk
    isplitl [H2]
    · iexists _; isplitr; · ipureintro; exact harg4.read_unread _
      iexact H2
    isplitl [H3]
    · iexists _; isplitr; · ipureintro; exact harg5.read_unread _
      iexact H3
    isplitl [H9]
    · iexists _; isplitr; swap; · iexact H9
      ipureintro; exact View.read_writes_full _ _ _ _ _
    isplitl [H10]
    · iexists _; isplitr; swap; · iexact H10
      ipureintro; exact View.read_writes_full _ _ _ _ _
    isplitl [H11]
    · iexists _; isplitr; swap; · iexact H11
      ipureintro; exact View.read_writes_full _ _ _ _ _
    isplitl [H12]
    · iexists _; isplitr; swap; · iexact H12
      ipureintro; exact View.read_writes_full _ _ _ _ _
    isplitl [HS0]; · iexists _; iexact HS0
    iexact HT0

set_option maxHeartbeats 2000000 in
/-- The body's first part at a first point, some tokens. -/
noncomputable def part25FirstTok (c : Dev nD) (i : grid0.Coords) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (hc1 : k0_cond1 i = 1#1) (x2 : Vec F S5x56 .f32) (x3 : Vec F S576x7168 .fp8e4m3) (xt0 : TbBuf0 (F := F) c tbM0_0) (hc2 : ¬k0_cond2 i (tbM0_0.view.readAt (Elt F) (Rect.unit (s := S2) (k0_off1 i) S1.size (k0_off1_inb i)).toLoadRect xt0 (Shape.Idx.first (numel1_S1.symm ▸ Nat.one_pos))) = 1#1) :
    { LS0 : List (View.Piece (Elt F) S576x7168 .bf16) // ∀ (E : Set ℕ) (K : (Σ' (v29 : Elt F .i32) (v30 : BitVec 32), BitVec 1) → sProp 𝕄),
        iprop(owns (c : Thread nD τ) arg4 fullShare x2 ∗ owns (c : Thread nD τ) arg5 fullShare x3 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0 ∗ (iprop(owns (c : Thread nD τ) arg4 fullShare x2 ∗ owns (c : Thread nD τ) arg5 fullShare x3 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ f, arg15.view.loc (c : Thread nD τ) ↦[arg15.view.set]{fullShare} arg15.view.writes (Elt F) f LS0) ∗ tbPt0 c tbM0_0 xt0) -∗ K (⟨(tbM0_0.view.readAt (Elt F) (Rect.unit (s := S2) (k0_off1 i) S1.size (k0_off1_inb i)).toLoadRect xt0 (Shape.Idx.first (numel1_S1.symm ▸ Nat.one_pos))), nValid i (tbM0_0.view.readAt (Elt F) (Rect.unit (s := S2) (k0_off1 i) S1.size (k0_off1_inb i)).toLoadRect xt0 (Shape.Idx.first (numel1_S1.symm ▸ Nat.one_pos))), Scalar.cmpi .sgt (nValid i (tbM0_0.view.readAt (Elt F) (Rect.unit (s := S2) (k0_off1 i) S1.size (k0_off1_inb i)).toLoadRect xt0 (Shape.Idx.first (numel1_S1.symm ▸ Nat.one_pos)))) 0#32⟩ : Σ' (v29 : Elt F .i32) (v30 : BitVec 32), BitVec 1)))
          ⊢ wp frame (wpE (defs₀ (F := F)) Variants.none c none) E (k0_part25 i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [k0_part25_eq_skeleton]; unfold k0_part25_skel
    unfold owns
    iintro ⟨⟨%f2, %hf2, H2⟩, ⟨%f3, %hf3, H3⟩, ⟨%d9, %f9, -, H9⟩, ⟨%d10, %f10, -, H10⟩, ⟨%d11, %f11, -, H11⟩, ⟨%d12, %f12, -, H12⟩, ⟨%ds0, %fs0, -, HS0⟩, HT0, Hk⟩
    obtain rfl := harg4.eq_unread hf2; obtain rfl := harg5.eq_unread hf3
    sl_exec (disch := first | sl_exact hc1 | sl_exact hc2)
    sl_step
    have e : (⟨part25FirstTok.sl.r c i xt0, part25FirstTok.sl.v30 c i xt0, part25FirstTok.sl.v37 c i xt0⟩ : Σ' (v29 : Elt F .i32) (v30 : BitVec 32), BitVec 1) =
        ⟨(tbM0_0.view.readAt (Elt F) (Rect.unit (s := S2) (k0_off1 i) S1.size (k0_off1_inb i)).toLoadRect xt0 (Shape.Idx.first (numel1_S1.symm ▸ Nat.one_pos))), nValid i (tbM0_0.view.readAt (Elt F) (Rect.unit (s := S2) (k0_off1 i) S1.size (k0_off1_inb i)).toLoadRect xt0 (Shape.Idx.first (numel1_S1.symm ▸ Nat.one_pos))), Scalar.cmpi .sgt (nValid i (tbM0_0.view.readAt (Elt F) (Rect.unit (s := S2) (k0_off1 i) S1.size (k0_off1_inb i)).toLoadRect xt0 (Shape.Idx.first (numel1_S1.symm ▸ Nat.one_pos)))) 0#32⟩ := by
      rw [nValid_eq]; rfl
    rw [e]
    iapply Hk
    isplitl [H2]
    · iexists _; isplitr; · ipureintro; exact harg4.read_unread _
      iexact H2
    isplitl [H3]
    · iexists _; isplitr; · ipureintro; exact harg5.read_unread _
      iexact H3
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]; · iexists _; iexact HS0
    iexact HT0

set_option maxHeartbeats 2000000 in
/-- The body's first part at a later point, nothing valid. -/
theorem part25LaterPad (c : Dev nD) (i : grid0.Coords) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (hc1 : ¬k0_cond1 i = 1#1) (x2 : Vec F S5x56 .f32) (x3 : Vec F S576x7168 .fp8e4m3) (W : Vec F S576x7168 .bf16) (xt0 : TbBuf0 (F := F) c tbM0_0) (hc2 : k0_cond2 i (tbM0_0.view.readAt (Elt F) (Rect.unit (s := S2) (k0_off1 i) S1.size (k0_off1_inb i)).toLoadRect xt0 (Shape.Idx.first (numel1_S1.symm ▸ Nat.one_pos))) = 1#1) : ∀ (E : Set ℕ) (K : (Σ' (v29 : Elt F .i32) (v30 : BitVec 32), BitVec 1) → sProp 𝕄),
        iprop(owns (c : Thread nD τ) arg4 fullShare x2 ∗ owns (c : Thread nD τ) arg5 fullShare x3 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare W ∗ tbPt0 c tbM0_0 xt0 ∗ (iprop(owns (c : Thread nD τ) arg4 fullShare x2 ∗ owns (c : Thread nD τ) arg5 fullShare x3 ∗ owns (c : Thread nD τ) arg11 fullShare (k0_pay131 (F := F)) ∗ owns (c : Thread nD τ) arg12 fullShare (k0_pay132 (F := F)) ∗ owns (c : Thread nD τ) arg13 fullShare (k0_pay133 (F := F)) ∗ owns (c : Thread nD τ) arg14 fullShare (k0_pay134 (F := F)) ∗ owns (c : Thread nD τ) arg15 fullShare W ∗ tbPt0 c tbM0_0 xt0) -∗ K (⟨(tbM0_0.view.readAt (Elt F) (Rect.unit (s := S2) (k0_off1 i) S1.size (k0_off1_inb i)).toLoadRect xt0 (Shape.Idx.first (numel1_S1.symm ▸ Nat.one_pos))), nValid i (tbM0_0.view.readAt (Elt F) (Rect.unit (s := S2) (k0_off1 i) S1.size (k0_off1_inb i)).toLoadRect xt0 (Shape.Idx.first (numel1_S1.symm ▸ Nat.one_pos))), Scalar.cmpi .sgt (nValid i (tbM0_0.view.readAt (Elt F) (Rect.unit (s := S2) (k0_off1 i) S1.size (k0_off1_inb i)).toLoadRect xt0 (Shape.Idx.first (numel1_S1.symm ▸ Nat.one_pos)))) 0#32⟩ : Σ' (v29 : Elt F .i32) (v30 : BitVec 32), BitVec 1)))
          ⊢ wp frame (wpE (defs₀ (F := F)) Variants.none c none) E (k0_part25 i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  intro E K
  have hrun : True := trivial
  on_goal 1 =>
    simp only [k0_part25_eq_skeleton]; unfold k0_part25_skel
    unfold owns
    iintro ⟨⟨%f2, %hf2, H2⟩, ⟨%f3, %hf3, H3⟩, ⟨%d9, %f9, -, H9⟩, ⟨%d10, %f10, -, H10⟩, ⟨%d11, %f11, -, H11⟩, ⟨%d12, %f12, -, H12⟩, ⟨%fs0, %hfs0, HS0⟩, HT0, Hk⟩
    obtain rfl := harg4.eq_unread hf2; obtain rfl := harg5.eq_unread hf3; obtain rfl := harg15.eq_unread hfs0
    sl_exec (disch := first | sl_exact hc1 | sl_exact hc2)
    sl_step
    have e : (⟨part25LaterPad.sl.r c i xt0, part25LaterPad.sl.v30 c i xt0, part25LaterPad.sl.v37 c i xt0⟩ : Σ' (v29 : Elt F .i32) (v30 : BitVec 32), BitVec 1) =
        ⟨(tbM0_0.view.readAt (Elt F) (Rect.unit (s := S2) (k0_off1 i) S1.size (k0_off1_inb i)).toLoadRect xt0 (Shape.Idx.first (numel1_S1.symm ▸ Nat.one_pos))), nValid i (tbM0_0.view.readAt (Elt F) (Rect.unit (s := S2) (k0_off1 i) S1.size (k0_off1_inb i)).toLoadRect xt0 (Shape.Idx.first (numel1_S1.symm ▸ Nat.one_pos))), Scalar.cmpi .sgt (nValid i (tbM0_0.view.readAt (Elt F) (Rect.unit (s := S2) (k0_off1 i) S1.size (k0_off1_inb i)).toLoadRect xt0 (Shape.Idx.first (numel1_S1.symm ▸ Nat.one_pos)))) 0#32⟩ := by
      rw [nValid_eq]; rfl
    rw [e]
    iapply Hk
    isplitl [H2]
    · iexists _; isplitr; · ipureintro; exact harg4.read_unread _
      iexact H2
    isplitl [H3]
    · iexists _; isplitr; · ipureintro; exact harg5.read_unread _
      iexact H3
    isplitl [H9]
    · iexists _; isplitr; swap; · iexact H9
      ipureintro; exact View.read_writes_full _ _ _ _ _
    isplitl [H10]
    · iexists _; isplitr; swap; · iexact H10
      ipureintro; exact View.read_writes_full _ _ _ _ _
    isplitl [H11]
    · iexists _; isplitr; swap; · iexact H11
      ipureintro; exact View.read_writes_full _ _ _ _ _
    isplitl [H12]
    · iexists _; isplitr; swap; · iexact H12
      ipureintro; exact View.read_writes_full _ _ _ _ _
    isplitl [HS0]
    · iexists _; isplitr; · ipureintro; exact harg15.read_unread _
      iexact HS0
    iexact HT0

set_option maxHeartbeats 2000000 in
/-- The body's first part at a later point, some tokens. -/
theorem part25LaterTok (c : Dev nD) (i : grid0.Coords) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (hc1 : ¬k0_cond1 i = 1#1) (x2 : Vec F S5x56 .f32) (x3 : Vec F S576x7168 .fp8e4m3) (W : Vec F S576x7168 .bf16) (xt0 : TbBuf0 (F := F) c tbM0_0) (hc2 : ¬k0_cond2 i (tbM0_0.view.readAt (Elt F) (Rect.unit (s := S2) (k0_off1 i) S1.size (k0_off1_inb i)).toLoadRect xt0 (Shape.Idx.first (numel1_S1.symm ▸ Nat.one_pos))) = 1#1) : ∀ (E : Set ℕ) (K : (Σ' (v29 : Elt F .i32) (v30 : BitVec 32), BitVec 1) → sProp 𝕄),
        iprop(owns (c : Thread nD τ) arg4 fullShare x2 ∗ owns (c : Thread nD τ) arg5 fullShare x3 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare W ∗ tbPt0 c tbM0_0 xt0 ∗ (iprop(owns (c : Thread nD τ) arg4 fullShare x2 ∗ owns (c : Thread nD τ) arg5 fullShare x3 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare W ∗ tbPt0 c tbM0_0 xt0) -∗ K (⟨(tbM0_0.view.readAt (Elt F) (Rect.unit (s := S2) (k0_off1 i) S1.size (k0_off1_inb i)).toLoadRect xt0 (Shape.Idx.first (numel1_S1.symm ▸ Nat.one_pos))), nValid i (tbM0_0.view.readAt (Elt F) (Rect.unit (s := S2) (k0_off1 i) S1.size (k0_off1_inb i)).toLoadRect xt0 (Shape.Idx.first (numel1_S1.symm ▸ Nat.one_pos))), Scalar.cmpi .sgt (nValid i (tbM0_0.view.readAt (Elt F) (Rect.unit (s := S2) (k0_off1 i) S1.size (k0_off1_inb i)).toLoadRect xt0 (Shape.Idx.first (numel1_S1.symm ▸ Nat.one_pos)))) 0#32⟩ : Σ' (v29 : Elt F .i32) (v30 : BitVec 32), BitVec 1)))
          ⊢ wp frame (wpE (defs₀ (F := F)) Variants.none c none) E (k0_part25 i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  intro E K
  have hrun : True := trivial
  on_goal 1 =>
    simp only [k0_part25_eq_skeleton]; unfold k0_part25_skel
    unfold owns
    iintro ⟨⟨%f2, %hf2, H2⟩, ⟨%f3, %hf3, H3⟩, ⟨%d9, %f9, -, H9⟩, ⟨%d10, %f10, -, H10⟩, ⟨%d11, %f11, -, H11⟩, ⟨%d12, %f12, -, H12⟩, ⟨%fs0, %hfs0, HS0⟩, HT0, Hk⟩
    obtain rfl := harg4.eq_unread hf2; obtain rfl := harg5.eq_unread hf3; obtain rfl := harg15.eq_unread hfs0
    sl_exec (disch := first | sl_exact hc1 | sl_exact hc2)
    sl_step
    have e : (⟨part25LaterTok.sl.r c i xt0, part25LaterTok.sl.v30 c i xt0, part25LaterTok.sl.v37 c i xt0⟩ : Σ' (v29 : Elt F .i32) (v30 : BitVec 32), BitVec 1) =
        ⟨(tbM0_0.view.readAt (Elt F) (Rect.unit (s := S2) (k0_off1 i) S1.size (k0_off1_inb i)).toLoadRect xt0 (Shape.Idx.first (numel1_S1.symm ▸ Nat.one_pos))), nValid i (tbM0_0.view.readAt (Elt F) (Rect.unit (s := S2) (k0_off1 i) S1.size (k0_off1_inb i)).toLoadRect xt0 (Shape.Idx.first (numel1_S1.symm ▸ Nat.one_pos))), Scalar.cmpi .sgt (nValid i (tbM0_0.view.readAt (Elt F) (Rect.unit (s := S2) (k0_off1 i) S1.size (k0_off1_inb i)).toLoadRect xt0 (Shape.Idx.first (numel1_S1.symm ▸ Nat.one_pos)))) 0#32⟩ := by
      rw [nValid_eq]; rfl
    rw [e]
    iapply Hk
    isplitl [H2]
    · iexists _; isplitr; · ipureintro; exact harg4.read_unread _
      iexact H2
    isplitl [H3]
    · iexists _; isplitr; · ipureintro; exact harg5.read_unread _
      iexact H3
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]
    · iexists _; isplitr; · ipureintro; exact harg15.read_unread _
      iexact HS0
    iexact HT0

/-- What the first part leaves in the scratch is the widened weight. -/
theorem part25FirstPad_wide (c : Dev nD) (i : grid0.Coords) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (hc1 : k0_cond1 i = 1#1) (x2 : Vec F S5x56 .f32) (x3 : Vec F S576x7168 .fp8e4m3) (xt0 : TbBuf0 (F := F) c tbM0_0) (hc2 : k0_cond2 i (tbM0_0.view.readAt (Elt F) (Rect.unit (s := S2) (k0_off1 i) S1.size (k0_off1_inb i)).toLoadRect xt0 (Shape.Idx.first (numel1_S1.symm ▸ Nat.one_pos))) = 1#1) (f) :
    arg15.view.read (Elt F) (arg15.view.writes (Elt F) f (part25FirstPad c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 xt0 hc2).1) = wide x2 x3 := by
  funext y
  refine View.read_writes_apply_of_pieces _ _ (wide x2 x3) _ ?_ y (View.cover_of_tiledBy _ ![64,128] (by sl_kernel_rfl) y)
  unfold part25FirstPad
  dsimp only
  intro p hp
  simp only [List.mem_append, List.append_nil] at hp
  rcases hp with hp | hp | hp | hp | hp
  · exact pieces5 c i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 _ le_rfl p hp
  · exact pieces4 c i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 _ le_rfl p hp
  · exact pieces3 c i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 _ le_rfl p hp
  · exact pieces2 c i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 _ le_rfl p hp
  · exact pieces1 c i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 _ le_rfl p hp

/-- What the first part leaves in the scratch is the widened weight. -/
theorem part25FirstTok_wide (c : Dev nD) (i : grid0.Coords) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (hc1 : k0_cond1 i = 1#1) (x2 : Vec F S5x56 .f32) (x3 : Vec F S576x7168 .fp8e4m3) (xt0 : TbBuf0 (F := F) c tbM0_0) (hc2 : ¬k0_cond2 i (tbM0_0.view.readAt (Elt F) (Rect.unit (s := S2) (k0_off1 i) S1.size (k0_off1_inb i)).toLoadRect xt0 (Shape.Idx.first (numel1_S1.symm ▸ Nat.one_pos))) = 1#1) (f) :
    arg15.view.read (Elt F) (arg15.view.writes (Elt F) f (part25FirstTok c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 xt0 hc2).1) = wide x2 x3 := by
  funext y
  refine View.read_writes_apply_of_pieces _ _ (wide x2 x3) _ ?_ y (View.cover_of_tiledBy _ ![64,128] (by sl_kernel_rfl) y)
  unfold part25FirstTok
  dsimp only
  intro p hp
  simp only [List.mem_append, List.append_nil] at hp
  rcases hp with hp | hp | hp | hp | hp
  · exact pieces5 c i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 _ le_rfl p hp
  · exact pieces4 c i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 _ le_rfl p hp
  · exact pieces3 c i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 _ le_rfl p hp
  · exact pieces2 c i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 _ le_rfl p hp
  · exact pieces1 c i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 _ le_rfl p hp

end Cert.Kernel.Hand

end
-- ==== Proof.K.Body.lean ====
/- The whole body at one grid point: what it leaves in the four output blocks and in the carried scratch. -/
module

public import proofs.«01_k».proof.Proof.K.Tok
public import proofs.«01_k».proof.Proof.K.Wide

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

/-- The stores into output 9 at a tile with tokens cover its block. -/
theorem tokCover9 (c : Dev nD) (v30 : BitVec 32) (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (x0 : Vec F S1x256x7168 .fp8e4m3) (x1 : Vec F S1x256x56 .f32) (x4 : Vec F S1x512 .f32) (x5 : Vec F S1x1x256 .i32) (x6 : Vec F S64x1 .f32) (x7 : Vec F S1x256x512 .bf16) (x8 : Vec F S1x256x64 .bf16) (W : Vec F S576x7168 .bf16) (y : S1x256x7168.Idx) :
    ∃ p ∈ (tokRun c v30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 W).1.1, y ∈ p.1.set :=
  View.cover_of_tiledBy _ ![1,256,7168] (by sl_kernel_rfl) y

/-- Output 9's block after the body: the constant of a tile past the row count, else what the token part stores. -/
noncomputable def blk9 (c : Dev nD) (v : Elt F .i32) (i : grid0.Coords) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (x0 : Vec F S1x256x7168 .fp8e4m3) (x1 : Vec F S1x256x56 .f32) (x2 : Vec F S5x56 .f32) (x3 : Vec F S576x7168 .fp8e4m3) (x4 : Vec F S1x512 .f32) (x5 : Vec F S1x1x256 .i32) (x6 : Vec F S64x1 .f32) (x7 : Vec F S1x256x512 .bf16) (x8 : Vec F S1x256x64 .bf16) : Vec F S1x256x7168 .bf16 :=
  if k0_cond2 i v = 1#1 then k0_pay131 else
    arg11.view.read (Elt F) (arg11.view.writes (Elt F) arg11.view.junk (tokRun c (nValid i v) i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 (wide x2 x3)).1.1)

/-- The stores into output 10 at a tile with tokens cover its block. -/
theorem tokCover10 (c : Dev nD) (v30 : BitVec 32) (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (x0 : Vec F S1x256x7168 .fp8e4m3) (x1 : Vec F S1x256x56 .f32) (x4 : Vec F S1x512 .f32) (x5 : Vec F S1x1x256 .i32) (x6 : Vec F S64x1 .f32) (x7 : Vec F S1x256x512 .bf16) (x8 : Vec F S1x256x64 .bf16) (W : Vec F S576x7168 .bf16) (y : S1x1x2x512.Idx) :
    ∃ p ∈ (tokRun c v30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 W).1.2.1, y ∈ p.1.set :=
  View.cover_of_tiledBy _ ![1,1,2,512] (by sl_kernel_rfl) y

/-- Output 10's block after the body: the constant of a tile past the row count, else what the token part stores. -/
noncomputable def blk10 (c : Dev nD) (v : Elt F .i32) (i : grid0.Coords) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (x0 : Vec F S1x256x7168 .fp8e4m3) (x1 : Vec F S1x256x56 .f32) (x2 : Vec F S5x56 .f32) (x3 : Vec F S576x7168 .fp8e4m3) (x4 : Vec F S1x512 .f32) (x5 : Vec F S1x1x256 .i32) (x6 : Vec F S64x1 .f32) (x7 : Vec F S1x256x512 .bf16) (x8 : Vec F S1x256x64 .bf16) : Vec F S1x1x2x512 .f32 :=
  if k0_cond2 i v = 1#1 then k0_pay132 else
    arg12.view.read (Elt F) (arg12.view.writes (Elt F) arg12.view.junk (tokRun c (nValid i v) i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 (wide x2 x3)).1.2.1)

/-- The stores into output 11 at a tile with tokens cover its block. -/
theorem tokCover11 (c : Dev nD) (v30 : BitVec 32) (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (x0 : Vec F S1x256x7168 .fp8e4m3) (x1 : Vec F S1x256x56 .f32) (x4 : Vec F S1x512 .f32) (x5 : Vec F S1x1x256 .i32) (x6 : Vec F S64x1 .f32) (x7 : Vec F S1x256x512 .bf16) (x8 : Vec F S1x256x64 .bf16) (W : Vec F S576x7168 .bf16) (y : S1x256x576.Idx) :
    ∃ p ∈ (tokRun c v30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 W).1.2.2.1, y ∈ p.1.set :=
  View.cover_of_tiledBy _ ![1,256,64] (by sl_kernel_rfl) y

/-- Output 11's block after the body: the constant of a tile past the row count, else what the token part stores. -/
noncomputable def blk11 (c : Dev nD) (v : Elt F .i32) (i : grid0.Coords) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (x0 : Vec F S1x256x7168 .fp8e4m3) (x1 : Vec F S1x256x56 .f32) (x2 : Vec F S5x56 .f32) (x3 : Vec F S576x7168 .fp8e4m3) (x4 : Vec F S1x512 .f32) (x5 : Vec F S1x1x256 .i32) (x6 : Vec F S64x1 .f32) (x7 : Vec F S1x256x512 .bf16) (x8 : Vec F S1x256x64 .bf16) : Vec F S1x256x576 .fp8e5m2 :=
  if k0_cond2 i v = 1#1 then k0_pay133 else
    arg13.view.read (Elt F) (arg13.view.writes (Elt F) arg13.view.junk (tokRun c (nValid i v) i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 (wide x2 x3)).1.2.2.1)

/-- The stores into output 12 at a tile with tokens cover its block. -/
theorem tokCover12 (c : Dev nD) (v30 : BitVec 32) (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (x0 : Vec F S1x256x7168 .fp8e4m3) (x1 : Vec F S1x256x56 .f32) (x4 : Vec F S1x512 .f32) (x5 : Vec F S1x1x256 .i32) (x6 : Vec F S64x1 .f32) (x7 : Vec F S1x256x512 .bf16) (x8 : Vec F S1x256x64 .bf16) (W : Vec F S576x7168 .bf16) (y : S1x256x5.Idx) :
    ∃ p ∈ (tokRun c v30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 W).1.2.2.2, y ∈ p.1.set :=
  View.cover_of_tiledBy _ ![1,256,1] (by sl_kernel_rfl) y

/-- Output 12's block after the body: the constant of a tile past the row count, else what the token part stores. -/
noncomputable def blk12 (c : Dev nD) (v : Elt F .i32) (i : grid0.Coords) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (x0 : Vec F S1x256x7168 .fp8e4m3) (x1 : Vec F S1x256x56 .f32) (x2 : Vec F S5x56 .f32) (x3 : Vec F S576x7168 .fp8e4m3) (x4 : Vec F S1x512 .f32) (x5 : Vec F S1x1x256 .i32) (x6 : Vec F S64x1 .f32) (x7 : Vec F S1x256x512 .bf16) (x8 : Vec F S1x256x64 .bf16) : Vec F S1x256x5 .f32 :=
  if k0_cond2 i v = 1#1 then k0_pay134 else
    arg14.view.read (Elt F) (arg14.view.writes (Elt F) arg14.view.junk (tokRun c (nValid i v) i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 (wide x2 x3)).1.2.2.2)

set_option maxHeartbeats 2000000 in
/-- The body at the first point. -/
theorem bodyFirst (c : Dev nD) (i : grid0.Coords) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (hc1 : k0_cond1 i = 1#1) (x0 : Vec F S1x256x7168 .fp8e4m3) (x1 : Vec F S1x256x56 .f32) (x2 : Vec F S5x56 .f32) (x3 : Vec F S576x7168 .fp8e4m3) (x4 : Vec F S1x512 .f32) (x5 : Vec F S1x1x256 .i32) (x6 : Vec F S64x1 .f32) (x7 : Vec F S1x256x512 .bf16) (x8 : Vec F S1x256x64 .bf16) (xt0 : TbBuf0 (F := F) c tbM0_0) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ tbPt0 c tbM0_0 xt0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (blk9 c (tbM0_0.view.readAt (Elt F) (Rect.unit (s := S2) (k0_off1 i) S1.size (k0_off1_inb i)).toLoadRect xt0 (Shape.Idx.first (numel1_S1.symm ▸ Nat.one_pos))) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8) ∗ owns (c : Thread nD τ) arg12 fullShare (blk10 c (tbM0_0.view.readAt (Elt F) (Rect.unit (s := S2) (k0_off1 i) S1.size (k0_off1_inb i)).toLoadRect xt0 (Shape.Idx.first (numel1_S1.symm ▸ Nat.one_pos))) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8) ∗ owns (c : Thread nD τ) arg13 fullShare (blk11 c (tbM0_0.view.readAt (Elt F) (Rect.unit (s := S2) (k0_off1 i) S1.size (k0_off1_inb i)).toLoadRect xt0 (Shape.Idx.first (numel1_S1.symm ▸ Nat.one_pos))) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8) ∗ owns (c : Thread nD τ) arg14 fullShare (blk12 c (tbM0_0.view.readAt (Elt F) (Rect.unit (s := S2) (k0_off1 i) S1.size (k0_off1_inb i)).toLoadRect xt0 (Shape.Idx.first (numel1_S1.symm ▸ Nat.one_pos))) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8) ∗ owns (c : Thread nD τ) arg15 fullShare (wide x2 x3) ∗ (∃ d, owns (c : Thread nD τ) arg16 fullShare d) ∗ (∃ d, owns (c : Thread nD τ) arg17 fullShare d) ∗ tbPt0 c tbM0_0 xt0) -∗ K ⟨⟩))
      ⊢ wp frame (wpE (defs₀ (F := F)) Variants.none c none) E (cc0_kv_down_bwd (F := F) i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [body_split, wp_bind]
  by_cases hc2 : k0_cond2 i (tbM0_0.view.readAt (Elt F) (Rect.unit (s := S2) (k0_off1 i) S1.size (k0_off1_inb i)).toLoadRect xt0 (Shape.Idx.first (numel1_S1.symm ▸ Nat.one_pos))) = 1#1
  · have hc3 : ¬k0_cond3 i (tbM0_0.view.readAt (Elt F) (Rect.unit (s := S2) (k0_off1 i) S1.size (k0_off1_inb i)).toLoadRect xt0 (Shape.Idx.first (numel1_S1.symm ▸ Nat.one_pos))) = 1#1 := by
      have := cond2_iff_not_cond3 i (tbM0_0.view.readAt (Elt F) (Rect.unit (s := S2) (k0_off1 i) S1.size (k0_off1_inb i)).toLoadRect xt0 (Shape.Idx.first (numel1_S1.symm ▸ Nat.one_pos)))
      exact this.mp hc2
    unfold blk9 blk10 blk11 blk12
    simp only [if_pos hc2]
    iintro ⟨H0, H1, H2, H3, H4, H5, H6, H7, H8, H9, H10, H11, H12, HS0, HS1, HS2, HT0, Hk⟩
    iapply ((part25FirstPad c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 xt0 hc2).2 E _)
    isplitl [H2]; · iexact H2
    isplitl [H3]; · iexact H3
    isplitl [H9]; · iexact H9
    isplitl [H10]; · iexact H10
    isplitl [H11]; · iexact H11
    isplitl [H12]; · iexact H12
    isplitl [HS0]; · iexact HS0
    isplitl [HT0]; · iexact HT0
    iintro ⟨H2, H3, H9, H10, H11, H12, ⟨%es0, HS0⟩, HT0⟩
    dsimp only
    rw [wp_bind, dif_neg hc3]
    sl_step
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]
    · unfold owns; iexists _; isplitr
      swap; · iexact HS0
      ipureintro; exact part25FirstPad_wide c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 xt0 hc2 _
    isplitl [HS1]; · iexact HS1
    isplitl [HS2]; · iexact HS2
    iexact HT0
  · have hc3 : k0_cond3 i (tbM0_0.view.readAt (Elt F) (Rect.unit (s := S2) (k0_off1 i) S1.size (k0_off1_inb i)).toLoadRect xt0 (Shape.Idx.first (numel1_S1.symm ▸ Nat.one_pos))) = 1#1 := by
      have := cond2_iff_not_cond3 i (tbM0_0.view.readAt (Elt F) (Rect.unit (s := S2) (k0_off1 i) S1.size (k0_off1_inb i)).toLoadRect xt0 (Shape.Idx.first (numel1_S1.symm ▸ Nat.one_pos)))
      exact Classical.not_not.mp fun h => hc2 (this.mpr h)
    unfold blk9 blk10 blk11 blk12
    simp only [if_neg hc2]
    iintro ⟨H0, H1, H2, H3, H4, H5, H6, H7, H8, H9, H10, H11, H12, HS0, HS1, HS2, HT0, Hk⟩
    iapply ((part25FirstTok c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 xt0 hc2).2 E _)
    isplitl [H2]; · iexact H2
    isplitl [H3]; · iexact H3
    isplitl [H9]; · iexact H9
    isplitl [H10]; · iexact H10
    isplitl [H11]; · iexact H11
    isplitl [H12]; · iexact H12
    isplitl [HS0]; · iexact HS0
    isplitl [HT0]; · iexact HT0
    iintro ⟨H2, H3, H9, H10, H11, H12, ⟨%es0, HS0⟩, HT0⟩
    dsimp only
    rw [wp_bind, dif_pos hc3]
    iapply ((tokRun c (nValid i (tbM0_0.view.readAt (Elt F) (Rect.unit (s := S2) (k0_off1 i) S1.size (k0_off1_inb i)).toLoadRect xt0 (Shape.Idx.first (numel1_S1.symm ▸ Nat.one_pos)))) i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 (wide x2 x3)).2 E _)
    isplitl [H0]; · iexact H0
    isplitl [H1]; · iexact H1
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]
    · unfold owns; iexists _; isplitr
      swap; · iexact HS0
      ipureintro; exact part25FirstTok_wide c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 xt0 hc2 _
    isplitl [HS1]; · iexact HS1
    isplitl [HS2]; · iexact HS2
    iintro ⟨H0, H1, H4, H5, H6, H7, H8, ⟨%e9, H9⟩, ⟨%e10, H10⟩, ⟨%e11, H11⟩, ⟨%e12, H12⟩, HS0, HS1, HS2⟩
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (tokCover9 c _ i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 _)
    isplitl [H10]
    · unfold owns; iexists _; isplitr
      swap; · iexact H10
      ipureintro; exact View.read_writes_of_cover _ _ _ _ _ (tokCover10 c _ i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 _)
    isplitl [H11]
    · unfold owns; iexists _; isplitr
      swap; · iexact H11
      ipureintro; exact View.read_writes_of_cover _ _ _ _ _ (tokCover11 c _ i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 _)
    isplitl [H12]
    · unfold owns; iexists _; isplitr
      swap; · iexact H12
      ipureintro; exact View.read_writes_of_cover _ _ _ _ _ (tokCover12 c _ i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 _)
    isplitl [HS0]; · iexact HS0
    isplitl [HS1]; · iexact HS1
    isplitl [HS2]; · iexact HS2
    iexact HT0

set_option maxHeartbeats 2000000 in
/-- The body at a later point. -/
theorem bodyLater (c : Dev nD) (i : grid0.Coords) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (hc1 : ¬k0_cond1 i = 1#1) (x0 : Vec F S1x256x7168 .fp8e4m3) (x1 : Vec F S1x256x56 .f32) (x2 : Vec F S5x56 .f32) (x3 : Vec F S576x7168 .fp8e4m3) (x4 : Vec F S1x512 .f32) (x5 : Vec F S1x1x256 .i32) (x6 : Vec F S64x1 .f32) (x7 : Vec F S1x256x512 .bf16) (x8 : Vec F S1x256x64 .bf16) (xt0 : TbBuf0 (F := F) c tbM0_0) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare (wide x2 x3) ∗ (∃ d, owns (c : Thread nD τ) arg16 fullShare d) ∗ (∃ d, owns (c : Thread nD τ) arg17 fullShare d) ∗ tbPt0 c tbM0_0 xt0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (blk9 c (tbM0_0.view.readAt (Elt F) (Rect.unit (s := S2) (k0_off1 i) S1.size (k0_off1_inb i)).toLoadRect xt0 (Shape.Idx.first (numel1_S1.symm ▸ Nat.one_pos))) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8) ∗ owns (c : Thread nD τ) arg12 fullShare (blk10 c (tbM0_0.view.readAt (Elt F) (Rect.unit (s := S2) (k0_off1 i) S1.size (k0_off1_inb i)).toLoadRect xt0 (Shape.Idx.first (numel1_S1.symm ▸ Nat.one_pos))) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8) ∗ owns (c : Thread nD τ) arg13 fullShare (blk11 c (tbM0_0.view.readAt (Elt F) (Rect.unit (s := S2) (k0_off1 i) S1.size (k0_off1_inb i)).toLoadRect xt0 (Shape.Idx.first (numel1_S1.symm ▸ Nat.one_pos))) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8) ∗ owns (c : Thread nD τ) arg14 fullShare (blk12 c (tbM0_0.view.readAt (Elt F) (Rect.unit (s := S2) (k0_off1 i) S1.size (k0_off1_inb i)).toLoadRect xt0 (Shape.Idx.first (numel1_S1.symm ▸ Nat.one_pos))) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8) ∗ owns (c : Thread nD τ) arg15 fullShare (wide x2 x3) ∗ (∃ d, owns (c : Thread nD τ) arg16 fullShare d) ∗ (∃ d, owns (c : Thread nD τ) arg17 fullShare d) ∗ tbPt0 c tbM0_0 xt0) -∗ K ⟨⟩))
      ⊢ wp frame (wpE (defs₀ (F := F)) Variants.none c none) E (cc0_kv_down_bwd (F := F) i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [body_split, wp_bind]
  by_cases hc2 : k0_cond2 i (tbM0_0.view.readAt (Elt F) (Rect.unit (s := S2) (k0_off1 i) S1.size (k0_off1_inb i)).toLoadRect xt0 (Shape.Idx.first (numel1_S1.symm ▸ Nat.one_pos))) = 1#1
  · have hc3 : ¬k0_cond3 i (tbM0_0.view.readAt (Elt F) (Rect.unit (s := S2) (k0_off1 i) S1.size (k0_off1_inb i)).toLoadRect xt0 (Shape.Idx.first (numel1_S1.symm ▸ Nat.one_pos))) = 1#1 := by
      have := cond2_iff_not_cond3 i (tbM0_0.view.readAt (Elt F) (Rect.unit (s := S2) (k0_off1 i) S1.size (k0_off1_inb i)).toLoadRect xt0 (Shape.Idx.first (numel1_S1.symm ▸ Nat.one_pos)))
      exact this.mp hc2
    unfold blk9 blk10 blk11 blk12
    simp only [if_pos hc2]
    iintro ⟨H0, H1, H2, H3, H4, H5, H6, H7, H8, H9, H10, H11, H12, HS0, HS1, HS2, HT0, Hk⟩
    iapply (part25LaterPad c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 (wide x2 x3) xt0 hc2 E _)
    isplitl [H2]; · iexact H2
    isplitl [H3]; · iexact H3
    isplitl [H9]; · iexact H9
    isplitl [H10]; · iexact H10
    isplitl [H11]; · iexact H11
    isplitl [H12]; · iexact H12
    isplitl [HS0]; · iexact HS0
    isplitl [HT0]; · iexact HT0
    iintro ⟨H2, H3, H9, H10, H11, H12, HS0, HT0⟩
    dsimp only
    rw [wp_bind, dif_neg hc3]
    sl_step
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    isplitl [HS2]; · iexact HS2
    iexact HT0
  · have hc3 : k0_cond3 i (tbM0_0.view.readAt (Elt F) (Rect.unit (s := S2) (k0_off1 i) S1.size (k0_off1_inb i)).toLoadRect xt0 (Shape.Idx.first (numel1_S1.symm ▸ Nat.one_pos))) = 1#1 := by
      have := cond2_iff_not_cond3 i (tbM0_0.view.readAt (Elt F) (Rect.unit (s := S2) (k0_off1 i) S1.size (k0_off1_inb i)).toLoadRect xt0 (Shape.Idx.first (numel1_S1.symm ▸ Nat.one_pos)))
      exact Classical.not_not.mp fun h => hc2 (this.mpr h)
    unfold blk9 blk10 blk11 blk12
    simp only [if_neg hc2]
    iintro ⟨H0, H1, H2, H3, H4, H5, H6, H7, H8, H9, H10, H11, H12, HS0, HS1, HS2, HT0, Hk⟩
    iapply (part25LaterTok c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 (wide x2 x3) xt0 hc2 E _)
    isplitl [H2]; · iexact H2
    isplitl [H3]; · iexact H3
    isplitl [H9]; · iexact H9
    isplitl [H10]; · iexact H10
    isplitl [H11]; · iexact H11
    isplitl [H12]; · iexact H12
    isplitl [HS0]; · iexact HS0
    isplitl [HT0]; · iexact HT0
    iintro ⟨H2, H3, H9, H10, H11, H12, HS0, HT0⟩
    dsimp only
    rw [wp_bind, dif_pos hc3]
    iapply ((tokRun c (nValid i (tbM0_0.view.readAt (Elt F) (Rect.unit (s := S2) (k0_off1 i) S1.size (k0_off1_inb i)).toLoadRect xt0 (Shape.Idx.first (numel1_S1.symm ▸ Nat.one_pos)))) i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 (wide x2 x3)).2 E _)
    isplitl [H0]; · iexact H0
    isplitl [H1]; · iexact H1
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    isplitl [HS2]; · iexact HS2
    iintro ⟨H0, H1, H4, H5, H6, H7, H8, ⟨%e9, H9⟩, ⟨%e10, H10⟩, ⟨%e11, H11⟩, ⟨%e12, H12⟩, HS0, HS1, HS2⟩
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (tokCover9 c _ i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 _)
    isplitl [H10]
    · unfold owns; iexists _; isplitr
      swap; · iexact H10
      ipureintro; exact View.read_writes_of_cover _ _ _ _ _ (tokCover10 c _ i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 _)
    isplitl [H11]
    · unfold owns; iexists _; isplitr
      swap; · iexact H11
      ipureintro; exact View.read_writes_of_cover _ _ _ _ _ (tokCover11 c _ i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 _)
    isplitl [H12]
    · unfold owns; iexists _; isplitr
      swap; · iexact H12
      ipureintro; exact View.read_writes_of_cover _ _ _ _ _ (tokCover12 c _ i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 _)
    isplitl [HS0]; · iexact HS0
    isplitl [HS1]; · iexact HS1
    isplitl [HS2]; · iexact HS2
    iexact HT0

end Cert.Kernel.Hand

end
-- ==== Proof.K.Frame.lean ====
/- The launch: what each grid point leaves, the body's obligation, the run and the frame. -/
module

public import proofs.«01_k».proof.Proof.K.Body

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The row count of the point's batch, as the body loads it from the table. -/
noncomputable def lenW (hO : Ok m) (t : Fin (cfgM m hO).N) : Elt F .i32 :=
  tbM0_0.view.readAt (Elt F) (Rect.unit (s := S2) (k0_off1 (grid0.coords t)) S1.size (k0_off1_inb (grid0.coords t))).toLoadRect (tbl m 0) (Shape.Idx.first (numel1_S1.symm ▸ Nat.one_pos))

/-- The widened weight of the launch: the same at every point. -/
noncomputable def wideM (hO : Ok m) (c : Dev nD) (t : Fin (cfgM m hO).N) : Vec F S576x7168 .bf16 := wide (iblk m hO c 2 t) (iblk m hO c 3 t)

theorem wideM_const (hO : Ok m) (c : Dev nD) (t t' : Fin (cfgM m hO).N) : wideM m hO c t = wideM m hO c t' := rfl

/-- What point `t` leaves in output 9's block. -/
noncomputable def out9 (hO : Ok m) (c : Dev nD) (t : Fin (cfgM m hO).N) : Vec F S1x256x7168 .bf16 :=
  blk9 c (lenW m hO t) (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t)

/-- What point `t` leaves in output 10's block. -/
noncomputable def out10 (hO : Ok m) (c : Dev nD) (t : Fin (cfgM m hO).N) : Vec F S1x1x2x512 .f32 :=
  blk10 c (lenW m hO t) (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t)

/-- What point `t` leaves in output 11's block. -/
noncomputable def out11 (hO : Ok m) (c : Dev nD) (t : Fin (cfgM m hO).N) : Vec F S1x256x576 .fp8e5m2 :=
  blk11 c (lenW m hO t) (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t)

/-- What point `t` leaves in output 12's block. -/
noncomputable def out12 (hO : Ok m) (c : Dev nD) (t : Fin (cfgM m hO).N) : Vec F S1x256x5 .f32 :=
  blk12 c (lenW m hO t) (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t)

/-- The region's invariant before position `n`: before the first point every scratch at anything; afterwards the carried scratch holds the
    widened weight. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (wideM m hO c ⟨n, hn⟩) ∗ (∃ d, owns (c : Thread nD τ) scM0_1 fullShare d) ∗ (∃ d, owns (c : Thread nD τ) scM0_2 fullShare d)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_pos (hO : Ok m) (c : Dev nD) (n : ℕ) (h : n ≤ (cfgM m hO).N) (hz : n ≠ 0) (t : Fin (cfgM m hO).N) :
    PhiS m hO c n h = iprop(iprop(iprop(owns (c : Thread nD τ) scM0_0 fullShare (wideM m hO c t) ∗ (∃ d, owns (c : Thread nD τ) scM0_1 fullShare d) ∗ (∃ d, owns (c : Thread nD τ) scM0_2 fullShare d)) ∗ (∃ r, prngReg c r)) ∗ Pipeline.ΦT pre0 (tbl m) c) := by
  cases n with
  | zero => exact absurd rfl hz
  | succ n => rfl

/-- The proof data of the launch: arrays as the region finds them; after the body each input's buffer at its block and each output's at what the
    point leaves. -/
noncomputable def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => out9 m hO c t
    | ⟨10, _⟩ => out10 m hO c t
    | ⟨11, _⟩ => out11 m hO c t
    | ⟨12, _⟩ => out12 m hO c t
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = out9 m hO c t := by dsimp only [dats]; try rfl
theorem after0_10 (hO : Ok m) (c : Dev nD) (t : Fin (cfgM m hO).N) : (dats m hO 0 c).after 10 t = out10 m hO c t := by dsimp only [dats]; try rfl
theorem after0_11 (hO : Ok m) (c : Dev nD) (t : Fin (cfgM m hO).N) : (dats m hO 0 c).after 11 t = out11 m hO c t := by dsimp only [dats]; try rfl
theorem after0_12 (hO : Ok m) (c : Dev nD) (t : Fin (cfgM m hO).N) : (dats m hO 0 c).after 12 t = out12 m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
/-- What the body is called with at point `t`, window by window. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d)))

/-- What it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t))

set_option maxHeartbeats 4000000 in
/-- The body at any point does what its obligation says. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8]
  rw [show (dats m hO 0 c).owesAt () t.succ = (dats m hO 0 c).owesAt () t.castSucc from rfl,
    after0_0, after0_1, after0_2, after0_3, after0_4, after0_5, after0_6, after0_7, after0_8, after0_9, after0_10, after0_11, after0_12]
  rw [show (dats m hO 0 c).Φ t.succ = PhiS m hO c (t.val + 1) t.isLt from rfl, PhiS_pos m hO c _ _ (Nat.succ_ne_zero _) t, PhiT0_eq]
  have hN : t.val < 128 := lt_of_lt_of_eq t.isLt (show (cfgM m hO).N = 128 from N_0)
  have hi : (grid0.coords t 0).val = t.val := by
    exact (by decide +kernel : ∀ t : Fin grid0.N, (grid0.coords t 0).val = t.val) t
  rw [PhiS_castSucc m hO c t]
  by_cases hz : t.val = 0
  · rw [PhiS_zero m hO c _ _ hz, PhiT0_eq, PhiA0_eq]
    iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (bodyFirst c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) ((k0_cond1_iff _).mpr (hi.trans hz)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    isplitl [HT0]; · iexact HT0
    iintro ⟨H0, H1, H2, H3, H4, H5, H6, H7, H8, H9, H10, H11, H12, HS0, HS1, HS2, HT0⟩
    isplitl [HS0 HS1 HS2 Hg HT0]
    · isplitl [HS0 HS1 HS2 Hg]
      · isplitl [HS0 HS1 HS2]
        · isplitl [HS0]; · iexact HS0
          isplitl [HS1]; · iexact HS1
          iexact HS2
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [PhiS_pos m hO c _ _ hz t, PhiT0_eq]
    iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (bodyLater c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) (fun h => hz (hi.symm.trans ((k0_cond1_iff _).mp h))) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    isplitl [HT0]; · iexact HT0
    iintro ⟨H0, H1, H2, H3, H4, H5, H6, H7, H8, H9, H10, H11, H12, HS0, HS1, HS2, HT0⟩
    isplitl [HS0 HS1 HS2 Hg HT0]
    · isplitl [HS0 HS1 HS2 Hg]
      · isplitl [HS0 HS1 HS2]
        · isplitl [HS0]; · iexact HS0
          isplitl [HS1]; · iexact HS1
          iexact HS2
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- At a point that writes the block back, the obligation asks for the named contents, idle or not. -/
theorem leave9 (hO : Ok m) (c : Dev nD) (t : Fin (cfgM m hO).N) :
    owns (c : Thread nD τ) (ms0_9 m hO t) fullShare ((dats m hO 0 c).after 9 t) ⊢ ((dats m hO 0 c).leavesExact 9 t : sProp 𝕄) := by
  have hf : ((cfgM m hO).win 9).flush t = true := flush0_9 (adm m hO) t
  unfold Dat.leavesExact
  generalize (cfgM m hO).idle 9 ((cfgM m hO).grid.coords t) = b
  rw [hf]
  cases b <;> exact Idealize.SL.BI.Entails.refl _

/-- At a point that writes the block back, the obligation asks for the named contents, idle or not. -/
theorem leave10 (hO : Ok m) (c : Dev nD) (t : Fin (cfgM m hO).N) :
    owns (c : Thread nD τ) (ms0_10 m hO t) fullShare ((dats m hO 0 c).after 10 t) ⊢ ((dats m hO 0 c).leavesExact 10 t : sProp 𝕄) := by
  have hf : ((cfgM m hO).win 10).flush t = true := flush0_10 (adm m hO) t
  unfold Dat.leavesExact
  generalize (cfgM m hO).idle 10 ((cfgM m hO).grid.coords t) = b
  rw [hf]
  cases b <;> exact Idealize.SL.BI.Entails.refl _

/-- At a point that writes the block back, the obligation asks for the named contents, idle or not. -/
theorem leave11 (hO : Ok m) (c : Dev nD) (t : Fin (cfgM m hO).N) :
    owns (c : Thread nD τ) (ms0_11 m hO t) fullShare ((dats m hO 0 c).after 11 t) ⊢ ((dats m hO 0 c).leavesExact 11 t : sProp 𝕄) := by
  have hf : ((cfgM m hO).win 11).flush t = true := flush0_11 (adm m hO) t
  unfold Dat.leavesExact
  generalize (cfgM m hO).idle 11 ((cfgM m hO).grid.coords t) = b
  rw [hf]
  cases b <;> exact Idealize.SL.BI.Entails.refl _

/-- At a point that writes the block back, the obligation asks for the named contents, idle or not. -/
theorem leave12 (hO : Ok m) (c : Dev nD) (t : Fin (cfgM m hO).N) :
    owns (c : Thread nD τ) (ms0_12 m hO t) fullShare ((dats m hO 0 c).after 12 t) ⊢ ((dats m hO 0 c).leavesExact 12 t : sProp 𝕄) := by
  have hf : ((cfgM m hO).win 12).flush t = true := flush0_12 (adm m hO) t
  unfold Dat.leavesExact
  generalize (cfgM m hO).idle 12 ((cfgM m hO).grid.coords t) = b
  rw [hf]
  cases b <;> exact Idealize.SL.BI.Entails.refl _

theorem leave0 (hO : Ok m) (c : Dev nD) (t : Fin (cfgM m hO).N) :
    owns (c : Thread nD τ) (ms0_0 m hO t) fullShare ((dats m hO 0 c).after 0 t) ⊢ ((dats m hO 0 c).leavesExact 0 t : sProp 𝕄) :=
  Idealize.SL.BI.Entails.refl _

theorem leave1 (hO : Ok m) (c : Dev nD) (t : Fin (cfgM m hO).N) :
    owns (c : Thread nD τ) (ms0_1 m hO t) fullShare ((dats m hO 0 c).after 1 t) ⊢ ((dats m hO 0 c).leavesExact 1 t : sProp 𝕄) :=
  Idealize.SL.BI.Entails.refl _

theorem leave2 (hO : Ok m) (c : Dev nD) (t : Fin (cfgM m hO).N) :
    owns (c : Thread nD τ) (ms0_2 m hO t) fullShare ((dats m hO 0 c).after 2 t) ⊢ ((dats m hO 0 c).leavesExact 2 t : sProp 𝕄) :=
  Idealize.SL.BI.Entails.refl _

theorem leave3 (hO : Ok m) (c : Dev nD) (t : Fin (cfgM m hO).N) :
    owns (c : Thread nD τ) (ms0_3 m hO t) fullShare ((dats m hO 0 c).after 3 t) ⊢ ((dats m hO 0 c).leavesExact 3 t : sProp 𝕄) :=
  Idealize.SL.BI.Entails.refl _

theorem leave4 (hO : Ok m) (c : Dev nD) (t : Fin (cfgM m hO).N) :
    owns (c : Thread nD τ) (ms0_4 m hO t) fullShare ((dats m hO 0 c).after 4 t) ⊢ ((dats m hO 0 c).leavesExact 4 t : sProp 𝕄) :=
  Idealize.SL.BI.Entails.refl _

theorem leave5 (hO : Ok m) (c : Dev nD) (t : Fin (cfgM m hO).N) :
    owns (c : Thread nD τ) (ms0_5 m hO t) fullShare ((dats m hO 0 c).after 5 t) ⊢ ((dats m hO 0 c).leavesExact 5 t : sProp 𝕄) :=
  Idealize.SL.BI.Entails.refl _

theorem leave6 (hO : Ok m) (c : Dev nD) (t : Fin (cfgM m hO).N) :
    owns (c : Thread nD τ) (ms0_6 m hO t) fullShare ((dats m hO 0 c).after 6 t) ⊢ ((dats m hO 0 c).leavesExact 6 t : sProp 𝕄) :=
  Idealize.SL.BI.Entails.refl _

theorem leave7 (hO : Ok m) (c : Dev nD) (t : Fin (cfgM m hO).N) :
    owns (c : Thread nD τ) (ms0_7 m hO t) fullShare ((dats m hO 0 c).after 7 t) ⊢ ((dats m hO 0 c).leavesExact 7 t : sProp 𝕄) :=
  Idealize.SL.BI.Entails.refl _

theorem leave8 (hO : Ok m) (c : Dev nD) (t : Fin (cfgM m hO).N) :
    owns (c : Thread nD τ) (ms0_8 m hO t) fullShare ((dats m hO 0 c).after 8 t) ⊢ ((dats m hO 0 c).leavesExact 8 t : sProp 𝕄) :=
  Idealize.SL.BI.Entails.refl _

set_option maxHeartbeats 4000000 in
/-- The library's body obligation, at every point. -/
theorem body_obligation (hO : Ok m) (c : Dev nD) : BodyObligation (dats (F := F) m hO 0 c) (defs₀ (F := F)) Variants.none () Set.univ := fun t => by
  rw [defs₀_row m hO]
  refine triple_restated (sound_body m hO c t) rfl ?_ fun _ => ?_
  · rw [bigSep_W0]; unfold bodyPre
    exact Idealize.SL.BI.Entails.refl _
  · show _ ⊢ iprop((dats m hO 0 c).Φ t.succ ∗ (dats m hO 0 c).owesAt () t.succ ∗ bigSep Finset.univ fun w : Fin (cfgM m hO).W => (dats m hO 0 c).leavesExact w t)
    rw [bigSep_W0]; unfold bodyPost
    iintro ⟨HP, Ho, H0, H1, H2, H3, H4, H5, H6, H7, H8, H9, H10, H11, H12⟩
    isplitl [HP]; · iexact HP
    isplitl [Ho]; · iexact Ho
    isplitl [H0]; · exact leave0 m hO c t
    isplitl [H1]; · exact leave1 m hO c t
    isplitl [H2]; · exact leave2 m hO c t
    isplitl [H3]; · exact leave3 m hO c t
    isplitl [H4]; · exact leave4 m hO c t
    isplitl [H5]; · exact leave5 m hO c t
    isplitl [H6]; · exact leave6 m hO c t
    isplitl [H7]; · exact leave7 m hO c t
    isplitl [H8]; · exact leave8 m hO c t
    isplitl [H9]; · iapply (leave9 m hO c t); iexact H9
    isplitl [H10]; · iapply (leave10 m hO c t); iexact H10
    isplitl [H11]; · iapply (leave11 m hO c t); iexact H11
    iapply (leave12 m hO c t); iexact H12

/-- What the launch hands the region is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After the last point the invariant gives the scoped rest back. -/
theorem hout (hO : Ok m) (c : Dev nD) : (dats m hO 0 c).Φ (Fin.last (cfgM m hO).N) ⊢ Pipeline.ΦA spec0 c := by
  have hN : (cfgM m hO).N = 128 := N_0
  rw [show (dats m hO 0 c).Φ (Fin.last (cfgM m hO).N) = PhiS m hO c (cfgM m hO).N le_rfl from rfl, PhiS_pos m hO c _ _ (by omega) ⟨0, by omega⟩, PhiA0_eq]
  iintro ⟨⟨⟨HS0, HS1, HS2⟩, Hg⟩, -⟩
  isplitl [HS0 HS1 HS2]
  · isplitl [HS0]
    · iexists _; iexact HS0
    isplitl [HS1]
    · iexact HS1
    iexact HS2
  iexact Hg

set_option backward.isDefEq.respectTransparency.types false in
/-- THE LAUNCH: every weakly fair execution terminates with every window's array at what its write-backs leave, everything else as the region found
    it, and every counter at zero. -/
theorem run_main (hO : Ok m) : θ_run defs (onTc (τ := τ) (main (F := F))) (s₀ m ρ) (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

/-- The arguments' arrays at a final state of the run. -/
theorem args_unchanged (hO : Ok m) (r : PUnit × MemSt nD τ sig (Elt F)) (h : Pipeline.FramePost (Pipeline.pin pcfgs fun _ => adm m hO) (dats m hO) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine ⟨((h c).1 0).trans (((dats m hO 0 c).arrAt_in 0 rfl _).trans ((A_eq m hO c 0).trans (V_arg m c main_arg0 (by decide)))), ((h c).1 1).trans (((dats m hO 0 c).arrAt_in 1 rfl _).trans ((A_eq m hO c 1).trans (V_arg m c main_arg1 (by decide)))), ((h c).1 3).trans (((dats m hO 0 c).arrAt_in 3 rfl _).trans ((A_eq m hO c 3).trans (V_arg m c main_arg2 (by decide)))), ((h c).1 2).trans (((dats m hO 0 c).arrAt_in 2 rfl _).trans ((A_eq m hO c 2).trans (V_arg m c main_arg3 (by decide)))), ((h c).2 main_arg4 (by decide : main_arg4 ∈ Pipeline.restRefs sig spec0)).trans (V_arg m c main_arg4 (by decide)), ((h c).2 main_arg5 (by decide : main_arg5 ∈ Pipeline.restRefs sig spec0)).trans (V_arg m c main_arg5 (by decide)), ((h c).2 main_arg6 (by decide : main_arg6 ∈ Pipeline.restRefs sig spec0)).trans (V_arg m c main_arg6 (by decide)), ((h c).1 7).trans (((dats m hO 0 c).arrAt_in 7 rfl _).trans ((A_eq m hO c 7).trans (V_arg m c main_arg7 (by decide)))), ((h c).1 8).trans (((dats m hO 0 c).arrAt_in 8 rfl _).trans ((A_eq m hO c 8).trans (V_arg m c main_arg8 (by decide))))⟩

/-- THE FRAME: every weakly fair execution terminates, the arguments' arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => args_unchanged m (adm_ok m) r h.1 c, h.2⟩) (run_main m ρ (adm_ok m))

end Cert.Kernel.Hand

end
-- ==== Proof.KI.Words.lean ====
/- The integer words of the kernel in closed form: which rows a grid point's tile holds, which branch the
   body takes there, and which block each index map that reads the sequence lengths points at. -/
module

public import proofs.«01_k».proof.Proof.Gen.KernelIdeal.Launch
public import proofs.«01_k».proof.Proof.Gen.KernelIdeal.Skeleton
public import Idealize.ShloMosaic.Lib.WordCmp

@[expose] public section

set_option maxRecDepth 16384

noncomputable section

namespace Cert.KernelIdeal.Hand

open Idealize.ShloMosaic Idealize.ShloMosaic.TcCoe Cert.KernelIdeal.Gen

variable {F : FTy → Type} [FloatOps F]

/-- The grid coordinate is below 128. -/
theorem coord_lt (i : grid0.Coords) : (i 0).val < 128 := (i 0).isLt

/-- The number of the tile in its sequence, as the kernel computes it. -/
def tileW (n : ℕ) : BitVec 32 :=
  Scalar.select (Scalar.andi (Scalar.xori (Scalar.cmpi .slt (Scalar.remsi (BitVec.ofNat 32 n) (Scalar.select (Scalar.cmpi .eq 64#32 0#32) 1#32 64#32)) 0#32) (Scalar.cmpi .slt (Scalar.select (Scalar.cmpi .eq 64#32 0#32) 1#32 64#32) 0#32)) (Scalar.cmpi .ne (Scalar.remsi (BitVec.ofNat 32 n) (Scalar.select (Scalar.cmpi .eq 64#32 0#32) 1#32 64#32)) 0#32)) (Scalar.addi (Scalar.remsi (BitVec.ofNat 32 n) (Scalar.select (Scalar.cmpi .eq 64#32 0#32) 1#32 64#32)) (Scalar.select (Scalar.cmpi .eq 64#32 0#32) 1#32 64#32)) (Scalar.remsi (BitVec.ofNat 32 n) (Scalar.select (Scalar.cmpi .eq 64#32 0#32) 1#32 64#32))

/-- The number of the sequence, as the kernel computes it. -/
def seqW (n : ℕ) : BitVec 32 :=
  Scalar.select (Scalar.andi (Scalar.cmpi .ne (Scalar.subi (Scalar.extui (Scalar.cmpi .sgt (BitVec.ofNat 32 n) 0#32)) (Scalar.extui (Scalar.cmpi .slt (BitVec.ofNat 32 n) 0#32))) (Scalar.subi (Scalar.extui (Scalar.cmpi .sgt 64#32 0#32)) (Scalar.extui (Scalar.cmpi .slt 64#32 0#32)))) (Scalar.cmpi .ne (Scalar.remsi (BitVec.ofNat 32 n) 64#32) 0#32)) (Scalar.subi (Scalar.divsi (BitVec.ofNat 32 n) 64#32) 1#32) (Scalar.divsi (BitVec.ofNat 32 n) 64#32)

/-- The number of the last tile with a valid row, as the index maps compute it from the length `x`. -/
def lastW (x : BitVec 32) : BitVec 32 :=
  let y : BitVec 32 := Scalar.maxsi (Scalar.subi x 1#32) 0#32
  Scalar.select (Scalar.andi (Scalar.cmpi .ne (Scalar.subi (Scalar.extui (Scalar.cmpi .sgt y 0#32)) (Scalar.extui (Scalar.cmpi .slt y 0#32))) (Scalar.subi (Scalar.extui (Scalar.cmpi .sgt 256#32 0#32)) (Scalar.extui (Scalar.cmpi .slt 256#32 0#32)))) (Scalar.cmpi .ne (Scalar.remsi y 256#32) 0#32)) (Scalar.subi (Scalar.divsi y 256#32) 1#32) (Scalar.divsi y 256#32)

theorem tileW_eq (n : ℕ) (h : n < 128) : tileW n = BitVec.ofNat 32 (n % 64) :=
  (by decide +kernel : ∀ k : Fin 128, tileW k.val = BitVec.ofNat 32 (k.val % 64)) ⟨n, h⟩

theorem seqW_eq (n : ℕ) (h : n < 128) : seqW n = BitVec.ofNat 32 (n / 64) :=
  (by decide +kernel : ∀ k : Fin 128, seqW k.val = BitVec.ofNat 32 (k.val / 64)) ⟨n, h⟩

/-- Division of a natural word by 256. -/
theorem divsi_256 (n : ℕ) (h : n < 2147483648) : Scalar.divsi (BitVec.ofNat 32 n) 256#32 = BitVec.ofNat 32 (n / 256) := by
  have hc : ¬ IntOp.SDivCorner (BitVec.ofNat 32 n) 256#32 := by
    unfold IntOp.SDivCorner; rintro (h | ⟨-, h⟩) <;> exact absurd h (by decide)
  simp only [Scalar.divsi, IntOp.divsi]
  rw [if_neg hc]
  have e : (BitVec.ofNat 32 n).msb = false := by
    rw [BitVec.msb_eq_false_iff_two_mul_lt, BitVec.toNat_ofNat]; omega
  rw [BitVec.sdiv_eq, e, show (256#32 : BitVec 32).msb = false from by decide]
  apply BitVec.eq_of_toNat_eq
  show (BitVec.udiv (BitVec.ofNat 32 n) 256#32).toNat = _
  rw [BitVec.udiv_eq, BitVec.toNat_udiv, BitVec.toNat_ofNat, BitVec.toNat_ofNat, BitVec.toNat_ofNat,
    Nat.mod_eq_of_lt (show n < 2 ^ 32 by omega), Nat.mod_eq_of_lt (show 256 < 2 ^ 32 by omega), Nat.mod_eq_of_lt (show n / 256 < 2 ^ 32 by omega)]

theorem lastW_eq (x : BitVec 32) : lastW x = BitVec.ofNat 32 ((x - 1#32).toInt.toNat / 256) := by
  have hy : Scalar.maxsi (Scalar.subi x 1#32) 0#32 = BitVec.ofNat 32 (x - 1#32).toInt.toNat := by
    have key : ∀ z : BitVec 32, (if (0#32 : BitVec 32).slt z = true then z else 0#32) = BitVec.ofNat 32 z.toInt.toNat := by
      intro z
      by_cases hz : (0#32 : BitVec 32).slt z = true
      · rw [if_pos hz]
        rw [BitVec.slt_iff_toInt_lt] at hz
        apply BitVec.eq_of_toInt_eq
        have h2 := z.toInt_lt
        have h0 : (0#32 : BitVec 32).toInt = 0 := by decide
        rw [WordCmp.toInt_ofNat_of_lt (by omega)]
        omega
      · rw [if_neg hz]
        rw [BitVec.slt_iff_toInt_lt] at hz
        have h0 : (0#32 : BitVec 32).toInt = 0 := by decide
        rw [show z.toInt.toNat = 0 by omega]
    exact key (x - 1#32)
  unfold lastW
  rw [hy]
  have hb := (x - 1#32).toInt_lt
  generalize hn : (x - 1#32).toInt.toNat = n
  have hlt : n < 2147483648 := by omega
  dsimp only
  rw [divsi_256 n hlt]
  have e1 : Scalar.cmpi .slt (BitVec.ofNat 32 n) 0#32 = 0#1 := by
    simp only [Scalar.cmpi, IntOp.cmpi, BitVec.slt, WordCmp.toInt_ofNat_of_lt (w := 32) (a := n) (by omega)]
    rw [show (0#32 : BitVec 32).toInt = 0 from by decide, decide_eq_false (by omega)]; rfl
  rw [e1]
  by_cases h0 : n = 0
  · subst h0; decide
  · have e2 : Scalar.cmpi .sgt (BitVec.ofNat 32 n) 0#32 = 1#1 := by
      simp only [Scalar.cmpi, IntOp.cmpi, BitVec.slt, WordCmp.toInt_ofNat_of_lt (w := 32) (a := n) (by omega)]
      rw [show (0#32 : BitVec 32).toInt = 0 from by decide, decide_eq_true (by omega)]; rfl
    rw [e2]
    have e3 : ∀ b : BitVec 1, Scalar.andi (Scalar.cmpi .ne (Scalar.subi (Scalar.extui 1#1) (Scalar.extui 0#1)) (Scalar.subi (Scalar.extui (Scalar.cmpi .sgt 256#32 0#32)) (Scalar.extui (Scalar.cmpi .slt 256#32 0#32)))) b = 0#1 := by decide
    rw [e3]
    rfl

/-- The number of the tile whose rows the input windows hold at point `n` under the length `x`. -/
def tin (n : ℕ) (x : BitVec 32) : ℕ := min (n % 64) ((x - 1#32).toInt.toNat / 256)

theorem minW_eq (n : ℕ) (h : n < 128) (x : BitVec 32) :
    (Scalar.minsi (tileW n) (lastW x)).toNat = tin n x := by
  rw [tileW_eq n h, lastW_eq]
  have hb := (x - 1#32).toInt_lt
  unfold tin
  generalize hm : (x - 1#32).toInt.toNat / 256 = k
  have hk : k < 8388608 := by omega
  simp only [Scalar.minsi, IntOp.minsi, BitVec.slt, WordCmp.toInt_ofNat_of_lt (w := 32) (a := n % 64) (by omega),
    WordCmp.toInt_ofNat_of_lt (w := 32) (a := k) (by omega)]
  split <;> rename_i hc <;> simp only [decide_eq_true_eq] at hc <;> rw [BitVec.toNat_ofNat] <;> omega

theorem seqW_toNat (n : ℕ) (h : n < 128) : (seqW n).toNat = n / 64 := by
  rw [seqW_eq n h, BitVec.toNat_ofNat]; omega

theorem tileW_toNat (n : ℕ) (h : n < 128) : (tileW n).toNat = n % 64 := by
  rw [tileW_eq n h, BitVec.toNat_ofNat]; omega

/-- The length word of the sequence that point `i` works on. -/
def lenAt (pf : pre0.Contents (Elt F)) (i : grid0.Coords) : BitVec 32 :=
  pf.at 0 (Rect.unit (s := S2) (k0_off1 i) S1.size (k0_off1_inb i)) numel1_S1

theorem transform_0 (pf : pre0.Contents (Elt F)) (i : grid0.Coords) :
    cc0_transform_0 k0_off1_inb numel1_S1 pf i = ![(i 0).val / 64, tin (i 0).val (lenAt pf i), 0] := by
  have h := coord_lt i
  rw [← seqW_toNat _ h, ← minW_eq _ h]; rfl

theorem transform_1 (pf : pre0.Contents (Elt F)) (i : grid0.Coords) :
    cc0_transform_1 k0_off1_inb numel1_S1 pf i = ![(i 0).val / 64, tin (i 0).val (lenAt pf i), 0] := by
  have h := coord_lt i
  rw [← seqW_toNat _ h, ← minW_eq _ h]; rfl

theorem transform_7 (pf : pre0.Contents (Elt F)) (i : grid0.Coords) :
    cc0_transform_7 k0_off1_inb numel1_S1 pf i = ![(i 0).val / 64, tin (i 0).val (lenAt pf i), 0] := by
  have h := coord_lt i
  rw [← seqW_toNat _ h, ← minW_eq _ h]; rfl

theorem transform_8 (pf : pre0.Contents (Elt F)) (i : grid0.Coords) :
    cc0_transform_8 k0_off1_inb numel1_S1 pf i = ![(i 0).val / 64, tin (i 0).val (lenAt pf i), 0] := by
  have h := coord_lt i
  rw [← seqW_toNat _ h, ← minW_eq _ h]; rfl

theorem transform_5 (pf : pre0.Contents (Elt F)) (i : grid0.Coords) :
    cc0_transform_5 k0_off1_inb numel1_S1 pf i = ![64 * ((i 0).val / 64) + tin (i 0).val (lenAt pf i), 0, 0] := by
  have h := coord_lt i
  have e : cc0_transform_5 k0_off1_inb numel1_S1 pf i = ![(Scalar.addi (Scalar.muli (seqW (i 0).val) 64#32) (Scalar.minsi (tileW (i 0).val) (lastW (lenAt pf i)))).toNat, 0, 0] := rfl
  rw [e]
  have h1 := seqW_toNat _ h
  have h2 := minW_eq _ h (lenAt pf i)
  have h3 : tin (i 0).val (lenAt pf i) < 64 := by unfold tin; omega
  congr 1
  simp only [Scalar.addi, IntOp.addi, Scalar.muli, IntOp.muli, BitVec.toNat_add, BitVec.toNat_mul, h1, h2, BitVec.toNat_ofNat]
  omega

theorem transform_9 (i : grid0.Coords) : cc0_transform_9 i = ![(i 0).val / 64, (i 0).val % 64, 0] := by
  have h := coord_lt i
  rw [← seqW_toNat _ h, ← tileW_toNat _ h]; rfl
theorem transform_10 (i : grid0.Coords) : cc0_transform_10 i = ![(i 0).val / 64, (i 0).val % 64, 0, 0] := by
  have h := coord_lt i
  rw [← seqW_toNat _ h, ← tileW_toNat _ h]; rfl
theorem transform_11 (i : grid0.Coords) : cc0_transform_11 i = ![(i 0).val / 64, (i 0).val % 64, 0] := by
  have h := coord_lt i
  rw [← seqW_toNat _ h, ← tileW_toNat _ h]; rfl
theorem transform_12 (i : grid0.Coords) : cc0_transform_12 i = ![(i 0).val / 64, (i 0).val % 64, 0] := by
  have h := coord_lt i
  rw [← seqW_toNat _ h, ← tileW_toNat _ h]; rfl

/-- The number of valid rows of the tile, as a word: the length less the tile's first row. -/
def nValid (i : grid0.Coords) (v : BitVec 32) : BitVec 32 := v - BitVec.ofNat 32 (256 * ((i 0).val % 64))

theorem nValid_eq (i : grid0.Coords) (v : BitVec 32) : nValid i v = Scalar.subi v (Scalar.muli (tileW (i 0).val) 256#32) := by
  rw [tileW_eq _ (coord_lt i)]
  unfold nValid
  simp only [Scalar.subi, IntOp.subi, Scalar.muli, IntOp.muli]
  congr 1
  apply BitVec.eq_of_toNat_eq
  simp only [BitVec.toNat_mul, BitVec.toNat_ofNat]
  omega

theorem k0_cond3_iff (i : grid0.Coords) (v : BitVec 32) : k0_cond3 i v = 1#1 ↔ 0 < (nValid i v).toInt := by
  have e : k0_cond3 i v = Scalar.cmpi .ne (Scalar.extui (Scalar.cmpi .sgt (nValid i v) 0#32)) 0#32 := by
    rw [nValid_eq]; rfl
  rw [e]
  have : ∀ b : Bool, Scalar.cmpi .ne (Scalar.extui (BitVec.ofBool b)) 0#32 = 1#1 ↔ b = true := by decide
  simp only [Scalar.cmpi, IntOp.cmpi] at this ⊢
  rw [this, BitVec.slt_iff_toInt_lt]; rfl

theorem k0_cond2_iff (i : grid0.Coords) (v : BitVec 32) : k0_cond2 i v = 1#1 ↔ ¬ 0 < (nValid i v).toInt := by
  have e : k0_cond2 i v = Scalar.cmpi .ne (Scalar.extui (Scalar.cmpi .sle (nValid i v) 0#32)) 0#32 := by
    rw [nValid_eq]; rfl
  rw [e]
  have : ∀ b : Bool, Scalar.cmpi .ne (Scalar.extui (BitVec.ofBool b)) 0#32 = 1#1 ↔ b = true := by decide
  simp only [Scalar.cmpi, IntOp.cmpi] at this ⊢
  rw [this, BitVec.sle_iff_toInt_le, show (0#32 : BitVec 32).toInt = 0 from rfl]; omega

/-- The body pads exactly where it does not work on tokens. -/
theorem cond2_iff_not_cond3 (i : grid0.Coords) (v : BitVec 32) : k0_cond2 i v = 1#1 ↔ ¬ k0_cond3 i v = 1#1 := by
  rw [k0_cond2_iff, k0_cond3_iff]

/-- The first point, and no other, widens the weight. -/
theorem k0_cond1_iff (i : grid0.Coords) : k0_cond1 i = 1#1 ↔ (i 0).val = 0 := by
  have h := coord_lt i
  have e : k0_cond1 i = Scalar.cmpi .ne (Scalar.extui (Scalar.cmpi .eq (BitVec.ofNat 32 (i 0).val) 0#32)) 0#32 := rfl
  rw [e]
  exact (by decide +kernel : ∀ k : Fin 128, Scalar.cmpi .ne (Scalar.extui (Scalar.cmpi .eq (BitVec.ofNat 32 k.val) 0#32)) 0#32 = 1#1 ↔ k.val = 0) ⟨_, h⟩

/-- Every block the index maps point at lies inside its array, whatever the lengths. -/
theorem ok (pf : pre0.Contents (Elt F)) : ok0 pf := by
  have ht : ∀ i, tin (i 0).val (lenAt pf i) < 64 := fun i => by unfold tin; omega
  have hb : ∀ i : grid0.Coords, (i 0).val / 64 < 2 := fun i => by have := coord_lt i; omega
  unfold ok0
  refine ⟨fun i => ?_, fun i => ?_, fun i => ?_, fun i => ?_, fun i => ?_⟩
  · have h : (∀ a, (cc0_transform_0 k0_off1_inb numel1_S1 pf i a + 1) * S1x256x7168.size a ≤ S2x16384x7168.size a) := by
      rw [transform_0]; intro a; have := ht i; have := hb i
      fin_cases a <;> simp [Shape.size] <;> omega
    exact ⟨h, .inr (Affine.block_words_dvd (of_decide_eq_true rfl) (by decide))⟩
  · have h : (∀ a, (cc0_transform_1 k0_off1_inb numel1_S1 pf i a + 1) * S1x256x56.size a ≤ S2x16384x56.size a) := by
      rw [transform_1]; intro a; have := ht i; have := hb i
      fin_cases a <;> simp [Shape.size] <;> omega
    exact ⟨h, .inr (Affine.block_words_dvd (of_decide_eq_true rfl) (by decide))⟩
  · have h : (∀ a, (cc0_transform_5 k0_off1_inb numel1_S1 pf i a + 1) * S1x1x256.size a ≤ S128x1x256.size a) := by
      rw [transform_5]; intro a; have := ht i; have := hb i
      fin_cases a <;> simp [Shape.size] <;> omega
    exact ⟨h, .inr (Affine.block_words_dvd (of_decide_eq_true rfl) (by decide))⟩
  · have h : (∀ a, (cc0_transform_7 k0_off1_inb numel1_S1 pf i a + 1) * S1x256x512.size a ≤ S2x16384x512.size a) := by
      rw [transform_7]; intro a; have := ht i; have := hb i
      fin_cases a <;> simp [Shape.size] <;> omega
    exact ⟨h, .inr (Affine.block_words_dvd (of_decide_eq_true rfl) (by decide))⟩
  · have h : (∀ a, (cc0_transform_8 k0_off1_inb numel1_S1 pf i a + 1) * S1x256x64.size a ≤ S2x16384x64.size a) := by
      rw [transform_8]; intro a; have := ht i; have := hb i
      fin_cases a <;> simp [Shape.size] <;> omega
    exact ⟨h, .inr (Affine.block_words_dvd (of_decide_eq_true rfl) (by decide))⟩

end Cert.KernelIdeal.Hand

end
-- ==== Proof.KI.Setup.lean ====
/- What the runs of the kernel's body share: the buffers as the region finds them, the length table, each
   window's block at a grid point, and the staging and scratch memrefs the body is called with. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.KI.Words
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes an argument: the region finds each as launched. -/
theorem V_arg (c : Dev nD) (b : Ref sig .tc) (hb : b ∈ ([main_arg0, main_arg1, main_arg2, main_arg3, main_arg4, main_arg5, main_arg6, main_arg7, main_arg8] : List (Ref sig .tc))) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by rintro rfl; revert hb; decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; `adm_ok` proves it for every contents. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2 .i32 := Memref.whole main_arg6
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The side condition holds at every launch. -/
theorem adm_ok : Ok m := ok _

/-! An input window's current staging buffer holds its block at every point, fetched there or not, for any proof data whose
    array is `V`'s and whose body leaves the block in place. -/

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, spelled as the pipeline passes it (`bodyAt0`), and its wholeness. -/
abbrev ms0_0 (hO : Ok m) (t : Fin (cfgM m hO).N) : Memref sig .tc .vmem S1x256x7168 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x256x56 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .smem S5x56 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S576x7168 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x512 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x256 .i32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S64x1 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x256x512 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x256x64 .bf16 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x256x7168 .bf16 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x1x2x512 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x256x576 .fp8e5m2 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x256x5 .f32 := spec0_12.stage ((cfgM m hO).slots t 12)
abbrev hs0_12 (hO : Ok m) (t : Fin (cfgM m hO).N) : (ms0_12 m hO t).IsWhole := hstage0_12 (((cfgM m hO).slots t 12).cast nbuf0_12)
/-- The scratch operands: whole scoped buffers of the kernel's own, passed beside the windows. -/
abbrev scM0_0 : Memref sig .tc .vmem S576x7168 .bf16 := Memref.whole cc0_scratch0
abbrev scM0_1 : Memref sig .tc .vmem S256x7168 .bf16 := Memref.whole cc0_scratch1
abbrev scM0_2 : Memref sig .tc .vmem S256x576 .bf16 := Memref.whole cc0_scratch2
/-- The scratch `arg15` the kernel carries between points, as a view: what it holds is stated through it. -/
abbrev VS0_0 : View sig .tc .vmem S576x7168 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- Window 9 (result 0 (%16#0)) is written back at every point, at any contents of the tables (its index map reads none). -/
theorem flush0_9 (a : (pcfg0 (F := F)).Adm) : ∀ t : Fin (cfg0 a).N, ((cfg0 a).win 9).flush t = true :=
  (by decide +kernel : ∀ t : Fin grid0.N, Pipeline.Window.flushOf grid0 true cc0_transform_9 t = true)
/-- Window 10 (result 1 (%16#1)) is written back at every point, at any contents of the tables (its index map reads none). -/
theorem flush0_10 (a : (pcfg0 (F := F)).Adm) : ∀ t : Fin (cfg0 a).N, ((cfg0 a).win 10).flush t = true :=
  (by decide +kernel : ∀ t : Fin grid0.N, Pipeline.Window.flushOf grid0 true cc0_transform_10 t = true)
/-- Window 11 (result 2 (%16#2)) is written back at every point, at any contents of the tables (its index map reads none). -/
theorem flush0_11 (a : (pcfg0 (F := F)).Adm) : ∀ t : Fin (cfg0 a).N, ((cfg0 a).win 11).flush t = true :=
  (by decide +kernel : ∀ t : Fin grid0.N, Pipeline.Window.flushOf grid0 true cc0_transform_11 t = true)
/-- Window 12 (result 3 (%16#3)) is written back at every point, at any contents of the tables (its index map reads none). -/
theorem flush0_12 (a : (pcfg0 (F := F)).Adm) : ∀ t : Fin (cfg0 a).N, ((cfg0 a).win 12).flush t = true :=
  (by decide +kernel : ∀ t : Fin grid0.N, Pipeline.Window.flushOf grid0 true cc0_transform_12 t = true)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_kv_down_bwd (grid0.coords t) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (Memref.whole cc0_scratch0) (Memref.isWhole_whole _) (Memref.whole cc0_scratch1) (Memref.isWhole_whole _) (Memref.whole cc0_scratch2) (Memref.isWhole_whole _)

end Cert.KernelIdeal.Hand

end
-- ==== Proof.KI.Tok.lean ====
/- The body's work on tokens: its run on any staging memrefs. -/
module

public import proofs.«01_k».proof.Proof.KI.Setup

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

/-- What the body does at a point that has tokens, `v30` of them or more. -/
noncomputable def tokens (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (v30 : BitVec 32) :
    Prog (TpuEff nD τ sig (Elt F) Λ₀ .tc) PUnit := do
  let v943 : FVec F S256x64 .bf16 ← k0_part24 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30
  let v944 : Vec F S256x64 .bf16 ← Prog.lift (.load arg17 (Rect.unit (s := S256x576) ![0, 512] S256x64.size inb_S256x576_S256x64_0_512).toLoadRect (View.loadsAt_vmem h_S256x64))
  Prog.lift (.store arg17 (Rect.unit (s := S256x576) ![0, 512] S256x64.size inb_S256x576_S256x64_0_512) (k0_pay1 v943) Finset.univ (View.stores_vmem h_S256x64 (harg17.storeExact_slice rfl _ packedbf16_S256x576_S256x64_0_512) (fun _ => rfl)) (.inl rfl))
  let v947 : Vec F S256x576 .bf16 ← Prog.lift (.load arg17 (Rect.unit (s := S256x576) ![0, 0] S256x576.size inb_S256x576_S256x576_0_0).toLoadRect (View.loadsAt_vmem h_S256x576))
  let v948 : Vec F S576x7168 .bf16 ← Prog.lift (.load arg15 (Rect.unit (s := S576x7168) ![0, 0] S576x7168.size inb_S576x7168_S576x7168_0_0).toLoadRect (View.loadsAt_vmem h_S576x7168))
  let v951 : Vec F S1x256x7168 .bf16 ← Prog.lift (.load arg11 (Rect.unit (s := S1x256x7168) ![0, 0, 0] S1x256x7168.size inb_S1x256x7168_S1x256x7168_0_0_0).toLoadRect (View.loadsAt_vmem h_S1x256x7168))
  Prog.lift (.store arg11 (Rect.unit (s := S1x256x7168) ![0, 0, 0] S1x256x7168.size inb_S1x256x7168_S1x256x7168_0_0_0) (k0_pay2 v947 v948) Finset.univ (View.stores_vmem h_S1x256x7168 (harg11.storeExact_slice rfl _ packedbf16_S1x256x7168_S1x256x7168_0_0_0) (fun _ => rfl)) (.inl rfl))
  pure ⟨⟩

/-- The whole body: the first part, then the tokens where there are any. -/
theorem body_split (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) :
    cc0_kv_down_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = (k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 >>= fun r =>
      (if h : k0_cond3 i r.1 = 1#1 then tokens i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 r.2.1 else pure PUnit.unit) >>= fun _ => pure PUnit.unit) := by
  rw [cc0_kv_down_bwd_eq_skeleton]
  unfold cc0_kv_down_bwd_skel tokens
  refine congrArg (Bind.bind _) (funext fun r => ?_)
  obtain ⟨a, b, d⟩ := r
  dsimp only
  split_ifs <;> rfl

set_option maxHeartbeats 4000000 in
/-- THE TOKENS: the pieces the body's stores leave in each output, found by the run. -/
noncomputable def tokRun (c : Dev nD) (v30 : BitVec 32) (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole)
    (x0 : Vec F S1x256x7168 .fp8e4m3) (x1 : Vec F S1x256x56 .f32) (x4 : Vec F S1x512 .f32) (x5 : Vec F S1x1x256 .i32) (x6 : Vec F S64x1 .f32) (x7 : Vec F S1x256x512 .bf16) (x8 : Vec F S1x256x64 .bf16) (W : Vec F S576x7168 .bf16) :
    { L : List (View.Piece (Elt F) S1x256x7168 .bf16) × List (View.Piece (Elt F) S1x1x2x512 .f32) × List (View.Piece (Elt F) S1x256x576 .fp8e5m2) × List (View.Piece (Elt F) S1x256x5 .f32) //
      ∀ (E : Set ℕ) (K : PUnit → sProp 𝕄),
        iprop(owns (c : Thread nD τ) arg2 fullShare x0 ∗ owns (c : Thread nD τ) arg3 fullShare x1 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare W ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L.1) ∗ (∃ f, arg12.view.loc (c : Thread nD τ) ↦[arg12.view.set]{fullShare} arg12.view.writes (Elt F) f L.2.1) ∗ (∃ f, arg13.view.loc (c : Thread nD τ) ↦[arg13.view.set]{fullShare} arg13.view.writes (Elt F) f L.2.2.1) ∗ (∃ f, arg14.view.loc (c : Thread nD τ) ↦[arg14.view.set]{fullShare} arg14.view.writes (Elt F) f L.2.2.2) ∗ owns (c : Thread nD τ) arg15 fullShare W ∗ (∃ d, owns (c : Thread nD τ) arg16 fullShare d) ∗ (∃ d, owns (c : Thread nD τ) arg17 fullShare d)) -∗ K ⟨⟩))
          ⊢ wp frame (wpE (defs₀ (F := F)) Variants.none c none) E (tokens i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30) K } := by
  refine ⟨(?_, ?_, ?_, ?_), fun E K => ?run⟩
  case run =>
    unfold tokens
    simp only [k0_part24_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%fs0, %hfs0, HS0⟩, ⟨%ds1, %fs1, -, HS1⟩, ⟨%ds2, %fs2, -, HS2⟩, Hk⟩
    obtain rfl := harg2.eq_unread hf0; obtain rfl := harg3.eq_unread hf1; obtain rfl := harg6.eq_unread hf4; obtain rfl := harg7.eq_unread hf5; obtain rfl := harg8.eq_unread hf6; obtain rfl := harg9.eq_unread hf7; obtain rfl := harg10.eq_unread hf8; obtain rfl := harg15.eq_unread hfs0
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [H12]; · iexists _; iexact H12
    isplitl [HS0]
    · iexists _; isplitr; · ipureintro; exact harg15.read_unread _
      iexact HS0
    isplitl [HS1]
    · iexists _, _; isplitr; swap; · iexact HS1
      ipureintro; rfl
    iexists _, _; isplitr; swap; · iexact HS2
    ipureintro; rfl

end Cert.KernelIdeal.Hand

end
-- ==== Proof.KI.Wide.lean ====
/- The weight, widened once: what the first grid point leaves in the scratch that the later points read. -/
module

public import proofs.«01_k».proof.Proof.KI.Setup
public import Idealize.ShloMosaic.Lib.WholeRead
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

/-- One element of the widened weight: the code at bf16 times its block's scale at bf16. -/
def widePt (s : Elt F .f32) (w : Elt F .fp8e4m3) : Elt F .bf16 :=
  FloatOps.mulf (FloatOps.extf .bf16 bitsLt_fp8e4m3_bf16 w) (FloatOps.truncf .bf16 bitsLt_bf16_f32 s)

/-- The scale's place for a place of the weight: blocks of 128 by 128. -/
def sIx (y : S576x7168.Idx) : S5x56.Idx
  | ⟨0, _⟩ => ⟨(y 0).val / 128, by have : (y 0).val < 576 := (y 0).isLt; show _ < 5; omega⟩
  | ⟨1, _⟩ => ⟨(y 1).val / 128, by have : (y 1).val < 7168 := (y 1).isLt; show _ < 56; omega⟩

/-- The weight widened: every code times its block's scale. -/
def wide (x2 : Vec F S5x56 .f32) (x3 : Vec F S576x7168 .fp8e4m3) : Vec F S576x7168 .bf16 := fun y => widePt (x2 (sIx y)) (x3 y)

theorem pay126_apply (s : Elt F .f32) (v : Vec F S128x128 .fp8e4m3) (x : S128x128.Idx) : k0_pay126 s v x = widePt s (v x) := by
  unfold k0_pay126; rw [shapeCast_self]; rfl
theorem pay127_apply (s : Elt F .f32) (v : Vec F S128x128 .fp8e4m3) (x : S128x128.Idx) : k0_pay127 s v x = widePt s (v x) := by
  unfold k0_pay127; rw [shapeCast_self]; rfl
theorem pay128_apply (s : Elt F .f32) (v : Vec F S128x128 .fp8e4m3) (x : S128x128.Idx) : k0_pay128 s v x = widePt s (v x) := by
  unfold k0_pay128; rw [shapeCast_self]; rfl
theorem pay129_apply (s : Elt F .f32) (v : Vec F S128x128 .fp8e4m3) (x : S128x128.Idx) : k0_pay129 s v x = widePt s (v x) := by
  unfold k0_pay129; rw [shapeCast_self]; rfl
theorem pay130_apply (s : Elt F .f32) (v : Vec F S64x128 .fp8e4m3) (x : S64x128.Idx) : k0_pay130 s v x = widePt s (v x) := by
  unfold k0_pay130; rw [shapeCast_self]; rfl

/-- Trip `k` of loop 1 stores into block row 0, block column `k` what `wide` holds there. -/
theorem trip1 (c : Dev nD) (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (h1 : k0_cond1 i = 1#1) (x2 : Vec F S5x56 .f32) (x3 : Vec F S576x7168 .fp8e4m3) (k : Fin k0_t1_loop.trips) :
    ∀ p ∈ tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg4.unread x2) (harg5.unread x3) k, ∀ x : p.1.shape.Idx, p.2 x = wide x2 x3 (p.1.emb x) := by
  have hk : k.val < 56 := Nat.lt_of_lt_of_le k.isLt k0_t1_abs.2.1
  unfold tripL_k0_t1 trip_k0_t1
  dsimp only
  intro p hp x
  obtain rfl := List.mem_singleton.mp hp
  refine (pay126_apply _ _ x).trans (congrArg₂ widePt ?_ ?_)
  · unfold trip_k0_t1.sl.r
    refine (harg4.readAt_unread x2 _ _).trans (congrArg x2 (funext fun a => Fin.ext ?_))
    have h0 : (x 0).val < 128 := (x 0).isLt
    have h1 : (x 1).val < 128 := (x 1).isLt
    have e1 := congrFun (k0_off2_eq k)
    have e2 := congrFun (k0_off3_eq k)
    match a with
    | ⟨0, _⟩ =>
      show k0_off2 k 0 + 1 * 0 = (k0_off3 k 0 + 1 * (x 0).val) / 128
      rw [e1, e2]; show 0 + 1 * 0 = (0 + 1 * (x 0).val) / 128; omega
    | ⟨1, _⟩ =>
      show k0_off2 k 1 + 1 * 0 = (k0_off3 k 1 + 1 * (x 1).val) / 128
      rw [e1, e2]; show k.val + 1 * 0 = (128 * k.val + 1 * (x 1).val) / 128; omega
  · exact harg5.readAt_unread x3 _ _

theorem pieces1 (c : Dev nD) (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (h1 : k0_cond1 i = 1#1) (x2 : Vec F S5x56 .f32) (x3 : Vec F S576x7168 .fp8e4m3) : ∀ k : ℕ, k ≤ k0_t1_loop.trips →
    ∀ p ∈ pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg4.unread x2) (harg5.unread x3) k, ∀ x : p.1.shape.Idx, p.2 x = wide x2 x3 (p.1.emb x)
  | 0, _ => fun p hp => absurd hp List.not_mem_nil
  | k + 1, hk => by
    rw [pb_k0_t1_succ (k := ⟨k, hk⟩)]
    intro p hp
    rcases List.mem_append.mp hp with hp | hp
    · exact trip1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 x2 x3 _ p hp
    · exact pieces1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 x2 x3 k (Nat.le_of_succ_le hk) p hp

/-- Trip `k` of loop 2 stores into block row 1, block column `k` what `wide` holds there. -/
theorem trip2 (c : Dev nD) (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (h1 : k0_cond1 i = 1#1) (x2 : Vec F S5x56 .f32) (x3 : Vec F S576x7168 .fp8e4m3) (k : Fin k0_t2_loop.trips) :
    ∀ p ∈ tripL_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg4.unread x2) (harg5.unread x3) k, ∀ x : p.1.shape.Idx, p.2 x = wide x2 x3 (p.1.emb x) := by
  have hk : k.val < 56 := Nat.lt_of_lt_of_le k.isLt k0_t2_abs.2.1
  unfold tripL_k0_t2 trip_k0_t2
  dsimp only
  intro p hp x
  obtain rfl := List.mem_singleton.mp hp
  refine (pay127_apply _ _ x).trans (congrArg₂ widePt ?_ ?_)
  · unfold trip_k0_t2.sl.r
    refine (harg4.readAt_unread x2 _ _).trans (congrArg x2 (funext fun a => Fin.ext ?_))
    have h0 : (x 0).val < 128 := (x 0).isLt
    have h1 : (x 1).val < 128 := (x 1).isLt
    have e1 := congrFun (k0_off4_eq k)
    have e2 := congrFun (k0_off5_eq k)
    match a with
    | ⟨0, _⟩ =>
      show k0_off4 k 0 + 1 * 0 = (k0_off5 k 0 + 1 * (x 0).val) / 128
      rw [e1, e2]; show 1 + 1 * 0 = (128 + 1 * (x 0).val) / 128; omega
    | ⟨1, _⟩ =>
      show k0_off4 k 1 + 1 * 0 = (k0_off5 k 1 + 1 * (x 1).val) / 128
      rw [e1, e2]; show k.val + 1 * 0 = (128 * k.val + 1 * (x 1).val) / 128; omega
  · exact harg5.readAt_unread x3 _ _

theorem pieces2 (c : Dev nD) (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (h1 : k0_cond1 i = 1#1) (x2 : Vec F S5x56 .f32) (x3 : Vec F S576x7168 .fp8e4m3) : ∀ k : ℕ, k ≤ k0_t2_loop.trips →
    ∀ p ∈ pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg4.unread x2) (harg5.unread x3) k, ∀ x : p.1.shape.Idx, p.2 x = wide x2 x3 (p.1.emb x)
  | 0, _ => fun p hp => absurd hp List.not_mem_nil
  | k + 1, hk => by
    rw [pb_k0_t2_succ (k := ⟨k, hk⟩)]
    intro p hp
    rcases List.mem_append.mp hp with hp | hp
    · exact trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 x2 x3 _ p hp
    · exact pieces2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 x2 x3 k (Nat.le_of_succ_le hk) p hp

/-- Trip `k` of loop 3 stores into block row 2, block column `k` what `wide` holds there. -/
theorem trip3 (c : Dev nD) (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (h1 : k0_cond1 i = 1#1) (x2 : Vec F S5x56 .f32) (x3 : Vec F S576x7168 .fp8e4m3) (k : Fin k0_t3_loop.trips) :
    ∀ p ∈ tripL_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg4.unread x2) (harg5.unread x3) k, ∀ x : p.1.shape.Idx, p.2 x = wide x2 x3 (p.1.emb x) := by
  have hk : k.val < 56 := Nat.lt_of_lt_of_le k.isLt k0_t3_abs.2.1
  unfold tripL_k0_t3 trip_k0_t3
  dsimp only
  intro p hp x
  obtain rfl := List.mem_singleton.mp hp
  refine (pay128_apply _ _ x).trans (congrArg₂ widePt ?_ ?_)
  · unfold trip_k0_t3.sl.r
    refine (harg4.readAt_unread x2 _ _).trans (congrArg x2 (funext fun a => Fin.ext ?_))
    have h0 : (x 0).val < 128 := (x 0).isLt
    have h1 : (x 1).val < 128 := (x 1).isLt
    have e1 := congrFun (k0_off6_eq k)
    have e2 := congrFun (k0_off7_eq k)
    match a with
    | ⟨0, _⟩ =>
      show k0_off6 k 0 + 1 * 0 = (k0_off7 k 0 + 1 * (x 0).val) / 128
      rw [e1, e2]; show 2 + 1 * 0 = (256 + 1 * (x 0).val) / 128; omega
    | ⟨1, _⟩ =>
      show k0_off6 k 1 + 1 * 0 = (k0_off7 k 1 + 1 * (x 1).val) / 128
      rw [e1, e2]; show k.val + 1 * 0 = (128 * k.val + 1 * (x 1).val) / 128; omega
  · exact harg5.readAt_unread x3 _ _

theorem pieces3 (c : Dev nD) (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (h1 : k0_cond1 i = 1#1) (x2 : Vec F S5x56 .f32) (x3 : Vec F S576x7168 .fp8e4m3) : ∀ k : ℕ, k ≤ k0_t3_loop.trips →
    ∀ p ∈ pb_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg4.unread x2) (harg5.unread x3) k, ∀ x : p.1.shape.Idx, p.2 x = wide x2 x3 (p.1.emb x)
  | 0, _ => fun p hp => absurd hp List.not_mem_nil
  | k + 1, hk => by
    rw [pb_k0_t3_succ (k := ⟨k, hk⟩)]
    intro p hp
    rcases List.mem_append.mp hp with hp | hp
    · exact trip3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 x2 x3 _ p hp
    · exact pieces3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 x2 x3 k (Nat.le_of_succ_le hk) p hp

/-- Trip `k` of loop 4 stores into block row 3, block column `k` what `wide` holds there. -/
theorem trip4 (c : Dev nD) (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (h1 : k0_cond1 i = 1#1) (x2 : Vec F S5x56 .f32) (x3 : Vec F S576x7168 .fp8e4m3) (k : Fin k0_t4_loop.trips) :
    ∀ p ∈ tripL_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg4.unread x2) (harg5.unread x3) k, ∀ x : p.1.shape.Idx, p.2 x = wide x2 x3 (p.1.emb x) := by
  have hk : k.val < 56 := Nat.lt_of_lt_of_le k.isLt k0_t4_abs.2.1
  unfold tripL_k0_t4 trip_k0_t4
  dsimp only
  intro p hp x
  obtain rfl := List.mem_singleton.mp hp
  refine (pay129_apply _ _ x).trans (congrArg₂ widePt ?_ ?_)
  · unfold trip_k0_t4.sl.r
    refine (harg4.readAt_unread x2 _ _).trans (congrArg x2 (funext fun a => Fin.ext ?_))
    have h0 : (x 0).val < 128 := (x 0).isLt
    have h1 : (x 1).val < 128 := (x 1).isLt
    have e1 := congrFun (k0_off8_eq k)
    have e2 := congrFun (k0_off9_eq k)
    match a with
    | ⟨0, _⟩ =>
      show k0_off8 k 0 + 1 * 0 = (k0_off9 k 0 + 1 * (x 0).val) / 128
      rw [e1, e2]; show 3 + 1 * 0 = (384 + 1 * (x 0).val) / 128; omega
    | ⟨1, _⟩ =>
      show k0_off8 k 1 + 1 * 0 = (k0_off9 k 1 + 1 * (x 1).val) / 128
      rw [e1, e2]; show k.val + 1 * 0 = (128 * k.val + 1 * (x 1).val) / 128; omega
  · exact harg5.readAt_unread x3 _ _

theorem pieces4 (c : Dev nD) (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (h1 : k0_cond1 i = 1#1) (x2 : Vec F S5x56 .f32) (x3 : Vec F S576x7168 .fp8e4m3) : ∀ k : ℕ, k ≤ k0_t4_loop.trips →
    ∀ p ∈ pb_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg4.unread x2) (harg5.unread x3) k, ∀ x : p.1.shape.Idx, p.2 x = wide x2 x3 (p.1.emb x)
  | 0, _ => fun p hp => absurd hp List.not_mem_nil
  | k + 1, hk => by
    rw [pb_k0_t4_succ (k := ⟨k, hk⟩)]
    intro p hp
    rcases List.mem_append.mp hp with hp | hp
    · exact trip4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 x2 x3 _ p hp
    · exact pieces4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 x2 x3 k (Nat.le_of_succ_le hk) p hp

/-- Trip `k` of loop 5 stores into block row 4, block column `k` what `wide` holds there. -/
theorem trip5 (c : Dev nD) (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (h1 : k0_cond1 i = 1#1) (x2 : Vec F S5x56 .f32) (x3 : Vec F S576x7168 .fp8e4m3) (k : Fin k0_t5_loop.trips) :
    ∀ p ∈ tripL_k0_t5 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg4.unread x2) (harg5.unread x3) k, ∀ x : p.1.shape.Idx, p.2 x = wide x2 x3 (p.1.emb x) := by
  have hk : k.val < 56 := Nat.lt_of_lt_of_le k.isLt k0_t5_abs.2.1
  unfold tripL_k0_t5 trip_k0_t5
  dsimp only
  intro p hp x
  obtain rfl := List.mem_singleton.mp hp
  refine (pay130_apply _ _ x).trans (congrArg₂ widePt ?_ ?_)
  · unfold trip_k0_t5.sl.r
    refine (harg4.readAt_unread x2 _ _).trans (congrArg x2 (funext fun a => Fin.ext ?_))
    have h0 : (x 0).val < 64 := (x 0).isLt
    have h1 : (x 1).val < 128 := (x 1).isLt
    have e1 := congrFun (k0_off10_eq k)
    have e2 := congrFun (k0_off11_eq k)
    match a with
    | ⟨0, _⟩ =>
      show k0_off10 k 0 + 1 * 0 = (k0_off11 k 0 + 1 * (x 0).val) / 128
      rw [e1, e2]; show 4 + 1 * 0 = (512 + 1 * (x 0).val) / 128; omega
    | ⟨1, _⟩ =>
      show k0_off10 k 1 + 1 * 0 = (k0_off11 k 1 + 1 * (x 1).val) / 128
      rw [e1, e2]; show k.val + 1 * 0 = (128 * k.val + 1 * (x 1).val) / 128; omega
  · exact harg5.readAt_unread x3 _ _

theorem pieces5 (c : Dev nD) (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (h1 : k0_cond1 i = 1#1) (x2 : Vec F S5x56 .f32) (x3 : Vec F S576x7168 .fp8e4m3) : ∀ k : ℕ, k ≤ k0_t5_loop.trips →
    ∀ p ∈ pb_k0_t5 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (harg4.unread x2) (harg5.unread x3) k, ∀ x : p.1.shape.Idx, p.2 x = wide x2 x3 (p.1.emb x)
  | 0, _ => fun p hp => absurd hp List.not_mem_nil
  | k + 1, hk => by
    rw [pb_k0_t5_succ (k := ⟨k, hk⟩)]
    intro p hp
    rcases List.mem_append.mp hp with hp | hp
    · exact trip5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 x2 x3 _ p hp
    · exact pieces5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 x2 x3 k (Nat.le_of_succ_le hk) p hp

set_option maxHeartbeats 2000000 in
/-- The body's first part at a first point, nothing valid. -/
noncomputable def part25FirstPad (c : Dev nD) (i : grid0.Coords) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (hc1 : k0_cond1 i = 1#1) (x2 : Vec F S5x56 .f32) (x3 : Vec F S576x7168 .fp8e4m3) (xt0 : TbBuf0 (F := F) c tbM0_0) (hc2 : k0_cond2 i (tbM0_0.view.readAt (Elt F) (Rect.unit (s := S2) (k0_off1 i) S1.size (k0_off1_inb i)).toLoadRect xt0 (Shape.Idx.first (numel1_S1.symm ▸ Nat.one_pos))) = 1#1) :
    { LS0 : List (View.Piece (Elt F) S576x7168 .bf16) // ∀ (E : Set ℕ) (K : (Σ' (v29 : Elt F .i32) (v30 : BitVec 32), BitVec 1) → sProp 𝕄),
        iprop(owns (c : Thread nD τ) arg4 fullShare x2 ∗ owns (c : Thread nD τ) arg5 fullShare x3 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0 ∗ (iprop(owns (c : Thread nD τ) arg4 fullShare x2 ∗ owns (c : Thread nD τ) arg5 fullShare x3 ∗ owns (c : Thread nD τ) arg11 fullShare (k0_pay131 (F := F)) ∗ owns (c : Thread nD τ) arg12 fullShare (k0_pay132 (F := F)) ∗ owns (c : Thread nD τ) arg13 fullShare (k0_pay133 (F := F)) ∗ owns (c : Thread nD τ) arg14 fullShare (k0_pay134 (F := F)) ∗ (∃ f, arg15.view.loc (c : Thread nD τ) ↦[arg15.view.set]{fullShare} arg15.view.writes (Elt F) f LS0) ∗ tbPt0 c tbM0_0 xt0) -∗ K (⟨(tbM0_0.view.readAt (Elt F) (Rect.unit (s := S2) (k0_off1 i) S1.size (k0_off1_inb i)).toLoadRect xt0 (Shape.Idx.first (numel1_S1.symm ▸ Nat.one_pos))), nValid i (tbM0_0.view.readAt (Elt F) (Rect.unit (s := S2) (k0_off1 i) S1.size (k0_off1_inb i)).toLoadRect xt0 (Shape.Idx.first (numel1_S1.symm ▸ Nat.one_pos))), Scalar.cmpi .sgt (nValid i (tbM0_0.view.readAt (Elt F) (Rect.unit (s := S2) (k0_off1 i) S1.size (k0_off1_inb i)).toLoadRect xt0 (Shape.Idx.first (numel1_S1.symm ▸ Nat.one_pos)))) 0#32⟩ : Σ' (v29 : Elt F .i32) (v30 : BitVec 32), BitVec 1)))
          ⊢ wp frame (wpE (defs₀ (F := F)) Variants.none c none) E (k0_part25 i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [k0_part25_eq_skeleton]; unfold k0_part25_skel
    unfold owns
    iintro ⟨⟨%f2, %hf2, H2⟩, ⟨%f3, %hf3, H3⟩, ⟨%d9, %f9, -, H9⟩, ⟨%d10, %f10, -, H10⟩, ⟨%d11, %f11, -, H11⟩, ⟨%d12, %f12, -, H12⟩, ⟨%ds0, %fs0, -, HS0⟩, HT0, Hk⟩
    obtain rfl := harg4.eq_unread hf2; obtain rfl := harg5.eq_unread hf3
    sl_exec (disch := first | sl_exact hc1 | sl_exact hc2)
    sl_step
    have e : (⟨part25FirstPad.sl.r c i xt0, part25FirstPad.sl.v30 c i xt0, part25FirstPad.sl.v37 c i xt0⟩ : Σ' (v29 : Elt F .i32) (v30 : BitVec 32), BitVec 1) =
        ⟨(tbM0_0.view.readAt (Elt F) (Rect.unit (s := S2) (k0_off1 i) S1.size (k0_off1_inb i)).toLoadRect xt0 (Shape.Idx.first (numel1_S1.symm ▸ Nat.one_pos))), nValid i (tbM0_0.view.readAt (Elt F) (Rect.unit (s := S2) (k0_off1 i) S1.size (k0_off1_inb i)).toLoadRect xt0 (Shape.Idx.first (numel1_S1.symm ▸ Nat.one_pos))), Scalar.cmpi .sgt (nValid i (tbM0_0.view.readAt (Elt F) (Rect.unit (s := S2) (k0_off1 i) S1.size (k0_off1_inb i)).toLoadRect xt0 (Shape.Idx.first (numel1_S1.symm ▸ Nat.one_pos)))) 0#32⟩ := by
      rw [nValid_eq]; rfl
    rw [e]
    iapply Hk
    isplitl [H2]
    · iexists _; isplitr; · ipureintro; exact harg4.read_unread _
      iexact H2
    isplitl [H3]
    · iexists _; isplitr; · ipureintro; exact harg5.read_unread _
      iexact H3
    isplitl [H9]
    · iexists _; isplitr; swap; · iexact H9
      ipureintro; exact View.read_writes_full _ _ _ _ _
    isplitl [H10]
    · iexists _; isplitr; swap; · iexact H10
      ipureintro; exact View.read_writes_full _ _ _ _ _
    isplitl [H11]
    · iexists _; isplitr; swap; · iexact H11
      ipureintro; exact View.read_writes_full _ _ _ _ _
    isplitl [H12]
    · iexists _; isplitr; swap; · iexact H12
      ipureintro; exact View.read_writes_full _ _ _ _ _
    isplitl [HS0]; · iexists _; iexact HS0
    iexact HT0

set_option maxHeartbeats 2000000 in
/-- The body's first part at a first point, some tokens. -/
noncomputable def part25FirstTok (c : Dev nD) (i : grid0.Coords) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (hc1 : k0_cond1 i = 1#1) (x2 : Vec F S5x56 .f32) (x3 : Vec F S576x7168 .fp8e4m3) (xt0 : TbBuf0 (F := F) c tbM0_0) (hc2 : ¬k0_cond2 i (tbM0_0.view.readAt (Elt F) (Rect.unit (s := S2) (k0_off1 i) S1.size (k0_off1_inb i)).toLoadRect xt0 (Shape.Idx.first (numel1_S1.symm ▸ Nat.one_pos))) = 1#1) :
    { LS0 : List (View.Piece (Elt F) S576x7168 .bf16) // ∀ (E : Set ℕ) (K : (Σ' (v29 : Elt F .i32) (v30 : BitVec 32), BitVec 1) → sProp 𝕄),
        iprop(owns (c : Thread nD τ) arg4 fullShare x2 ∗ owns (c : Thread nD τ) arg5 fullShare x3 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0 ∗ (iprop(owns (c : Thread nD τ) arg4 fullShare x2 ∗ owns (c : Thread nD τ) arg5 fullShare x3 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ f, arg15.view.loc (c : Thread nD τ) ↦[arg15.view.set]{fullShare} arg15.view.writes (Elt F) f LS0) ∗ tbPt0 c tbM0_0 xt0) -∗ K (⟨(tbM0_0.view.readAt (Elt F) (Rect.unit (s := S2) (k0_off1 i) S1.size (k0_off1_inb i)).toLoadRect xt0 (Shape.Idx.first (numel1_S1.symm ▸ Nat.one_pos))), nValid i (tbM0_0.view.readAt (Elt F) (Rect.unit (s := S2) (k0_off1 i) S1.size (k0_off1_inb i)).toLoadRect xt0 (Shape.Idx.first (numel1_S1.symm ▸ Nat.one_pos))), Scalar.cmpi .sgt (nValid i (tbM0_0.view.readAt (Elt F) (Rect.unit (s := S2) (k0_off1 i) S1.size (k0_off1_inb i)).toLoadRect xt0 (Shape.Idx.first (numel1_S1.symm ▸ Nat.one_pos)))) 0#32⟩ : Σ' (v29 : Elt F .i32) (v30 : BitVec 32), BitVec 1)))
          ⊢ wp frame (wpE (defs₀ (F := F)) Variants.none c none) E (k0_part25 i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [k0_part25_eq_skeleton]; unfold k0_part25_skel
    unfold owns
    iintro ⟨⟨%f2, %hf2, H2⟩, ⟨%f3, %hf3, H3⟩, ⟨%d9, %f9, -, H9⟩, ⟨%d10, %f10, -, H10⟩, ⟨%d11, %f11, -, H11⟩, ⟨%d12, %f12, -, H12⟩, ⟨%ds0, %fs0, -, HS0⟩, HT0, Hk⟩
    obtain rfl := harg4.eq_unread hf2; obtain rfl := harg5.eq_unread hf3
    sl_exec (disch := first | sl_exact hc1 | sl_exact hc2)
    sl_step
    have e : (⟨part25FirstTok.sl.r c i xt0, part25FirstTok.sl.v30 c i xt0, part25FirstTok.sl.v37 c i xt0⟩ : Σ' (v29 : Elt F .i32) (v30 : BitVec 32), BitVec 1) =
        ⟨(tbM0_0.view.readAt (Elt F) (Rect.unit (s := S2) (k0_off1 i) S1.size (k0_off1_inb i)).toLoadRect xt0 (Shape.Idx.first (numel1_S1.symm ▸ Nat.one_pos))), nValid i (tbM0_0.view.readAt (Elt F) (Rect.unit (s := S2) (k0_off1 i) S1.size (k0_off1_inb i)).toLoadRect xt0 (Shape.Idx.first (numel1_S1.symm ▸ Nat.one_pos))), Scalar.cmpi .sgt (nValid i (tbM0_0.view.readAt (Elt F) (Rect.unit (s := S2) (k0_off1 i) S1.size (k0_off1_inb i)).toLoadRect xt0 (Shape.Idx.first (numel1_S1.symm ▸ Nat.one_pos)))) 0#32⟩ := by
      rw [nValid_eq]; rfl
    rw [e]
    iapply Hk
    isplitl [H2]
    · iexists _; isplitr; · ipureintro; exact harg4.read_unread _
      iexact H2
    isplitl [H3]
    · iexists _; isplitr; · ipureintro; exact harg5.read_unread _
      iexact H3
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]; · iexists _; iexact HS0
    iexact HT0

set_option maxHeartbeats 2000000 in
/-- The body's first part at a later point, nothing valid. -/
theorem part25LaterPad (c : Dev nD) (i : grid0.Coords) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (hc1 : ¬k0_cond1 i = 1#1) (x2 : Vec F S5x56 .f32) (x3 : Vec F S576x7168 .fp8e4m3) (W : Vec F S576x7168 .bf16) (xt0 : TbBuf0 (F := F) c tbM0_0) (hc2 : k0_cond2 i (tbM0_0.view.readAt (Elt F) (Rect.unit (s := S2) (k0_off1 i) S1.size (k0_off1_inb i)).toLoadRect xt0 (Shape.Idx.first (numel1_S1.symm ▸ Nat.one_pos))) = 1#1) : ∀ (E : Set ℕ) (K : (Σ' (v29 : Elt F .i32) (v30 : BitVec 32), BitVec 1) → sProp 𝕄),
        iprop(owns (c : Thread nD τ) arg4 fullShare x2 ∗ owns (c : Thread nD τ) arg5 fullShare x3 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare W ∗ tbPt0 c tbM0_0 xt0 ∗ (iprop(owns (c : Thread nD τ) arg4 fullShare x2 ∗ owns (c : Thread nD τ) arg5 fullShare x3 ∗ owns (c : Thread nD τ) arg11 fullShare (k0_pay131 (F := F)) ∗ owns (c : Thread nD τ) arg12 fullShare (k0_pay132 (F := F)) ∗ owns (c : Thread nD τ) arg13 fullShare (k0_pay133 (F := F)) ∗ owns (c : Thread nD τ) arg14 fullShare (k0_pay134 (F := F)) ∗ owns (c : Thread nD τ) arg15 fullShare W ∗ tbPt0 c tbM0_0 xt0) -∗ K (⟨(tbM0_0.view.readAt (Elt F) (Rect.unit (s := S2) (k0_off1 i) S1.size (k0_off1_inb i)).toLoadRect xt0 (Shape.Idx.first (numel1_S1.symm ▸ Nat.one_pos))), nValid i (tbM0_0.view.readAt (Elt F) (Rect.unit (s := S2) (k0_off1 i) S1.size (k0_off1_inb i)).toLoadRect xt0 (Shape.Idx.first (numel1_S1.symm ▸ Nat.one_pos))), Scalar.cmpi .sgt (nValid i (tbM0_0.view.readAt (Elt F) (Rect.unit (s := S2) (k0_off1 i) S1.size (k0_off1_inb i)).toLoadRect xt0 (Shape.Idx.first (numel1_S1.symm ▸ Nat.one_pos)))) 0#32⟩ : Σ' (v29 : Elt F .i32) (v30 : BitVec 32), BitVec 1)))
          ⊢ wp frame (wpE (defs₀ (F := F)) Variants.none c none) E (k0_part25 i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  intro E K
  have hrun : True := trivial
  on_goal 1 =>
    simp only [k0_part25_eq_skeleton]; unfold k0_part25_skel
    unfold owns
    iintro ⟨⟨%f2, %hf2, H2⟩, ⟨%f3, %hf3, H3⟩, ⟨%d9, %f9, -, H9⟩, ⟨%d10, %f10, -, H10⟩, ⟨%d11, %f11, -, H11⟩, ⟨%d12, %f12, -, H12⟩, ⟨%fs0, %hfs0, HS0⟩, HT0, Hk⟩
    obtain rfl := harg4.eq_unread hf2; obtain rfl := harg5.eq_unread hf3; obtain rfl := harg15.eq_unread hfs0
    sl_exec (disch := first | sl_exact hc1 | sl_exact hc2)
    sl_step
    have e : (⟨part25LaterPad.sl.r c i xt0, part25LaterPad.sl.v30 c i xt0, part25LaterPad.sl.v37 c i xt0⟩ : Σ' (v29 : Elt F .i32) (v30 : BitVec 32), BitVec 1) =
        ⟨(tbM0_0.view.readAt (Elt F) (Rect.unit (s := S2) (k0_off1 i) S1.size (k0_off1_inb i)).toLoadRect xt0 (Shape.Idx.first (numel1_S1.symm ▸ Nat.one_pos))), nValid i (tbM0_0.view.readAt (Elt F) (Rect.unit (s := S2) (k0_off1 i) S1.size (k0_off1_inb i)).toLoadRect xt0 (Shape.Idx.first (numel1_S1.symm ▸ Nat.one_pos))), Scalar.cmpi .sgt (nValid i (tbM0_0.view.readAt (Elt F) (Rect.unit (s := S2) (k0_off1 i) S1.size (k0_off1_inb i)).toLoadRect xt0 (Shape.Idx.first (numel1_S1.symm ▸ Nat.one_pos)))) 0#32⟩ := by
      rw [nValid_eq]; rfl
    rw [e]
    iapply Hk
    isplitl [H2]
    · iexists _; isplitr; · ipureintro; exact harg4.read_unread _
      iexact H2
    isplitl [H3]
    · iexists _; isplitr; · ipureintro; exact harg5.read_unread _
      iexact H3
    isplitl [H9]
    · iexists _; isplitr; swap; · iexact H9
      ipureintro; exact View.read_writes_full _ _ _ _ _
    isplitl [H10]
    · iexists _; isplitr; swap; · iexact H10
      ipureintro; exact View.read_writes_full _ _ _ _ _
    isplitl [H11]
    · iexists _; isplitr; swap; · iexact H11
      ipureintro; exact View.read_writes_full _ _ _ _ _
    isplitl [H12]
    · iexists _; isplitr; swap; · iexact H12
      ipureintro; exact View.read_writes_full _ _ _ _ _
    isplitl [HS0]
    · iexists _; isplitr; · ipureintro; exact harg15.read_unread _
      iexact HS0
    iexact HT0

set_option maxHeartbeats 2000000 in
/-- The body's first part at a later point, some tokens. -/
theorem part25LaterTok (c : Dev nD) (i : grid0.Coords) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (hc1 : ¬k0_cond1 i = 1#1) (x2 : Vec F S5x56 .f32) (x3 : Vec F S576x7168 .fp8e4m3) (W : Vec F S576x7168 .bf16) (xt0 : TbBuf0 (F := F) c tbM0_0) (hc2 : ¬k0_cond2 i (tbM0_0.view.readAt (Elt F) (Rect.unit (s := S2) (k0_off1 i) S1.size (k0_off1_inb i)).toLoadRect xt0 (Shape.Idx.first (numel1_S1.symm ▸ Nat.one_pos))) = 1#1) : ∀ (E : Set ℕ) (K : (Σ' (v29 : Elt F .i32) (v30 : BitVec 32), BitVec 1) → sProp 𝕄),
        iprop(owns (c : Thread nD τ) arg4 fullShare x2 ∗ owns (c : Thread nD τ) arg5 fullShare x3 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare W ∗ tbPt0 c tbM0_0 xt0 ∗ (iprop(owns (c : Thread nD τ) arg4 fullShare x2 ∗ owns (c : Thread nD τ) arg5 fullShare x3 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare W ∗ tbPt0 c tbM0_0 xt0) -∗ K (⟨(tbM0_0.view.readAt (Elt F) (Rect.unit (s := S2) (k0_off1 i) S1.size (k0_off1_inb i)).toLoadRect xt0 (Shape.Idx.first (numel1_S1.symm ▸ Nat.one_pos))), nValid i (tbM0_0.view.readAt (Elt F) (Rect.unit (s := S2) (k0_off1 i) S1.size (k0_off1_inb i)).toLoadRect xt0 (Shape.Idx.first (numel1_S1.symm ▸ Nat.one_pos))), Scalar.cmpi .sgt (nValid i (tbM0_0.view.readAt (Elt F) (Rect.unit (s := S2) (k0_off1 i) S1.size (k0_off1_inb i)).toLoadRect xt0 (Shape.Idx.first (numel1_S1.symm ▸ Nat.one_pos)))) 0#32⟩ : Σ' (v29 : Elt F .i32) (v30 : BitVec 32), BitVec 1)))
          ⊢ wp frame (wpE (defs₀ (F := F)) Variants.none c none) E (k0_part25 i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  intro E K
  have hrun : True := trivial
  on_goal 1 =>
    simp only [k0_part25_eq_skeleton]; unfold k0_part25_skel
    unfold owns
    iintro ⟨⟨%f2, %hf2, H2⟩, ⟨%f3, %hf3, H3⟩, ⟨%d9, %f9, -, H9⟩, ⟨%d10, %f10, -, H10⟩, ⟨%d11, %f11, -, H11⟩, ⟨%d12, %f12, -, H12⟩, ⟨%fs0, %hfs0, HS0⟩, HT0, Hk⟩
    obtain rfl := harg4.eq_unread hf2; obtain rfl := harg5.eq_unread hf3; obtain rfl := harg15.eq_unread hfs0
    sl_exec (disch := first | sl_exact hc1 | sl_exact hc2)
    sl_step
    have e : (⟨part25LaterTok.sl.r c i xt0, part25LaterTok.sl.v30 c i xt0, part25LaterTok.sl.v37 c i xt0⟩ : Σ' (v29 : Elt F .i32) (v30 : BitVec 32), BitVec 1) =
        ⟨(tbM0_0.view.readAt (Elt F) (Rect.unit (s := S2) (k0_off1 i) S1.size (k0_off1_inb i)).toLoadRect xt0 (Shape.Idx.first (numel1_S1.symm ▸ Nat.one_pos))), nValid i (tbM0_0.view.readAt (Elt F) (Rect.unit (s := S2) (k0_off1 i) S1.size (k0_off1_inb i)).toLoadRect xt0 (Shape.Idx.first (numel1_S1.symm ▸ Nat.one_pos))), Scalar.cmpi .sgt (nValid i (tbM0_0.view.readAt (Elt F) (Rect.unit (s := S2) (k0_off1 i) S1.size (k0_off1_inb i)).toLoadRect xt0 (Shape.Idx.first (numel1_S1.symm ▸ Nat.one_pos)))) 0#32⟩ := by
      rw [nValid_eq]; rfl
    rw [e]
    iapply Hk
    isplitl [H2]
    · iexists _; isplitr; · ipureintro; exact harg4.read_unread _
      iexact H2
    isplitl [H3]
    · iexists _; isplitr; · ipureintro; exact harg5.read_unread _
      iexact H3
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]
    · iexists _; isplitr; · ipureintro; exact harg15.read_unread _
      iexact HS0
    iexact HT0

/-- What the first part leaves in the scratch is the widened weight. -/
theorem part25FirstPad_wide (c : Dev nD) (i : grid0.Coords) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (hc1 : k0_cond1 i = 1#1) (x2 : Vec F S5x56 .f32) (x3 : Vec F S576x7168 .fp8e4m3) (xt0 : TbBuf0 (F := F) c tbM0_0) (hc2 : k0_cond2 i (tbM0_0.view.readAt (Elt F) (Rect.unit (s := S2) (k0_off1 i) S1.size (k0_off1_inb i)).toLoadRect xt0 (Shape.Idx.first (numel1_S1.symm ▸ Nat.one_pos))) = 1#1) (f) :
    arg15.view.read (Elt F) (arg15.view.writes (Elt F) f (part25FirstPad c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 xt0 hc2).1) = wide x2 x3 := by
  funext y
  refine View.read_writes_apply_of_pieces _ _ (wide x2 x3) _ ?_ y (View.cover_of_tiledBy _ ![64,128] (by sl_kernel_rfl) y)
  unfold part25FirstPad
  dsimp only
  intro p hp
  simp only [List.mem_append, List.append_nil] at hp
  rcases hp with hp | hp | hp | hp | hp
  · exact pieces5 c i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 _ le_rfl p hp
  · exact pieces4 c i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 _ le_rfl p hp
  · exact pieces3 c i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 _ le_rfl p hp
  · exact pieces2 c i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 _ le_rfl p hp
  · exact pieces1 c i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 _ le_rfl p hp

/-- What the first part leaves in the scratch is the widened weight. -/
theorem part25FirstTok_wide (c : Dev nD) (i : grid0.Coords) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (hc1 : k0_cond1 i = 1#1) (x2 : Vec F S5x56 .f32) (x3 : Vec F S576x7168 .fp8e4m3) (xt0 : TbBuf0 (F := F) c tbM0_0) (hc2 : ¬k0_cond2 i (tbM0_0.view.readAt (Elt F) (Rect.unit (s := S2) (k0_off1 i) S1.size (k0_off1_inb i)).toLoadRect xt0 (Shape.Idx.first (numel1_S1.symm ▸ Nat.one_pos))) = 1#1) (f) :
    arg15.view.read (Elt F) (arg15.view.writes (Elt F) f (part25FirstTok c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 xt0 hc2).1) = wide x2 x3 := by
  funext y
  refine View.read_writes_apply_of_pieces _ _ (wide x2 x3) _ ?_ y (View.cover_of_tiledBy _ ![64,128] (by sl_kernel_rfl) y)
  unfold part25FirstTok
  dsimp only
  intro p hp
  simp only [List.mem_append, List.append_nil] at hp
  rcases hp with hp | hp | hp | hp | hp
  · exact pieces5 c i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 _ le_rfl p hp
  · exact pieces4 c i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 _ le_rfl p hp
  · exact pieces3 c i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 _ le_rfl p hp
  · exact pieces2 c i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 _ le_rfl p hp
  · exact pieces1 c i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 _ le_rfl p hp

end Cert.KernelIdeal.Hand

end
-- ==== Proof.KI.Body.lean ====
/- The whole body at one grid point: what it leaves in the four output blocks and in the carried scratch. -/
module

public import proofs.«01_k».proof.Proof.KI.Tok
public import proofs.«01_k».proof.Proof.KI.Wide

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

/-- The stores into output 9 at a tile with tokens cover its block. -/
theorem tokCover9 (c : Dev nD) (v30 : BitVec 32) (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (x0 : Vec F S1x256x7168 .fp8e4m3) (x1 : Vec F S1x256x56 .f32) (x4 : Vec F S1x512 .f32) (x5 : Vec F S1x1x256 .i32) (x6 : Vec F S64x1 .f32) (x7 : Vec F S1x256x512 .bf16) (x8 : Vec F S1x256x64 .bf16) (W : Vec F S576x7168 .bf16) (y : S1x256x7168.Idx) :
    ∃ p ∈ (tokRun c v30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 W).1.1, y ∈ p.1.set :=
  View.cover_of_tiledBy _ ![1,256,7168] (by sl_kernel_rfl) y

/-- Output 9's block after the body: the constant of a tile past the row count, else what the token part stores. -/
noncomputable def blk9 (c : Dev nD) (v : Elt F .i32) (i : grid0.Coords) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (x0 : Vec F S1x256x7168 .fp8e4m3) (x1 : Vec F S1x256x56 .f32) (x2 : Vec F S5x56 .f32) (x3 : Vec F S576x7168 .fp8e4m3) (x4 : Vec F S1x512 .f32) (x5 : Vec F S1x1x256 .i32) (x6 : Vec F S64x1 .f32) (x7 : Vec F S1x256x512 .bf16) (x8 : Vec F S1x256x64 .bf16) : Vec F S1x256x7168 .bf16 :=
  if k0_cond2 i v = 1#1 then k0_pay131 else
    arg11.view.read (Elt F) (arg11.view.writes (Elt F) arg11.view.junk (tokRun c (nValid i v) i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 (wide x2 x3)).1.1)

/-- The stores into output 10 at a tile with tokens cover its block. -/
theorem tokCover10 (c : Dev nD) (v30 : BitVec 32) (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (x0 : Vec F S1x256x7168 .fp8e4m3) (x1 : Vec F S1x256x56 .f32) (x4 : Vec F S1x512 .f32) (x5 : Vec F S1x1x256 .i32) (x6 : Vec F S64x1 .f32) (x7 : Vec F S1x256x512 .bf16) (x8 : Vec F S1x256x64 .bf16) (W : Vec F S576x7168 .bf16) (y : S1x1x2x512.Idx) :
    ∃ p ∈ (tokRun c v30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 W).1.2.1, y ∈ p.1.set :=
  View.cover_of_tiledBy _ ![1,1,2,512] (by sl_kernel_rfl) y

/-- Output 10's block after the body: the constant of a tile past the row count, else what the token part stores. -/
noncomputable def blk10 (c : Dev nD) (v : Elt F .i32) (i : grid0.Coords) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (x0 : Vec F S1x256x7168 .fp8e4m3) (x1 : Vec F S1x256x56 .f32) (x2 : Vec F S5x56 .f32) (x3 : Vec F S576x7168 .fp8e4m3) (x4 : Vec F S1x512 .f32) (x5 : Vec F S1x1x256 .i32) (x6 : Vec F S64x1 .f32) (x7 : Vec F S1x256x512 .bf16) (x8 : Vec F S1x256x64 .bf16) : Vec F S1x1x2x512 .f32 :=
  if k0_cond2 i v = 1#1 then k0_pay132 else
    arg12.view.read (Elt F) (arg12.view.writes (Elt F) arg12.view.junk (tokRun c (nValid i v) i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 (wide x2 x3)).1.2.1)

/-- The stores into output 11 at a tile with tokens cover its block. -/
theorem tokCover11 (c : Dev nD) (v30 : BitVec 32) (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (x0 : Vec F S1x256x7168 .fp8e4m3) (x1 : Vec F S1x256x56 .f32) (x4 : Vec F S1x512 .f32) (x5 : Vec F S1x1x256 .i32) (x6 : Vec F S64x1 .f32) (x7 : Vec F S1x256x512 .bf16) (x8 : Vec F S1x256x64 .bf16) (W : Vec F S576x7168 .bf16) (y : S1x256x576.Idx) :
    ∃ p ∈ (tokRun c v30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 W).1.2.2.1, y ∈ p.1.set :=
  View.cover_of_tiledBy _ ![1,256,64] (by sl_kernel_rfl) y

/-- Output 11's block after the body: the constant of a tile past the row count, else what the token part stores. -/
noncomputable def blk11 (c : Dev nD) (v : Elt F .i32) (i : grid0.Coords) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (x0 : Vec F S1x256x7168 .fp8e4m3) (x1 : Vec F S1x256x56 .f32) (x2 : Vec F S5x56 .f32) (x3 : Vec F S576x7168 .fp8e4m3) (x4 : Vec F S1x512 .f32) (x5 : Vec F S1x1x256 .i32) (x6 : Vec F S64x1 .f32) (x7 : Vec F S1x256x512 .bf16) (x8 : Vec F S1x256x64 .bf16) : Vec F S1x256x576 .fp8e5m2 :=
  if k0_cond2 i v = 1#1 then k0_pay133 else
    arg13.view.read (Elt F) (arg13.view.writes (Elt F) arg13.view.junk (tokRun c (nValid i v) i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 (wide x2 x3)).1.2.2.1)

/-- The stores into output 12 at a tile with tokens cover its block. -/
theorem tokCover12 (c : Dev nD) (v30 : BitVec 32) (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (x0 : Vec F S1x256x7168 .fp8e4m3) (x1 : Vec F S1x256x56 .f32) (x4 : Vec F S1x512 .f32) (x5 : Vec F S1x1x256 .i32) (x6 : Vec F S64x1 .f32) (x7 : Vec F S1x256x512 .bf16) (x8 : Vec F S1x256x64 .bf16) (W : Vec F S576x7168 .bf16) (y : S1x256x5.Idx) :
    ∃ p ∈ (tokRun c v30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 W).1.2.2.2, y ∈ p.1.set :=
  View.cover_of_tiledBy _ ![1,256,1] (by sl_kernel_rfl) y

/-- Output 12's block after the body: the constant of a tile past the row count, else what the token part stores. -/
noncomputable def blk12 (c : Dev nD) (v : Elt F .i32) (i : grid0.Coords) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (x0 : Vec F S1x256x7168 .fp8e4m3) (x1 : Vec F S1x256x56 .f32) (x2 : Vec F S5x56 .f32) (x3 : Vec F S576x7168 .fp8e4m3) (x4 : Vec F S1x512 .f32) (x5 : Vec F S1x1x256 .i32) (x6 : Vec F S64x1 .f32) (x7 : Vec F S1x256x512 .bf16) (x8 : Vec F S1x256x64 .bf16) : Vec F S1x256x5 .f32 :=
  if k0_cond2 i v = 1#1 then k0_pay134 else
    arg14.view.read (Elt F) (arg14.view.writes (Elt F) arg14.view.junk (tokRun c (nValid i v) i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 (wide x2 x3)).1.2.2.2)

set_option maxHeartbeats 2000000 in
/-- The body at the first point. -/
theorem bodyFirst (c : Dev nD) (i : grid0.Coords) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (hc1 : k0_cond1 i = 1#1) (x0 : Vec F S1x256x7168 .fp8e4m3) (x1 : Vec F S1x256x56 .f32) (x2 : Vec F S5x56 .f32) (x3 : Vec F S576x7168 .fp8e4m3) (x4 : Vec F S1x512 .f32) (x5 : Vec F S1x1x256 .i32) (x6 : Vec F S64x1 .f32) (x7 : Vec F S1x256x512 .bf16) (x8 : Vec F S1x256x64 .bf16) (xt0 : TbBuf0 (F := F) c tbM0_0) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ tbPt0 c tbM0_0 xt0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (blk9 c (tbM0_0.view.readAt (Elt F) (Rect.unit (s := S2) (k0_off1 i) S1.size (k0_off1_inb i)).toLoadRect xt0 (Shape.Idx.first (numel1_S1.symm ▸ Nat.one_pos))) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8) ∗ owns (c : Thread nD τ) arg12 fullShare (blk10 c (tbM0_0.view.readAt (Elt F) (Rect.unit (s := S2) (k0_off1 i) S1.size (k0_off1_inb i)).toLoadRect xt0 (Shape.Idx.first (numel1_S1.symm ▸ Nat.one_pos))) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8) ∗ owns (c : Thread nD τ) arg13 fullShare (blk11 c (tbM0_0.view.readAt (Elt F) (Rect.unit (s := S2) (k0_off1 i) S1.size (k0_off1_inb i)).toLoadRect xt0 (Shape.Idx.first (numel1_S1.symm ▸ Nat.one_pos))) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8) ∗ owns (c : Thread nD τ) arg14 fullShare (blk12 c (tbM0_0.view.readAt (Elt F) (Rect.unit (s := S2) (k0_off1 i) S1.size (k0_off1_inb i)).toLoadRect xt0 (Shape.Idx.first (numel1_S1.symm ▸ Nat.one_pos))) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8) ∗ owns (c : Thread nD τ) arg15 fullShare (wide x2 x3) ∗ (∃ d, owns (c : Thread nD τ) arg16 fullShare d) ∗ (∃ d, owns (c : Thread nD τ) arg17 fullShare d) ∗ tbPt0 c tbM0_0 xt0) -∗ K ⟨⟩))
      ⊢ wp frame (wpE (defs₀ (F := F)) Variants.none c none) E (cc0_kv_down_bwd (F := F) i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [body_split, wp_bind]
  by_cases hc2 : k0_cond2 i (tbM0_0.view.readAt (Elt F) (Rect.unit (s := S2) (k0_off1 i) S1.size (k0_off1_inb i)).toLoadRect xt0 (Shape.Idx.first (numel1_S1.symm ▸ Nat.one_pos))) = 1#1
  · have hc3 : ¬k0_cond3 i (tbM0_0.view.readAt (Elt F) (Rect.unit (s := S2) (k0_off1 i) S1.size (k0_off1_inb i)).toLoadRect xt0 (Shape.Idx.first (numel1_S1.symm ▸ Nat.one_pos))) = 1#1 := by
      have := cond2_iff_not_cond3 i (tbM0_0.view.readAt (Elt F) (Rect.unit (s := S2) (k0_off1 i) S1.size (k0_off1_inb i)).toLoadRect xt0 (Shape.Idx.first (numel1_S1.symm ▸ Nat.one_pos)))
      exact this.mp hc2
    unfold blk9 blk10 blk11 blk12
    simp only [if_pos hc2]
    iintro ⟨H0, H1, H2, H3, H4, H5, H6, H7, H8, H9, H10, H11, H12, HS0, HS1, HS2, HT0, Hk⟩
    iapply ((part25FirstPad c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 xt0 hc2).2 E _)
    isplitl [H2]; · iexact H2
    isplitl [H3]; · iexact H3
    isplitl [H9]; · iexact H9
    isplitl [H10]; · iexact H10
    isplitl [H11]; · iexact H11
    isplitl [H12]; · iexact H12
    isplitl [HS0]; · iexact HS0
    isplitl [HT0]; · iexact HT0
    iintro ⟨H2, H3, H9, H10, H11, H12, ⟨%es0, HS0⟩, HT0⟩
    dsimp only
    rw [wp_bind, dif_neg hc3]
    sl_step
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]
    · unfold owns; iexists _; isplitr
      swap; · iexact HS0
      ipureintro; exact part25FirstPad_wide c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 xt0 hc2 _
    isplitl [HS1]; · iexact HS1
    isplitl [HS2]; · iexact HS2
    iexact HT0
  · have hc3 : k0_cond3 i (tbM0_0.view.readAt (Elt F) (Rect.unit (s := S2) (k0_off1 i) S1.size (k0_off1_inb i)).toLoadRect xt0 (Shape.Idx.first (numel1_S1.symm ▸ Nat.one_pos))) = 1#1 := by
      have := cond2_iff_not_cond3 i (tbM0_0.view.readAt (Elt F) (Rect.unit (s := S2) (k0_off1 i) S1.size (k0_off1_inb i)).toLoadRect xt0 (Shape.Idx.first (numel1_S1.symm ▸ Nat.one_pos)))
      exact Classical.not_not.mp fun h => hc2 (this.mpr h)
    unfold blk9 blk10 blk11 blk12
    simp only [if_neg hc2]
    iintro ⟨H0, H1, H2, H3, H4, H5, H6, H7, H8, H9, H10, H11, H12, HS0, HS1, HS2, HT0, Hk⟩
    iapply ((part25FirstTok c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 xt0 hc2).2 E _)
    isplitl [H2]; · iexact H2
    isplitl [H3]; · iexact H3
    isplitl [H9]; · iexact H9
    isplitl [H10]; · iexact H10
    isplitl [H11]; · iexact H11
    isplitl [H12]; · iexact H12
    isplitl [HS0]; · iexact HS0
    isplitl [HT0]; · iexact HT0
    iintro ⟨H2, H3, H9, H10, H11, H12, ⟨%es0, HS0⟩, HT0⟩
    dsimp only
    rw [wp_bind, dif_pos hc3]
    iapply ((tokRun c (nValid i (tbM0_0.view.readAt (Elt F) (Rect.unit (s := S2) (k0_off1 i) S1.size (k0_off1_inb i)).toLoadRect xt0 (Shape.Idx.first (numel1_S1.symm ▸ Nat.one_pos)))) i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 (wide x2 x3)).2 E _)
    isplitl [H0]; · iexact H0
    isplitl [H1]; · iexact H1
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]
    · unfold owns; iexists _; isplitr
      swap; · iexact HS0
      ipureintro; exact part25FirstTok_wide c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 xt0 hc2 _
    isplitl [HS1]; · iexact HS1
    isplitl [HS2]; · iexact HS2
    iintro ⟨H0, H1, H4, H5, H6, H7, H8, ⟨%e9, H9⟩, ⟨%e10, H10⟩, ⟨%e11, H11⟩, ⟨%e12, H12⟩, HS0, HS1, HS2⟩
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (tokCover9 c _ i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 _)
    isplitl [H10]
    · unfold owns; iexists _; isplitr
      swap; · iexact H10
      ipureintro; exact View.read_writes_of_cover _ _ _ _ _ (tokCover10 c _ i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 _)
    isplitl [H11]
    · unfold owns; iexists _; isplitr
      swap; · iexact H11
      ipureintro; exact View.read_writes_of_cover _ _ _ _ _ (tokCover11 c _ i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 _)
    isplitl [H12]
    · unfold owns; iexists _; isplitr
      swap; · iexact H12
      ipureintro; exact View.read_writes_of_cover _ _ _ _ _ (tokCover12 c _ i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 _)
    isplitl [HS0]; · iexact HS0
    isplitl [HS1]; · iexact HS1
    isplitl [HS2]; · iexact HS2
    iexact HT0

set_option maxHeartbeats 2000000 in
/-- The body at a later point. -/
theorem bodyLater (c : Dev nD) (i : grid0.Coords) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (hc1 : ¬k0_cond1 i = 1#1) (x0 : Vec F S1x256x7168 .fp8e4m3) (x1 : Vec F S1x256x56 .f32) (x2 : Vec F S5x56 .f32) (x3 : Vec F S576x7168 .fp8e4m3) (x4 : Vec F S1x512 .f32) (x5 : Vec F S1x1x256 .i32) (x6 : Vec F S64x1 .f32) (x7 : Vec F S1x256x512 .bf16) (x8 : Vec F S1x256x64 .bf16) (xt0 : TbBuf0 (F := F) c tbM0_0) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare (wide x2 x3) ∗ (∃ d, owns (c : Thread nD τ) arg16 fullShare d) ∗ (∃ d, owns (c : Thread nD τ) arg17 fullShare d) ∗ tbPt0 c tbM0_0 xt0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (blk9 c (tbM0_0.view.readAt (Elt F) (Rect.unit (s := S2) (k0_off1 i) S1.size (k0_off1_inb i)).toLoadRect xt0 (Shape.Idx.first (numel1_S1.symm ▸ Nat.one_pos))) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8) ∗ owns (c : Thread nD τ) arg12 fullShare (blk10 c (tbM0_0.view.readAt (Elt F) (Rect.unit (s := S2) (k0_off1 i) S1.size (k0_off1_inb i)).toLoadRect xt0 (Shape.Idx.first (numel1_S1.symm ▸ Nat.one_pos))) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8) ∗ owns (c : Thread nD τ) arg13 fullShare (blk11 c (tbM0_0.view.readAt (Elt F) (Rect.unit (s := S2) (k0_off1 i) S1.size (k0_off1_inb i)).toLoadRect xt0 (Shape.Idx.first (numel1_S1.symm ▸ Nat.one_pos))) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8) ∗ owns (c : Thread nD τ) arg14 fullShare (blk12 c (tbM0_0.view.readAt (Elt F) (Rect.unit (s := S2) (k0_off1 i) S1.size (k0_off1_inb i)).toLoadRect xt0 (Shape.Idx.first (numel1_S1.symm ▸ Nat.one_pos))) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8) ∗ owns (c : Thread nD τ) arg15 fullShare (wide x2 x3) ∗ (∃ d, owns (c : Thread nD τ) arg16 fullShare d) ∗ (∃ d, owns (c : Thread nD τ) arg17 fullShare d) ∗ tbPt0 c tbM0_0 xt0) -∗ K ⟨⟩))
      ⊢ wp frame (wpE (defs₀ (F := F)) Variants.none c none) E (cc0_kv_down_bwd (F := F) i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [body_split, wp_bind]
  by_cases hc2 : k0_cond2 i (tbM0_0.view.readAt (Elt F) (Rect.unit (s := S2) (k0_off1 i) S1.size (k0_off1_inb i)).toLoadRect xt0 (Shape.Idx.first (numel1_S1.symm ▸ Nat.one_pos))) = 1#1
  · have hc3 : ¬k0_cond3 i (tbM0_0.view.readAt (Elt F) (Rect.unit (s := S2) (k0_off1 i) S1.size (k0_off1_inb i)).toLoadRect xt0 (Shape.Idx.first (numel1_S1.symm ▸ Nat.one_pos))) = 1#1 := by
      have := cond2_iff_not_cond3 i (tbM0_0.view.readAt (Elt F) (Rect.unit (s := S2) (k0_off1 i) S1.size (k0_off1_inb i)).toLoadRect xt0 (Shape.Idx.first (numel1_S1.symm ▸ Nat.one_pos)))
      exact this.mp hc2
    unfold blk9 blk10 blk11 blk12
    simp only [if_pos hc2]
    iintro ⟨H0, H1, H2, H3, H4, H5, H6, H7, H8, H9, H10, H11, H12, HS0, HS1, HS2, HT0, Hk⟩
    iapply (part25LaterPad c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 (wide x2 x3) xt0 hc2 E _)
    isplitl [H2]; · iexact H2
    isplitl [H3]; · iexact H3
    isplitl [H9]; · iexact H9
    isplitl [H10]; · iexact H10
    isplitl [H11]; · iexact H11
    isplitl [H12]; · iexact H12
    isplitl [HS0]; · iexact HS0
    isplitl [HT0]; · iexact HT0
    iintro ⟨H2, H3, H9, H10, H11, H12, HS0, HT0⟩
    dsimp only
    rw [wp_bind, dif_neg hc3]
    sl_step
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    isplitl [HS2]; · iexact HS2
    iexact HT0
  · have hc3 : k0_cond3 i (tbM0_0.view.readAt (Elt F) (Rect.unit (s := S2) (k0_off1 i) S1.size (k0_off1_inb i)).toLoadRect xt0 (Shape.Idx.first (numel1_S1.symm ▸ Nat.one_pos))) = 1#1 := by
      have := cond2_iff_not_cond3 i (tbM0_0.view.readAt (Elt F) (Rect.unit (s := S2) (k0_off1 i) S1.size (k0_off1_inb i)).toLoadRect xt0 (Shape.Idx.first (numel1_S1.symm ▸ Nat.one_pos)))
      exact Classical.not_not.mp fun h => hc2 (this.mpr h)
    unfold blk9 blk10 blk11 blk12
    simp only [if_neg hc2]
    iintro ⟨H0, H1, H2, H3, H4, H5, H6, H7, H8, H9, H10, H11, H12, HS0, HS1, HS2, HT0, Hk⟩
    iapply (part25LaterTok c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x2 x3 (wide x2 x3) xt0 hc2 E _)
    isplitl [H2]; · iexact H2
    isplitl [H3]; · iexact H3
    isplitl [H9]; · iexact H9
    isplitl [H10]; · iexact H10
    isplitl [H11]; · iexact H11
    isplitl [H12]; · iexact H12
    isplitl [HS0]; · iexact HS0
    isplitl [HT0]; · iexact HT0
    iintro ⟨H2, H3, H9, H10, H11, H12, HS0, HT0⟩
    dsimp only
    rw [wp_bind, dif_pos hc3]
    iapply ((tokRun c (nValid i (tbM0_0.view.readAt (Elt F) (Rect.unit (s := S2) (k0_off1 i) S1.size (k0_off1_inb i)).toLoadRect xt0 (Shape.Idx.first (numel1_S1.symm ▸ Nat.one_pos)))) i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 (wide x2 x3)).2 E _)
    isplitl [H0]; · iexact H0
    isplitl [H1]; · iexact H1
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    isplitl [HS2]; · iexact HS2
    iintro ⟨H0, H1, H4, H5, H6, H7, H8, ⟨%e9, H9⟩, ⟨%e10, H10⟩, ⟨%e11, H11⟩, ⟨%e12, H12⟩, HS0, HS1, HS2⟩
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (tokCover9 c _ i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 _)
    isplitl [H10]
    · unfold owns; iexists _; isplitr
      swap; · iexact H10
      ipureintro; exact View.read_writes_of_cover _ _ _ _ _ (tokCover10 c _ i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 _)
    isplitl [H11]
    · unfold owns; iexists _; isplitr
      swap; · iexact H11
      ipureintro; exact View.read_writes_of_cover _ _ _ _ _ (tokCover11 c _ i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 _)
    isplitl [H12]
    · unfold owns; iexists _; isplitr
      swap; · iexact H12
      ipureintro; exact View.read_writes_of_cover _ _ _ _ _ (tokCover12 c _ i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 _)
    isplitl [HS0]; · iexact HS0
    isplitl [HS1]; · iexact HS1
    isplitl [HS2]; · iexact HS2
    iexact HT0

end Cert.KernelIdeal.Hand

end
-- ==== Proof.KI.Frame.lean ====
/- The launch: what each grid point leaves, the body's obligation, the run and the frame. -/
module

public import proofs.«01_k».proof.Proof.KI.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The row count of the point's batch, as the body loads it from the table. -/
noncomputable def lenW (hO : Ok m) (t : Fin (cfgM m hO).N) : Elt F .i32 :=
  tbM0_0.view.readAt (Elt F) (Rect.unit (s := S2) (k0_off1 (grid0.coords t)) S1.size (k0_off1_inb (grid0.coords t))).toLoadRect (tbl m 0) (Shape.Idx.first (numel1_S1.symm ▸ Nat.one_pos))

/-- The widened weight of the launch: the same at every point. -/
noncomputable def wideM (hO : Ok m) (c : Dev nD) (t : Fin (cfgM m hO).N) : Vec F S576x7168 .bf16 := wide (iblk m hO c 2 t) (iblk m hO c 3 t)

theorem wideM_const (hO : Ok m) (c : Dev nD) (t t' : Fin (cfgM m hO).N) : wideM m hO c t = wideM m hO c t' := rfl

/-- What point `t` leaves in output 9's block. -/
noncomputable def out9 (hO : Ok m) (c : Dev nD) (t : Fin (cfgM m hO).N) : Vec F S1x256x7168 .bf16 :=
  blk9 c (lenW m hO t) (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t)

/-- What point `t` leaves in output 10's block. -/
noncomputable def out10 (hO : Ok m) (c : Dev nD) (t : Fin (cfgM m hO).N) : Vec F S1x1x2x512 .f32 :=
  blk10 c (lenW m hO t) (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t)

/-- What point `t` leaves in output 11's block. -/
noncomputable def out11 (hO : Ok m) (c : Dev nD) (t : Fin (cfgM m hO).N) : Vec F S1x256x576 .fp8e5m2 :=
  blk11 c (lenW m hO t) (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t)

/-- What point `t` leaves in output 12's block. -/
noncomputable def out12 (hO : Ok m) (c : Dev nD) (t : Fin (cfgM m hO).N) : Vec F S1x256x5 .f32 :=
  blk12 c (lenW m hO t) (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t)

/-- The region's invariant before position `n`: before the first point every scratch at anything; afterwards the carried scratch holds the
    widened weight. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (wideM m hO c ⟨n, hn⟩) ∗ (∃ d, owns (c : Thread nD τ) scM0_1 fullShare d) ∗ (∃ d, owns (c : Thread nD τ) scM0_2 fullShare d)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_pos (hO : Ok m) (c : Dev nD) (n : ℕ) (h : n ≤ (cfgM m hO).N) (hz : n ≠ 0) (t : Fin (cfgM m hO).N) :
    PhiS m hO c n h = iprop(iprop(iprop(owns (c : Thread nD τ) scM0_0 fullShare (wideM m hO c t) ∗ (∃ d, owns (c : Thread nD τ) scM0_1 fullShare d) ∗ (∃ d, owns (c : Thread nD τ) scM0_2 fullShare d)) ∗ (∃ r, prngReg c r)) ∗ Pipeline.ΦT pre0 (tbl m) c) := by
  cases n with
  | zero => exact absurd rfl hz
  | succ n => rfl

/-- The proof data of the launch: arrays as the region finds them; after the body each input's buffer at its block and each output's at what the
    point leaves. -/
noncomputable def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => out9 m hO c t
    | ⟨10, _⟩ => out10 m hO c t
    | ⟨11, _⟩ => out11 m hO c t
    | ⟨12, _⟩ => out12 m hO c t
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = out9 m hO c t := by dsimp only [dats]; try rfl
theorem after0_10 (hO : Ok m) (c : Dev nD) (t : Fin (cfgM m hO).N) : (dats m hO 0 c).after 10 t = out10 m hO c t := by dsimp only [dats]; try rfl
theorem after0_11 (hO : Ok m) (c : Dev nD) (t : Fin (cfgM m hO).N) : (dats m hO 0 c).after 11 t = out11 m hO c t := by dsimp only [dats]; try rfl
theorem after0_12 (hO : Ok m) (c : Dev nD) (t : Fin (cfgM m hO).N) : (dats m hO 0 c).after 12 t = out12 m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
/-- What the body is called with at point `t`, window by window. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d)))

/-- What it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t))

set_option maxHeartbeats 4000000 in
/-- The body at any point does what its obligation says. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8]
  rw [show (dats m hO 0 c).owesAt () t.succ = (dats m hO 0 c).owesAt () t.castSucc from rfl,
    after0_0, after0_1, after0_2, after0_3, after0_4, after0_5, after0_6, after0_7, after0_8, after0_9, after0_10, after0_11, after0_12]
  rw [show (dats m hO 0 c).Φ t.succ = PhiS m hO c (t.val + 1) t.isLt from rfl, PhiS_pos m hO c _ _ (Nat.succ_ne_zero _) t, PhiT0_eq]
  have hN : t.val < 128 := lt_of_lt_of_eq t.isLt (show (cfgM m hO).N = 128 from N_0)
  have hi : (grid0.coords t 0).val = t.val := by
    exact (by decide +kernel : ∀ t : Fin grid0.N, (grid0.coords t 0).val = t.val) t
  rw [PhiS_castSucc m hO c t]
  by_cases hz : t.val = 0
  · rw [PhiS_zero m hO c _ _ hz, PhiT0_eq, PhiA0_eq]
    iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (bodyFirst c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) ((k0_cond1_iff _).mpr (hi.trans hz)) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    isplitl [HT0]; · iexact HT0
    iintro ⟨H0, H1, H2, H3, H4, H5, H6, H7, H8, H9, H10, H11, H12, HS0, HS1, HS2, HT0⟩
    isplitl [HS0 HS1 HS2 Hg HT0]
    · isplitl [HS0 HS1 HS2 Hg]
      · isplitl [HS0 HS1 HS2]
        · isplitl [HS0]; · iexact HS0
          isplitl [HS1]; · iexact HS1
          iexact HS2
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [PhiS_pos m hO c _ _ hz t, PhiT0_eq]
    iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (bodyLater c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) (fun h => hz (hi.symm.trans ((k0_cond1_iff _).mp h))) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    isplitl [HT0]; · iexact HT0
    iintro ⟨H0, H1, H2, H3, H4, H5, H6, H7, H8, H9, H10, H11, H12, HS0, HS1, HS2, HT0⟩
    isplitl [HS0 HS1 HS2 Hg HT0]
    · isplitl [HS0 HS1 HS2 Hg]
      · isplitl [HS0 HS1 HS2]
        · isplitl [HS0]; · iexact HS0
          isplitl [HS1]; · iexact HS1
          iexact HS2
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- At a point that writes the block back, the obligation asks for the named contents, idle or not. -/
theorem leave9 (hO : Ok m) (c : Dev nD) (t : Fin (cfgM m hO).N) :
    owns (c : Thread nD τ) (ms0_9 m hO t) fullShare ((dats m hO 0 c).after 9 t) ⊢ ((dats m hO 0 c).leavesExact 9 t : sProp 𝕄) := by
  have hf : ((cfgM m hO).win 9).flush t = true := flush0_9 (adm m hO) t
  unfold Dat.leavesExact
  generalize (cfgM m hO).idle 9 ((cfgM m hO).grid.coords t) = b
  rw [hf]
  cases b <;> exact Idealize.SL.BI.Entails.refl _

/-- At a point that writes the block back, the obligation asks for the named contents, idle or not. -/
theorem leave10 (hO : Ok m) (c : Dev nD) (t : Fin (cfgM m hO).N) :
    owns (c : Thread nD τ) (ms0_10 m hO t) fullShare ((dats m hO 0 c).after 10 t) ⊢ ((dats m hO 0 c).leavesExact 10 t : sProp 𝕄) := by
  have hf : ((cfgM m hO).win 10).flush t = true := flush0_10 (adm m hO) t
  unfold Dat.leavesExact
  generalize (cfgM m hO).idle 10 ((cfgM m hO).grid.coords t) = b
  rw [hf]
  cases b <;> exact Idealize.SL.BI.Entails.refl _

/-- At a point that writes the block back, the obligation asks for the named contents, idle or not. -/
theorem leave11 (hO : Ok m) (c : Dev nD) (t : Fin (cfgM m hO).N) :
    owns (c : Thread nD τ) (ms0_11 m hO t) fullShare ((dats m hO 0 c).after 11 t) ⊢ ((dats m hO 0 c).leavesExact 11 t : sProp 𝕄) := by
  have hf : ((cfgM m hO).win 11).flush t = true := flush0_11 (adm m hO) t
  unfold Dat.leavesExact
  generalize (cfgM m hO).idle 11 ((cfgM m hO).grid.coords t) = b
  rw [hf]
  cases b <;> exact Idealize.SL.BI.Entails.refl _

/-- At a point that writes the block back, the obligation asks for the named contents, idle or not. -/
theorem leave12 (hO : Ok m) (c : Dev nD) (t : Fin (cfgM m hO).N) :
    owns (c : Thread nD τ) (ms0_12 m hO t) fullShare ((dats m hO 0 c).after 12 t) ⊢ ((dats m hO 0 c).leavesExact 12 t : sProp 𝕄) := by
  have hf : ((cfgM m hO).win 12).flush t = true := flush0_12 (adm m hO) t
  unfold Dat.leavesExact
  generalize (cfgM m hO).idle 12 ((cfgM m hO).grid.coords t) = b
  rw [hf]
  cases b <;> exact Idealize.SL.BI.Entails.refl _

theorem leave0 (hO : Ok m) (c : Dev nD) (t : Fin (cfgM m hO).N) :
    owns (c : Thread nD τ) (ms0_0 m hO t) fullShare ((dats m hO 0 c).after 0 t) ⊢ ((dats m hO 0 c).leavesExact 0 t : sProp 𝕄) :=
  Idealize.SL.BI.Entails.refl _

theorem leave1 (hO : Ok m) (c : Dev nD) (t : Fin (cfgM m hO).N) :
    owns (c : Thread nD τ) (ms0_1 m hO t) fullShare ((dats m hO 0 c).after 1 t) ⊢ ((dats m hO 0 c).leavesExact 1 t : sProp 𝕄) :=
  Idealize.SL.BI.Entails.refl _

theorem leave2 (hO : Ok m) (c : Dev nD) (t : Fin (cfgM m hO).N) :
    owns (c : Thread nD τ) (ms0_2 m hO t) fullShare ((dats m hO 0 c).after 2 t) ⊢ ((dats m hO 0 c).leavesExact 2 t : sProp 𝕄) :=
  Idealize.SL.BI.Entails.refl _

theorem leave3 (hO : Ok m) (c : Dev nD) (t : Fin (cfgM m hO).N) :
    owns (c : Thread nD τ) (ms0_3 m hO t) fullShare ((dats m hO 0 c).after 3 t) ⊢ ((dats m hO 0 c).leavesExact 3 t : sProp 𝕄) :=
  Idealize.SL.BI.Entails.refl _

theorem leave4 (hO : Ok m) (c : Dev nD) (t : Fin (cfgM m hO).N) :
    owns (c : Thread nD τ) (ms0_4 m hO t) fullShare ((dats m hO 0 c).after 4 t) ⊢ ((dats m hO 0 c).leavesExact 4 t : sProp 𝕄) :=
  Idealize.SL.BI.Entails.refl _

theorem leave5 (hO : Ok m) (c : Dev nD) (t : Fin (cfgM m hO).N) :
    owns (c : Thread nD τ) (ms0_5 m hO t) fullShare ((dats m hO 0 c).after 5 t) ⊢ ((dats m hO 0 c).leavesExact 5 t : sProp 𝕄) :=
  Idealize.SL.BI.Entails.refl _

theorem leave6 (hO : Ok m) (c : Dev nD) (t : Fin (cfgM m hO).N) :
    owns (c : Thread nD τ) (ms0_6 m hO t) fullShare ((dats m hO 0 c).after 6 t) ⊢ ((dats m hO 0 c).leavesExact 6 t : sProp 𝕄) :=
  Idealize.SL.BI.Entails.refl _

theorem leave7 (hO : Ok m) (c : Dev nD) (t : Fin (cfgM m hO).N) :
    owns (c : Thread nD τ) (ms0_7 m hO t) fullShare ((dats m hO 0 c).after 7 t) ⊢ ((dats m hO 0 c).leavesExact 7 t : sProp 𝕄) :=
  Idealize.SL.BI.Entails.refl _

theorem leave8 (hO : Ok m) (c : Dev nD) (t : Fin (cfgM m hO).N) :
    owns (c : Thread nD τ) (ms0_8 m hO t) fullShare ((dats m hO 0 c).after 8 t) ⊢ ((dats m hO 0 c).leavesExact 8 t : sProp 𝕄) :=
  Idealize.SL.BI.Entails.refl _

set_option maxHeartbeats 4000000 in
/-- The library's body obligation, at every point. -/
theorem body_obligation (hO : Ok m) (c : Dev nD) : BodyObligation (dats (F := F) m hO 0 c) (defs₀ (F := F)) Variants.none () Set.univ := fun t => by
  rw [defs₀_row m hO]
  refine triple_restated (sound_body m hO c t) rfl ?_ fun _ => ?_
  · rw [bigSep_W0]; unfold bodyPre
    exact Idealize.SL.BI.Entails.refl _
  · show _ ⊢ iprop((dats m hO 0 c).Φ t.succ ∗ (dats m hO 0 c).owesAt () t.succ ∗ bigSep Finset.univ fun w : Fin (cfgM m hO).W => (dats m hO 0 c).leavesExact w t)
    rw [bigSep_W0]; unfold bodyPost
    iintro ⟨HP, Ho, H0, H1, H2, H3, H4, H5, H6, H7, H8, H9, H10, H11, H12⟩
    isplitl [HP]; · iexact HP
    isplitl [Ho]; · iexact Ho
    isplitl [H0]; · exact leave0 m hO c t
    isplitl [H1]; · exact leave1 m hO c t
    isplitl [H2]; · exact leave2 m hO c t
    isplitl [H3]; · exact leave3 m hO c t
    isplitl [H4]; · exact leave4 m hO c t
    isplitl [H5]; · exact leave5 m hO c t
    isplitl [H6]; · exact leave6 m hO c t
    isplitl [H7]; · exact leave7 m hO c t
    isplitl [H8]; · exact leave8 m hO c t
    isplitl [H9]; · iapply (leave9 m hO c t); iexact H9
    isplitl [H10]; · iapply (leave10 m hO c t); iexact H10
    isplitl [H11]; · iapply (leave11 m hO c t); iexact H11
    iapply (leave12 m hO c t); iexact H12

/-- What the launch hands the region is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After the last point the invariant gives the scoped rest back. -/
theorem hout (hO : Ok m) (c : Dev nD) : (dats m hO 0 c).Φ (Fin.last (cfgM m hO).N) ⊢ Pipeline.ΦA spec0 c := by
  have hN : (cfgM m hO).N = 128 := N_0
  rw [show (dats m hO 0 c).Φ (Fin.last (cfgM m hO).N) = PhiS m hO c (cfgM m hO).N le_rfl from rfl, PhiS_pos m hO c _ _ (by omega) ⟨0, by omega⟩, PhiA0_eq]
  iintro ⟨⟨⟨HS0, HS1, HS2⟩, Hg⟩, -⟩
  isplitl [HS0 HS1 HS2]
  · isplitl [HS0]
    · iexists _; iexact HS0
    isplitl [HS1]
    · iexact HS1
    iexact HS2
  iexact Hg

set_option backward.isDefEq.respectTransparency.types false in
/-- THE LAUNCH: every weakly fair execution terminates with every window's array at what its write-backs leave, everything else as the region found
    it, and every counter at zero. -/
theorem run_main (hO : Ok m) : θ_run defs (onTc (τ := τ) (main (F := F))) (s₀ m ρ) (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

/-- The arguments' arrays at a final state of the run. -/
theorem args_unchanged (hO : Ok m) (r : PUnit × MemSt nD τ sig (Elt F)) (h : Pipeline.FramePost (Pipeline.pin pcfgs fun _ => adm m hO) (dats m hO) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine ⟨((h c).1 0).trans (((dats m hO 0 c).arrAt_in 0 rfl _).trans ((A_eq m hO c 0).trans (V_arg m c main_arg0 (by decide)))), ((h c).1 1).trans (((dats m hO 0 c).arrAt_in 1 rfl _).trans ((A_eq m hO c 1).trans (V_arg m c main_arg1 (by decide)))), ((h c).1 3).trans (((dats m hO 0 c).arrAt_in 3 rfl _).trans ((A_eq m hO c 3).trans (V_arg m c main_arg2 (by decide)))), ((h c).1 2).trans (((dats m hO 0 c).arrAt_in 2 rfl _).trans ((A_eq m hO c 2).trans (V_arg m c main_arg3 (by decide)))), ((h c).2 main_arg4 (by decide : main_arg4 ∈ Pipeline.restRefs sig spec0)).trans (V_arg m c main_arg4 (by decide)), ((h c).2 main_arg5 (by decide : main_arg5 ∈ Pipeline.restRefs sig spec0)).trans (V_arg m c main_arg5 (by decide)), ((h c).2 main_arg6 (by decide : main_arg6 ∈ Pipeline.restRefs sig spec0)).trans (V_arg m c main_arg6 (by decide)), ((h c).1 7).trans (((dats m hO 0 c).arrAt_in 7 rfl _).trans ((A_eq m hO c 7).trans (V_arg m c main_arg7 (by decide)))), ((h c).1 8).trans (((dats m hO 0 c).arrAt_in 8 rfl _).trans ((A_eq m hO c 8).trans (V_arg m c main_arg8 (by decide))))⟩

/-- THE FRAME: every weakly fair execution terminates, the arguments' arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => args_unchanged m (adm_ok m) r h.1 c, h.2⟩) (run_main m ρ (adm_ok m))

end Cert.KernelIdeal.Hand

end
-- ==== Proof.Val.Quant.lean ====
/- The power-of-two scale of one group: the kernel's form, built from the exponent field, and the reference's form, the
   smallest power of two above the group's greatest value over 57344, are one function on the extended reals. -/
module

public import Idealize.ShloMosaic.Lib.Pointwise

@[expose] public section

set_option maxRecDepth 16384

noncomputable section

namespace Cert.Val

open Idealize.ShloMosaic

/-- A group's greatest absolute value over 57344, from its greatest absolute value. -/
def yOf (a : EReal) : EReal := a * Ideal.ofBits .f32 932333861#32

/-- The power of two `2 ^ (k - 126)`, as the reference computes it. -/
def power (k : ℕ) : EReal :=
  FloatOps.exp2 (F := Ideal) (φ := .f32) (FloatOps.sitofp (F := Ideal) FTy.f32 (BitVec.ofNat 32 k) - Ideal.ofBits .f32 1123811328#32)

/-- The reference's scale of a group with greatest absolute value `a`. -/
def scaleR (a : EReal) : EReal :=
  if a = 0 then 1 else
    Finset.fold min (Ideal.ofBits .f32 2139095040#32)
      (fun k : Fin 253 => if yOf a < power k then power k else Ideal.ofBits .f32 2122317824#32) Finset.univ

/-- The exponent the kernel finds for `y`: its exponent field less 126, and 0 for 0. -/
def expoK (y : EReal) : BitVec 32 :=
  if y = 0 then 0#32 else
    IntOp.subi (Finset.fold IntOp.maxsi (2147483648#32)
      (fun x : Fin 256 => if Ideal.ofBits .f32 (IntOp.shli .vector (IntOp.minsi (BitVec.ofNat 32 x) 252#32) 23#32) ≤ y
        then IntOp.minsi (BitVec.ofNat 32 x) 252#32 else 0#32) Finset.univ) 126#32

/-- The kernel's scale: two to the exponent found. -/
def upK (y : EReal) : EReal := Ideal.ofBits .f32 (IntOp.shli .vector (IntOp.addi 127#32 (expoK y)) 23#32)

/-- The kernel's reciprocal of the scale. -/
def downK (y : EReal) : EReal := Ideal.ofBits .f32 (IntOp.shli .vector (IntOp.subi 127#32 (expoK y)) 23#32)

/-- The float whose exponent field is `f` and whose other bits are 0. -/
def pw (f : ℕ) : EReal := Ideal.ofBits .f32 (IntOp.shli .vector (BitVec.ofNat 32 f) 23#32)

theorem bits_facts : ∀ f : Fin 255,
    ((IntOp.shli .vector (BitVec.ofNat 32 f.val) 23#32).extractLsb' 31 1 == 1#1) = false
    ∧ ((IntOp.shli .vector (BitVec.ofNat 32 f.val) 23#32).extractLsb' 23 8).toNat = f.val
    ∧ ((IntOp.shli .vector (BitVec.ofNat 32 f.val) 23#32).extractLsb' 0 23).toNat = 0 := by decide +kernel

/-- A normal f32 pattern with a clear sign bit, from its two fields. -/
theorem f32_normal (b : BitVec 32) (E T : ℕ) (hs : (b.extractLsb' 31 1 == 1#1) = false) (hE : (b.extractLsb' 23 8).toNat = E)
    (hT : (b.extractLsb' 0 23).toNat = T) (h0 : 0 < E) (h1 : E < 255) :
    Ideal.ofBits .f32 b = ((((2 ^ 23 + T : ℕ) : ℝ) * (2 : ℝ) ^ ((E : ℤ) - 150) : ℝ) : EReal) := by
  have e : Ideal.ofBits .f32 b = Ideal.ieee 8 23 b := rfl
  rw [e]
  unfold Ideal.ieee
  rw [show (8 + 23 : ℕ) = 31 from rfl, hs, hE, hT]
  dsimp only
  rw [if_neg (show ¬ E = 2 ^ 8 - 1 by norm_num; omega), if_neg (show ¬ E = 0 by omega)]
  rw [show ((E : ℤ) - (2 ^ (8 - 1) - 1) - (23 : ℕ) : ℤ) = (E : ℤ) - 150 by norm_num; omega]
  simp only [Bool.false_eq_true, if_false, one_mul]

/-- With field `f` between 1 and 254 it is `2 ^ (f - 127)`. -/
theorem pw_pos (f : ℕ) (h0 : 0 < f) (h1 : f < 255) : pw f = (((2 : ℝ) ^ ((f : ℤ) - 127) : ℝ) : EReal) := by
  obtain ⟨a, b, c⟩ := bits_facts ⟨f, h1⟩
  unfold pw
  dsimp only at a b c
  have e : (2 : ℝ) ^ ((f : ℤ) - 127) = 2 ^ ((f : ℤ) - 150) * 2 ^ (23 : ℤ) := by
    have := zpow_add₀ (two_ne_zero (α := ℝ)) ((f : ℤ) - 150) 23
    rwa [show (f : ℤ) - 150 + 23 = f - 127 by omega] at this
  have e' : ((2 ^ 23 + 0 : ℕ) : ℝ) = 2 ^ (23 : ℤ) := by norm_num
  rw [f32_normal _ f 0 a b c h0 h1, e, e', mul_comm]

theorem pw_zero : pw 0 = 0 := by
  unfold pw
  rw [show IntOp.shli .vector (BitVec.ofNat 32 0) 23#32 = 0#32 by decide]
  simp [Ideal.ofBits, Ideal.ieee]

theorem pw_mono {f f' : ℕ} (h : f ≤ f') (h1 : f' < 255) : pw f ≤ pw f' := by
  rcases Nat.eq_zero_or_pos f with rfl | h0
  · rw [pw_zero]
    rcases Nat.eq_zero_or_pos f' with rfl | h0'
    · rw [pw_zero]
    · rw [pw_pos f' h0' h1]; exact EReal.coe_nonneg.mpr (by positivity)
  · rw [pw_pos f h0 (by omega), pw_pos f' (by omega) h1]
    exact EReal.coe_le_coe_iff.mpr (zpow_le_zpow_right₀ (by norm_num) (by omega))

theorem c126 : Ideal.ofBits .f32 1123811328#32 = ((126 : ℝ) : EReal) := by
  rw [f32_normal _ 133 8126464 (by decide) (by decide) (by decide) (by norm_num) (by norm_num)]
  congr 1
  norm_num [zpow_neg]

theorem cTop : Ideal.ofBits .f32 2139095040#32 = ⊤ := by simp [Ideal.ofBits, Ideal.ieee]

theorem c126p : Ideal.ofBits .f32 2122317824#32 = pw 253 := by
  unfold pw; congr 1

theorem power_eq (k : ℕ) (h : k < 253) : power k = pw (k + 1) := by
  rw [pw_pos (k + 1) (by omega) (by omega)]
  unfold power
  rw [c126]
  have : (FloatOps.sitofp (F := Ideal) FTy.f32 (BitVec.ofNat 32 k) : EReal) = ((k : ℝ) : EReal) := by
    show (((BitVec.ofNat 32 k).toInt : ℝ) : EReal) = _
    rw [BitVec.toInt_eq_toNat_of_lt (by rw [BitVec.toNat_ofNat]; omega), BitVec.toNat_ofNat, Nat.mod_eq_of_lt (by omega)]
    norm_num
  rw [this, ← EReal.coe_sub]
  show Ideal.exp2 _ = _
  rw [Ideal.exp2_coe]
  congr 1
  rw [show Real.rpow 2 ((k : ℝ) - 126) = (2 : ℝ) ^ ((k : ℝ) - 126) from rfl, ← Real.rpow_intCast]
  congr 1
  push_cast; ring

theorem maxsi_small (a b : ℕ) (ha : a ≤ 252) (hb : b ≤ 252) :
    IntOp.maxsi (BitVec.ofNat 32 a) (BitVec.ofNat 32 b) = BitVec.ofNat 32 (max a b) := by
  unfold IntOp.maxsi
  have e (n : ℕ) (hn : n ≤ 252) : (BitVec.ofNat 32 n).toInt = n := by
    rw [BitVec.toInt_eq_toNat_of_lt (by rw [BitVec.toNat_ofNat]; omega), BitVec.toNat_ofNat, Nat.mod_eq_of_lt (by omega)]
  rw [BitVec.slt_eq_decide, e a ha, e b hb]
  by_cases h : b < a
  · rw [if_pos (by simpa using h), max_eq_left (by omega)]
  · rw [if_neg (by simpa using h), max_eq_right (by omega)]

theorem maxsi_min (a : ℕ) (ha : a ≤ 252) : IntOp.maxsi (BitVec.ofNat 32 a) (2147483648#32) = BitVec.ofNat 32 a := by
  unfold IntOp.maxsi
  have e (n : ℕ) (hn : n ≤ 252) : (BitVec.ofNat 32 n).toInt = n := by
    rw [BitVec.toInt_eq_toNat_of_lt (by rw [BitVec.toNat_ofNat]; omega), BitVec.toNat_ofNat, Nat.mod_eq_of_lt (by omega)]
  rw [BitVec.slt_eq_decide, e a ha, show (2147483648#32 : BitVec 32).toInt = -2147483648 by decide, if_pos (by simp; omega)]

theorem minsi_eq (x : Fin 256) : IntOp.minsi (BitVec.ofNat 32 x) 252#32 = BitVec.ofNat 32 (min x.val 252) :=
  (by decide +kernel : ∀ x : Fin 256, IntOp.minsi (BitVec.ofNat 32 x) 252#32 = BitVec.ofNat 32 (min x.val 252)) x

/-- A maximum of words that hold small naturals holds the greatest of them. -/
theorem fold_maxsi {ι : Type} [DecidableEq ι] (g : ι → ℕ) (hg : ∀ i, g i ≤ 252) (s : Finset ι) :
    Finset.fold IntOp.maxsi (2147483648#32) (fun i => BitVec.ofNat 32 (g i)) s = if s = ∅ then 2147483648#32 else BitVec.ofNat 32 (s.sup g) := by
  induction s using Finset.induction_on with
  | empty => simp
  | insert a s ha ih =>
    rw [Finset.fold_insert ha, ih, if_neg (Finset.insert_ne_empty a s), Finset.sup_insert]
    by_cases hs : s = ∅
    · subst hs; rw [if_pos rfl, maxsi_min _ (hg a)]; simp
    · rw [if_neg hs, maxsi_small _ _ (hg a) (Finset.sup_le fun i _ => hg i)]

/-- The exponent field found for `y`: at most 252, the greatest whose power is not above `y`. -/
theorem field_spec (y : EReal) : ∃ f : ℕ, f ≤ 252 ∧ (f = 0 ∨ pw f ≤ y) ∧ (∀ k, k ≤ 252 → pw k ≤ y → k ≤ f)
    ∧ Finset.fold IntOp.maxsi (2147483648#32)
      (fun x : Fin 256 => if Ideal.ofBits .f32 (IntOp.shli .vector (IntOp.minsi (BitVec.ofNat 32 x) 252#32) 23#32) ≤ y
        then IntOp.minsi (BitVec.ofNat 32 x) 252#32 else 0#32) Finset.univ = BitVec.ofNat 32 f := by
  classical
  let g : Fin 256 → ℕ := fun x => if pw (min x.val 252) ≤ y then min x.val 252 else 0
  have hg : ∀ i, g i ≤ 252 := fun i => by dsimp only [g]; split <;> omega
  refine ⟨Finset.univ.sup g, Finset.sup_le fun i _ => hg i, ?_, ?_, ?_⟩
  · obtain ⟨i, _, hi⟩ := Finset.exists_mem_eq_sup Finset.univ ⟨0, Finset.mem_univ _⟩ g
    rw [hi]
    dsimp only [g]
    split
    · rename_i h; exact .inr h
    · exact .inl rfl
  · intro k hk h
    have : g ⟨k, by omega⟩ = k := by
      dsimp only [g]; rw [Nat.min_eq_left hk, if_pos h]
    calc k = g ⟨k, by omega⟩ := this.symm
      _ ≤ _ := Finset.le_sup (Finset.mem_univ _)
  · have := fold_maxsi g hg Finset.univ
    rw [if_neg (Finset.univ_nonempty.ne_empty)] at this
    rw [← this]
    congr 1
    funext x
    rw [minsi_eq]
    dsimp only [g]
    show (if pw _ ≤ y then _ else _) = _
    split <;> rfl

theorem cInv_ne : Ideal.ofBits .f32 932333861#32 ≠ 0 := by
  rw [f32_normal _ 111 1198373 (by decide) (by decide) (by decide) (by norm_num) (by norm_num)]
  intro h
  have h' := EReal.coe_eq_zero.mp h
  exact absurd h' (by positivity)

theorem yOf_eq_zero (a : EReal) : yOf a = 0 ↔ a = 0 := by
  unfold yOf
  rw [mul_eq_zero]
  exact or_iff_left cInv_ne

/-- The kernel's and the reference's scales, and the kernel's reciprocal, in terms of one field. -/
theorem scale_forms (a : EReal) (ha : a ≠ 0) : ∃ f : ℕ, f ≤ 252 ∧ upK (yOf a) = pw (f + 1) ∧ downK (yOf a) = pw (253 - f) ∧ scaleR a = pw (f + 1) := by
  obtain ⟨f, hf, h0, hmax, hfold⟩ := field_spec (yOf a)
  have hy : yOf a ≠ 0 := fun h => ha ((yOf_eq_zero a).mp h)
  have hexp : expoK (yOf a) = BitVec.ofNat 32 f - 126#32 := by
    unfold expoK; rw [if_neg hy, hfold]; rfl
  refine ⟨f, hf, ?_, ?_, ?_⟩
  · unfold upK pw; rw [hexp]
    congr 2
    exact (by decide +kernel : ∀ f : Fin 253, IntOp.addi 127#32 (BitVec.ofNat 32 f.val - 126#32) = BitVec.ofNat 32 (f.val + 1)) ⟨f, by omega⟩
  · unfold downK pw; rw [hexp]
    congr 2
    exact (by decide +kernel : ∀ f : Fin 253, IntOp.subi 127#32 (BitVec.ofNat 32 f.val - 126#32) = BitVec.ofNat 32 (253 - f.val)) ⟨f, by omega⟩
  · unfold scaleR
    rw [if_neg ha, cTop, c126p]
    apply le_antisymm
    · refine (Finset.fold_min_le _).mpr (.inr ⟨⟨f, by omega⟩, Finset.mem_univ _, ?_⟩)
      dsimp only
      rw [power_eq f (by omega)]
      by_cases hlt : yOf a < pw (f + 1)
      · rw [if_pos hlt]
      · rw [if_neg hlt]
        have : f = 252 := by
          by_contra hne
          have := hmax (f + 1) (by omega) (not_lt.mp hlt)
          omega
        subst this; exact le_refl _
    · refine (Finset.le_fold_min _).mpr ⟨le_top, fun k _ => ?_⟩
      rw [power_eq k k.isLt]
      by_cases hlt : yOf a < pw (k + 1)
      · rw [if_pos hlt]
        refine pw_mono ?_ (by omega)
        rcases h0 with h0 | h0
        · omega
        · by_contra hk
          exact absurd (lt_of_le_of_lt h0 hlt) (not_lt.mpr (pw_mono (by omega) (by omega)))
      · rw [if_neg hlt]
        exact pw_mono (by omega) (by omega)

theorem pw_one : pw 127 = 1 := by
  rw [pw_pos 127 (by norm_num) (by norm_num)]; norm_num

/-- The kernel's scale is the reference's. -/
theorem upK_eq (a : EReal) : upK (yOf a) = scaleR a := by
  by_cases ha : a = 0
  · subst ha
    have hy : yOf 0 = 0 := (yOf_eq_zero 0).mpr rfl
    unfold scaleR upK expoK
    rw [if_pos rfl, if_pos hy, ← pw_one]; rfl
  · obtain ⟨f, _, h1, _, h3⟩ := scale_forms a ha
    rw [h1, h3]

/-- The kernel's reciprocal of the scale is one over the reference's scale. -/
theorem downK_eq (a : EReal) : downK (yOf a) = Ideal.div 1 (scaleR a) := by
  by_cases ha : a = 0
  · subst ha
    have hy : yOf 0 = 0 := (yOf_eq_zero 0).mpr rfl
    unfold scaleR downK expoK
    rw [if_pos rfl, if_pos hy]
    have : Ideal.div 1 1 = 1 := by unfold Ideal.div; simp
    rw [this, ← pw_one]; rfl
  · obtain ⟨f, hf, _, h2, h3⟩ := scale_forms a ha
    rw [h2, h3, pw_pos (253 - f) (by omega) (by omega), pw_pos (f + 1) (by omega) (by omega)]
    unfold Ideal.div
    rw [if_neg (by
      intro h
      have := EReal.coe_eq_zero.mp h
      exact absurd this (by positivity)), one_mul, ← EReal.coe_inv, ← zpow_neg]
    congr 2
    push_cast [Nat.cast_sub (by omega : f ≤ 253)]
    ring

end Cert.Val

end
end
-- ==== Proof.Val.Spec.lean ====
/- The backward step of one token row on the extended reals, which both programs are shown to compute: the normalised row's
   gradient, its five quantised groups, and the product with the weight. -/
module

public import proofs.«01_k».proof.Proof.Val.Quant

@[expose] public section

set_option maxRecDepth 16384

noncomputable section

namespace Cert.Val

open Idealize.ShloMosaic

/-- The greatest absolute value of a group. -/
def amaxOf {n : ℕ} (g : Fin n → EReal) : EReal :=
  Finset.fold max (Ideal.ofBits .f32 4286578688#32) (fun x => FloatOps.absf (F := Ideal) (φ := .f32) (g x)) Finset.univ

/-- The code of an element, from its group's reciprocal of the scale. -/
def codeOf (inv g : EReal) : EReal :=
  min (Ideal.ofBits .f32 1197473792#32) (max (Ideal.ofBits .f32 3344957440#32) (g * inv))

/-- The latent row: the dequantised input row against the first 512 rows of the weight. -/
def cfS (xw : Fin 7168 → EReal) (W : Fin 576 → Fin 7168 → EReal) (l : Fin 512) : EReal :=
  ∑ x, xw x * W ⟨l.val, by omega⟩ x

/-- The reciprocal of the row's root mean square. -/
def rsS (c : Fin 512 → EReal) : EReal :=
  Ideal.rsqrt (Ideal.div (∑ x, c x * c x) (Ideal.ofBits .f32 1140850688#32) + Ideal.ofBits .f32 897988541#32)

/-- The gradient of the latent row. -/
def dcS (c gc gain : Fin 512 → EReal) (l : Fin 512) : EReal :=
  rsS c * (gc l * gain l - c l * (rsS c * rsS c) * Ideal.div (∑ x, gc x * gain x * c x) (Ideal.ofBits .f32 1140850688#32))

/-- What the row adds to the gain's gradient. -/
def gpS (c gc : Fin 512 → EReal) (l : Fin 512) : EReal := gc l * c l * rsS c

/-- The greatest absolute value of each of the five groups. -/
def amS (dc : Fin 512 → EReal) (dr : Fin 64 → EReal) (k : Fin 5) : EReal :=
  if h : k.val < 4 then amaxOf (fun x : Fin 128 => dc ⟨k.val * 128 + x.val, by omega⟩) else amaxOf dr

/-- The scale of each group. -/
def scS (dc : Fin 512 → EReal) (dr : Fin 64 → EReal) (k : Fin 5) : EReal := scaleR (amS dc dr k)

/-- The group of a column. -/
def kOf (j : Fin 576) : Fin 5 := ⟨j.val / 128, by omega⟩

/-- The row of 576: the latent gradient, then the rope gradient. -/
def elS (dc : Fin 512 → EReal) (dr : Fin 64 → EReal) (j : Fin 576) : EReal :=
  if h : j.val < 512 then dc ⟨j.val, h⟩ else dr ⟨j.val - 512, by omega⟩

/-- The codes. -/
def codeS (dc : Fin 512 → EReal) (dr : Fin 64 → EReal) (j : Fin 576) : EReal :=
  codeOf (Ideal.div 1 (scS dc dr (kOf j))) (elS dc dr j)

/-- The codes times their scales. -/
def prodS (dc : Fin 512 → EReal) (dr : Fin 64 → EReal) (j : Fin 576) : EReal :=
  codeS dc dr j * scS dc dr (kOf j)

/-- The input row's gradient. -/
def dxS (dc : Fin 512 → EReal) (dr : Fin 64 → EReal) (W : Fin 576 → Fin 7168 → EReal) (l : Fin 7168) : EReal :=
  ∑ x, prodS dc dr x * W x l

end Cert.Val

end
end
-- ==== Proof.Val.KRows.lean ====
/- The kernel's row values at an index: the latent row, its gradient, the rotated rope gradient and the products. -/
module

public import proofs.«01_k».proof.Proof.Val.Spec
public import proofs.«01_k».proof.Proof.Gen.KernelIdeal.Skeleton
public import Idealize.ShloMosaic.Lib.Pointwise

@[expose] public section

set_option maxRecDepth 16384

noncomputable section

namespace Cert.Val.K

open Cert.KernelIdeal Cert.KernelIdeal.Gen Idealize.ShloMosaic

/-- Whether a row of the tile is a token of the sequence, as the factor 1 or 0. -/
def vK (v30 : BitVec 32) (r : Fin 256) : EReal :=
  FloatOps.sitofp (F := Ideal) FTy.f32 (BitVec.setWidth 32 (IntOp.cmpi CmpIPredicate.slt (BitVec.ofNat 32 r.val) v30))

variable (v30 : BitVec 32) (a : Vec Ideal S256x7168 .bf16) (W : Vec Ideal S576x7168 .bf16) (Wt : Vec Ideal S512x7168 .bf16)
  (d : Vec Ideal S1x256x512 .bf16) (gn : Vec Ideal S1x512 .f32) (r : Fin 256)

theorem pay74 (l : Fin 512) : k0_pay74 a Wt (ix2 r l) = ∑ x, a (ix2 r x) * Wt (ix2 l x) := by
  pointwise [k0_pay74]

theorem pay77 : k0_pay77 a Wt (ix2 r 0) = rsS (fun l => k0_pay74 a Wt (ix2 r l)) := by
  pointwise [k0_pay77]
  rfl

theorem pay78 (g : Fin 2) (l : Fin 512) : k0_pay78 v30 a Wt d (ix4 0 0 g l)
    = ∑ x : Fin 128, gpS (fun l => k0_pay74 a Wt (ix2 ⟨g.val * 128 + x.val, by omega⟩ l))
        (fun l => d (ix3 0 ⟨g.val * 128 + x.val, by omega⟩ l) * vK v30 ⟨g.val * 128 + x.val, by omega⟩) l := by
  pointwise [k0_pay78, k0_pay77, k0_pay76, k0_pay75]
  rfl

theorem pay79 (l : Fin 512) : k0_pay79 v30 d gn (ix2 r l) = d (ix3 0 r l) * vK v30 r * gn (ix2 0 l) := by
  pointwise [k0_pay79, k0_pay76, k0_pay75]
  rfl

theorem pay80 (l : Fin 512) : k0_pay80 (k0_pay74 a Wt) (k0_pay77 a Wt) (k0_pay79 v30 d gn) (ix2 r l)
    = dcS (fun l => k0_pay74 a Wt (ix2 r l)) (fun l => d (ix3 0 r l) * vK v30 r) (fun l => gn (ix2 0 l)) l := by
  pointwise [k0_pay80]
  simp only [pay77, pay79]
  rfl

theorem pay2 (v947 : Vec Ideal S256x576 .bf16) (l : Fin 7168) : k0_pay2 v947 W (ix3 0 r l) = ∑ x, v947 (ix2 r x) * W (ix2 x l) := by
  pointwise [k0_pay2]

/-- The word the kernel tests to tell an even lane from an odd one. -/
def evenK (n : ℕ) : BitVec 1 :=
  IntOp.cmpi CmpIPredicate.eq
            (Scalar.select
              (IntOp.andi
                (IntOp.xori
                  (IntOp.cmpi CmpIPredicate.slt
                    (IntOp.remsi ArithUnit.vector (BitVec.ofNat 32 n)
                      (Scalar.select (Scalar.cmpi CmpIPredicate.eq 2#32 0#32) 1#32 2#32))
                    0#32)
                  (Scalar.cmpi CmpIPredicate.slt (Scalar.select (Scalar.cmpi CmpIPredicate.eq 2#32 0#32) 1#32 2#32)
                    0#32))
                (IntOp.cmpi CmpIPredicate.ne
                  (IntOp.remsi ArithUnit.vector (BitVec.ofNat 32 n)
                    (Scalar.select (Scalar.cmpi CmpIPredicate.eq 2#32 0#32) 1#32 2#32))
                  0#32))
              (IntOp.addi
                (IntOp.remsi ArithUnit.vector (BitVec.ofNat 32 n)
                  (Scalar.select (Scalar.cmpi CmpIPredicate.eq 2#32 0#32) 1#32 2#32))
                (Scalar.select (Scalar.cmpi CmpIPredicate.eq 2#32 0#32) 1#32 2#32))
              (IntOp.remsi ArithUnit.vector (BitVec.ofNat 32 n)
                (Scalar.select (Scalar.cmpi CmpIPredicate.eq 2#32 0#32) 1#32 2#32)))
            0#32

theorem evenK_eq : ∀ l : Fin 64, evenK l.val = if l.val % 2 = 0 then 1#1 else 0#1 := by decide +kernel

/-- The rotated rope gradient: each lane with the other of its pair. -/
def rotS (vd an : Fin 64 → EReal) (l : Fin 64) : EReal :=
  vd l * Ideal.cos (an l) + (if h : l.val % 2 = 0 then vd ⟨l.val + 1, by omega⟩ else vd ⟨l.val - 1, by omega⟩)
    * (if l.val % 2 = 0 then Ideal.sin (an l) else 0 - Ideal.sin (an l))

theorem pay83 (fr : Vec Ideal S64x1 .f32) (ps : Vec Ideal S1x1x256 .i32) (dr : Vec Ideal S1x256x64 .bf16) (l : Fin 64) :
    k0_pay83 (k0_pay75 v30) (k0_pay81 fr ps) (k0_pay82 fr ps) dr (ix2 r l)
      = rotS (fun l => dr (ix3 0 r l) * vK v30 r) (fun l => fr (ix2 l 0) * FloatOps.sitofp (F := Ideal) FTy.f32 (ps (ix3 0 0 r))) l := by
  pointwise [k0_pay83, k0_pay82, k0_pay81, k0_pay75]
  unfold rotS
  have hE := evenK_eq l
  refine congrArg₂ (· + ·) rfl (congrArg₂ (· * ·) ?_ ?_)
  · show Scalar.select (evenK l.val) _ _ = _
    rcases Nat.mod_two_eq_zero_or_one l.val with hl | hl
    · rw [if_pos hl] at hE
      refine ((if_pos hE).trans ((dif_pos (by omega)).trans ?_)).trans (dif_pos hl).symm
      exact congrArg (fun i => dr (ix3 0 r i) * vK v30 r) (Fin.ext (by dsimp only; omega))
    · rw [if_neg (by omega)] at hE
      refine ((if_neg (by rw [hE]; decide)).trans ((dif_pos (by omega)).trans ?_)).trans (dif_neg (by omega)).symm
      exact congrArg (fun i => dr (ix3 0 r i) * vK v30 r) (Fin.ext (by dsimp only; omega))
  · refine (dif_neg (by omega)).trans ?_
    have e2 : (l.val + 128 - 64) % 128 - 64 = l.val := by omega
    show Scalar.select (evenK ((l.val + 128 - 64) % 128 - 64)) _ _ = _
    have e1 : ∀ h, (⟨(l.val + 128 - 64) % 128 - 64, h⟩ : Fin 64) = l := fun _ => Fin.ext e2
    have hE' : evenK ((l.val + 128 - 64) % 128 - 64) = if l.val % 2 = 0 then 1#1 else 0#1 := by rw [e2, hE]
    rcases Nat.mod_two_eq_zero_or_one l.val with hl | hl
    · rw [if_pos hl] at hE'
      refine ((if_pos hE').trans ?_).trans (if_pos hl).symm
      exact congrArg (fun i => Ideal.sin (fr (ix2 i 0) * FloatOps.sitofp (F := Ideal) FTy.f32 (ps (ix3 0 0 r)))) (e1 _)
    · rw [if_neg (by omega)] at hE'
      refine ((if_neg (by rw [hE']; decide)).trans ?_).trans (if_neg (by omega)).symm
      exact congrArg (fun i => 0 - Ideal.sin (fr (ix2 i 0) * FloatOps.sitofp (F := Ideal) FTy.f32 (ps (ix3 0 0 r)))) (e1 _)

end Cert.Val.K

end
end
-- ==== Proof.Val.XRead.lean ====
/- The dequantised input tile the kernel writes in 56 column groups and reads back whole. -/
module

public import proofs.«01_k».proof.Proof.Val.KRows
public import proofs.«01_k».proof.Proof.KI.Tok
public import Idealize.ShloMosaic.Lib.Pipeline.ValueKit
public import Idealize.ShloMosaic.Lib.Pipeline.ReadBack
public import Idealize.ShloMosaic.Lib.WholeRead

@[expose] public section

set_option maxRecDepth 16384

noncomputable section

namespace Cert.Val.K

open Cert.KernelIdeal Cert.KernelIdeal.Gen Cert.KernelIdeal.Hand Idealize.ShloMosaic

/-- The dequantised input tile. -/
def xwK (x0 : Vec Ideal S1x256x7168 .fp8e4m3) (x1 : Vec Ideal S1x256x56 .f32) (y : S256x7168.Idx) : EReal :=
  x0 (ix3 0 (y 0) (y 1)) * x1 (ix3 0 (y 0) ⟨(y 1).val / 128, by have : (y 1).val < 7168 := (y 1).isLt; omega⟩)

/-- Pieces that are blocks of `G` and cover the buffer leave `G`. -/
theorem canon_of_piecesOf {s : Shape} {e : EltTy} (G : s.Idx → Elt Ideal e) (L : List (View.Piece (Elt Ideal) s e)) (h : View.PiecesOf G L) (y : s.Idx)
    (hc : ∃ p ∈ L, y ∈ p.1.set) : View.canon L y = G y := by
  have := View.canon_append_of_piecesOf G [] L h y hc
  rwa [List.append_nil] at this

set_option maxHeartbeats 8000000 in
/-- The tile read back whole is the dequantised input. -/
theorem v547 (c : Dev nD) (arg2 : Memref sig .tc .vmem S1x256x7168 .fp8e4m3) (harg2 : arg2.IsWhole) (arg3 : Memref sig .tc .vmem S1x256x56 .f32) (harg3 : arg3.IsWhole)
  (arg16 : Memref sig .tc .vmem S256x7168 .bf16)
  (x0 : Vec Ideal S1x256x7168 .fp8e4m3) (x1 : Vec Ideal S1x256x56 .f32) :
   tokRun.sl.v547 c arg2 harg2 arg3 harg3 arg16 x0 x1 = xwK x0 x1 := by
  unfold tokRun.sl.v547
  refine (View.readCov_eq_canon' _ _ _).trans ?_
  refine (View.ld_unit_lit (S := S256x7168) (Val := Elt Ideal) _ (View.canon _) (by decide)).trans ?_
  funext y
  unfold tokRun.sl.HS1_56
  refine canon_of_piecesOf (s := S256x7168) (e := .bf16) (xwK x0 x1) _ ?_ y (View.cover_of_tiledBy (s := S256x7168) _ ![256, 128] (by sl_kernel_rfl) y)
  · refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
    all_goals intro x
    all_goals idx_vars x
    all_goals unfold xwK
    all_goals pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, tokRun.sl.r, tokRun.sl.r_1, tokRun.sl.r_2, tokRun.sl.r_3, tokRun.sl.r_4, tokRun.sl.r_5, tokRun.sl.r_6, tokRun.sl.r_7, tokRun.sl.r_8, tokRun.sl.r_9, tokRun.sl.r_10, tokRun.sl.r_11, tokRun.sl.r_12, tokRun.sl.r_13, tokRun.sl.r_14]
    all_goals simp only [Memref.IsWhole.readAt_unread]
    all_goals congr 1 <;> blk_ext
    all_goals rw [Rect.idx_unit_val]
    all_goals first | rfl | exact Nat.zero_add _ | refine (Nat.zero_add _).trans ?_
    all_goals refine (Nat.div_eq_of_lt_le ?_ ?_).symm
    all_goals first | (simp [ix3_2]; omega) | (simp [ix3_2]; done) | skip

end Cert.Val.K

end
end
-- ==== Proof.Val.KGroups.lean ====
/- The kernel's five quantised groups at an index: codes, scales and the products of both, from the rows it quantises. -/
module

public import proofs.«01_k».proof.Proof.Gen.KernelIdeal.Skeleton
public import proofs.«01_k».proof.Proof.Val.Spec
public import Idealize.ShloMosaic.Lib.Pointwise

@[expose] public section

set_option maxRecDepth 16384

noncomputable section

namespace Cert.Val

open Cert.KernelIdeal Cert.KernelIdeal.Gen Idealize.ShloMosaic

/-- Group 0's codes. -/
theorem code_0 (dc : FVec Ideal S256x512 .f32) (r : Fin 256) (l : Fin 128) :
    k0_pay90 (k0_pay84 dc) (k0_pay85 dc) (iota .tc S1x256 32 [1] iota_S1x256_d1_w32) k0_pay86 (ix3 0 r l)
      = codeOf (downK (yOf (amaxOf (fun l : Fin 128 => dc (ix2 r ⟨l.val, by omega⟩))))) (dc (ix2 r ⟨l.val, by omega⟩)) := by
  pointwise [k0_pay92, k0_pay91, k0_pay90, k0_pay89, k0_pay88, k0_pay87, k0_pay86, k0_pay85, k0_pay84]
  rfl

/-- Group 0's scale. -/
theorem scale_0 (dc : FVec Ideal S256x512 .f32) (r : Fin 256) :
    k0_pay91 (k0_pay88 (k0_pay85 dc) (iota .tc S1x256 32 [1] iota_S1x256_d1_w32) k0_pay86) (ix3 0 r 0)
      = upK (yOf (amaxOf (fun l : Fin 128 => dc (ix2 r ⟨l.val, by omega⟩)))) := by
  pointwise [k0_pay92, k0_pay91, k0_pay90, k0_pay89, k0_pay88, k0_pay87, k0_pay86, k0_pay85, k0_pay84]
  rfl

/-- Group 0's codes times its scale. -/
theorem prod_0 (dc : FVec Ideal S256x512 .f32) (r : Fin 256) (l : Fin 128) :
    k0_pay92 (k0_pay88 (k0_pay85 dc) (iota .tc S1x256 32 [1] iota_S1x256_d1_w32) k0_pay86) (k0_pay89 (k0_pay84 dc) (k0_pay85 dc) (iota .tc S1x256 32 [1] iota_S1x256_d1_w32) k0_pay86) (ix2 r l)
      = codeOf (downK (yOf (amaxOf (fun l : Fin 128 => dc (ix2 r ⟨l.val, by omega⟩))))) (dc (ix2 r ⟨l.val, by omega⟩))
        * upK (yOf (amaxOf (fun l : Fin 128 => dc (ix2 r ⟨l.val, by omega⟩)))) := by
  pointwise [k0_pay92, k0_pay91, k0_pay90, k0_pay89, k0_pay88, k0_pay87, k0_pay86, k0_pay85, k0_pay84]
  rfl

/-- Group 1's codes. -/
theorem code_1 (dc : FVec Ideal S256x512 .f32) (r : Fin 256) (l : Fin 128) :
    k0_pay99 (k0_pay93 dc) (k0_pay96 dc) k0_pay97 (ix3 0 r l)
      = codeOf (downK (yOf (amaxOf (fun l : Fin 128 => dc (ix2 r ⟨128 + l.val, by omega⟩))))) (dc (ix2 r ⟨128 + l.val, by omega⟩)) := by
  pointwise [k0_pay101, k0_pay100, k0_pay99, k0_pay98, k0_pay97, k0_pay96, k0_pay95, k0_pay94, k0_pay93]
  rfl

/-- Group 1's scale. -/
theorem scale_1 (dc : FVec Ideal S256x512 .f32) (r : Fin 256) :
    k0_pay100 (k0_pay95 dc) (ix3 0 r 0)
      = upK (yOf (amaxOf (fun l : Fin 128 => dc (ix2 r ⟨128 + l.val, by omega⟩)))) := by
  pointwise [k0_pay101, k0_pay100, k0_pay99, k0_pay98, k0_pay97, k0_pay96, k0_pay95, k0_pay94, k0_pay93]
  rfl

/-- Group 1's codes times its scale. -/
theorem prod_1 (dc : FVec Ideal S256x512 .f32) (r : Fin 256) (l : Fin 128) :
    k0_pay101 (k0_pay93 dc) (k0_pay95 dc) (k0_pay96 dc) k0_pay97 (ix2 r l)
      = codeOf (downK (yOf (amaxOf (fun l : Fin 128 => dc (ix2 r ⟨128 + l.val, by omega⟩))))) (dc (ix2 r ⟨128 + l.val, by omega⟩))
        * upK (yOf (amaxOf (fun l : Fin 128 => dc (ix2 r ⟨128 + l.val, by omega⟩)))) := by
  pointwise [k0_pay101, k0_pay100, k0_pay99, k0_pay98, k0_pay97, k0_pay96, k0_pay95, k0_pay94, k0_pay93]
  rfl

/-- Group 2's codes. -/
theorem code_2 (dc : FVec Ideal S256x512 .f32) (r : Fin 256) (l : Fin 128) :
    k0_pay108 (k0_pay102 dc) (k0_pay103 dc) (k0_pay104 dc) (ix3 0 r l)
      = codeOf (downK (yOf (amaxOf (fun l : Fin 128 => dc (ix2 r ⟨256 + l.val, by omega⟩))))) (dc (ix2 r ⟨256 + l.val, by omega⟩)) := by
  pointwise [k0_pay110, k0_pay109, k0_pay108, k0_pay107, k0_pay106, k0_pay105, k0_pay104, k0_pay103, k0_pay102]
  rfl

/-- Group 2's scale. -/
theorem scale_2 (dc : FVec Ideal S256x512 .f32) (r : Fin 256) :
    k0_pay109 (k0_pay103 dc) (k0_pay104 dc) (ix3 0 r 0)
      = upK (yOf (amaxOf (fun l : Fin 128 => dc (ix2 r ⟨256 + l.val, by omega⟩)))) := by
  pointwise [k0_pay110, k0_pay109, k0_pay108, k0_pay107, k0_pay106, k0_pay105, k0_pay104, k0_pay103, k0_pay102]
  rfl

/-- Group 2's codes times its scale. -/
theorem prod_2 (dc : FVec Ideal S256x512 .f32) (r : Fin 256) (l : Fin 128) :
    k0_pay110 (k0_pay102 dc) (k0_pay103 dc) (k0_pay104 dc) (ix2 r l)
      = codeOf (downK (yOf (amaxOf (fun l : Fin 128 => dc (ix2 r ⟨256 + l.val, by omega⟩))))) (dc (ix2 r ⟨256 + l.val, by omega⟩))
        * upK (yOf (amaxOf (fun l : Fin 128 => dc (ix2 r ⟨256 + l.val, by omega⟩)))) := by
  pointwise [k0_pay110, k0_pay109, k0_pay108, k0_pay107, k0_pay106, k0_pay105, k0_pay104, k0_pay103, k0_pay102]
  rfl

/-- Group 3's codes. -/
theorem code_3 (dc : FVec Ideal S256x512 .f32) (r : Fin 256) (l : Fin 128) :
    k0_pay116 (k0_pay115 (k0_pay111 dc) (k0_pay112 dc)) (ix3 0 r l)
      = codeOf (downK (yOf (amaxOf (fun l : Fin 128 => dc (ix2 r ⟨384 + l.val, by omega⟩))))) (dc (ix2 r ⟨384 + l.val, by omega⟩)) := by
  pointwise [k0_pay118, k0_pay117, k0_pay116, k0_pay115, k0_pay114, k0_pay113, k0_pay112, k0_pay111]
  rfl

/-- Group 3's scale. -/
theorem scale_3 (dc : FVec Ideal S256x512 .f32) (r : Fin 256) :
    k0_pay117 (k0_pay114 (k0_pay112 dc)) (ix3 0 r 0)
      = upK (yOf (amaxOf (fun l : Fin 128 => dc (ix2 r ⟨384 + l.val, by omega⟩)))) := by
  pointwise [k0_pay118, k0_pay117, k0_pay116, k0_pay115, k0_pay114, k0_pay113, k0_pay112, k0_pay111]
  rfl

/-- Group 3's codes times its scale. -/
theorem prod_3 (dc : FVec Ideal S256x512 .f32) (r : Fin 256) (l : Fin 128) :
    k0_pay118 (k0_pay114 (k0_pay112 dc)) (k0_pay115 (k0_pay111 dc) (k0_pay112 dc)) (ix2 r l)
      = codeOf (downK (yOf (amaxOf (fun l : Fin 128 => dc (ix2 r ⟨384 + l.val, by omega⟩))))) (dc (ix2 r ⟨384 + l.val, by omega⟩))
        * upK (yOf (amaxOf (fun l : Fin 128 => dc (ix2 r ⟨384 + l.val, by omega⟩)))) := by
  pointwise [k0_pay118, k0_pay117, k0_pay116, k0_pay115, k0_pay114, k0_pay113, k0_pay112, k0_pay111]
  rfl

/-- Group 4's codes. -/
theorem code_4 (dc : FVec Ideal S256x64 .f32) (r : Fin 256) (l : Fin 64) :
    k0_pay123 dc (k0_pay119 dc) (ix3 0 r l)
      = codeOf (downK (yOf (amaxOf (fun l : Fin 64 => dc (ix2 r l))))) (dc (ix2 r l)) := by
  pointwise [k0_pay125, k0_pay124, k0_pay123, k0_pay122, k0_pay121, k0_pay120, k0_pay119, k0_pay1]
  rfl

/-- Group 4's scale. -/
theorem scale_4 (dc : FVec Ideal S256x64 .f32) (r : Fin 256) :
    k0_pay124 (F := Ideal) (k0_pay120 dc) 23#32 (ix3 0 r 0)
      = upK (yOf (amaxOf (fun l : Fin 64 => dc (ix2 r l)))) := by
  pointwise [k0_pay125, k0_pay124, k0_pay123, k0_pay122, k0_pay121, k0_pay120, k0_pay119, k0_pay1]
  rfl

/-- Group 4's codes times its scale. -/
theorem prod_4 (dc : FVec Ideal S256x64 .f32) (r : Fin 256) (l : Fin 64) :
    k0_pay1 (k0_pay125 dc (k0_pay119 dc) (k0_pay120 dc) 23#32) (ix2 r l)
      = codeOf (downK (yOf (amaxOf (fun l : Fin 64 => dc (ix2 r l))))) (dc (ix2 r l))
        * upK (yOf (amaxOf (fun l : Fin 64 => dc (ix2 r l)))) := by
  pointwise [k0_pay125, k0_pay124, k0_pay123, k0_pay122, k0_pay121, k0_pay120, k0_pay119, k0_pay1]
  rfl

end Cert.Val

end
end
-- ==== Proof.Val.KSpec.lean ====
/- The kernel's quantised groups as columns of one row of 576: codes, scales and products. -/
module

public import proofs.«01_k».proof.Proof.Val.KGroups
public import Idealize.ShloMosaic.Lib.Pipeline.ValueKit
public import Idealize.ShloMosaic.Lib.Pipeline.ReadBack

@[expose] public section

set_option maxRecDepth 16384

noncomputable section

namespace Cert.Val

open Cert.KernelIdeal Cert.KernelIdeal.Gen Idealize.ShloMosaic

variable (dcv : FVec Ideal S256x512 .f32) (drv : FVec Ideal S256x64 .f32)

/-- The codes of a row of the tile. -/
def codeV (r : Fin 256) (j : Fin 576) : EReal := codeS (fun l => dcv (ix2 r l)) (fun l => drv (ix2 r l)) j

/-- The scales of a row of the tile. -/
def scV (r : Fin 256) (k : Fin 5) : EReal := scS (fun l => dcv (ix2 r l)) (fun l => drv (ix2 r l)) k

/-- The products of a row of the tile. -/
def prodV (r : Fin 256) (j : Fin 576) : EReal := prodS (fun l => dcv (ix2 r l)) (fun l => drv (ix2 r l)) j

/-- The scale of one of the first four groups. -/
theorem scV_low (r : Fin 256) (k : Fin 5) (hk : k.val < 4) (g : Fin 128 → EReal)
    (hg : ∀ x : Fin 128, g x = dcv (ix2 r ⟨k.val * 128 + x.val, by omega⟩)) :
    upK (yOf (amaxOf g)) = scV dcv drv r k := by
  obtain rfl : g = _ := funext hg
  rw [upK_eq]
  unfold scV scS amS
  rw [dif_pos hk]

/-- The scale of the last group. -/
theorem scV_high (r : Fin 256) : upK (yOf (amaxOf (fun l : Fin 64 => drv (ix2 r l)))) = scV dcv drv r 4 := by
  rw [upK_eq]
  rfl

/-- A code of one of the first four groups. -/
theorem codeV_low (r : Fin 256) (k : Fin 5) (hk : k.val < 4) (g : Fin 128 → EReal)
    (hg : ∀ x : Fin 128, g x = dcv (ix2 r ⟨k.val * 128 + x.val, by omega⟩)) (l : Fin 128) (j : Fin 576)
    (hj : j.val = k.val * 128 + l.val) :
    codeOf (downK (yOf (amaxOf g))) (g l) = codeV dcv drv r j := by
  have hk' : kOf j = k := Fin.ext (by show j.val / 128 = k.val; omega)
  unfold codeV codeS
  rw [downK_eq, ← upK_eq, scV_low dcv drv r k hk g hg, hk', hg]
  unfold elS
  rw [dif_pos (show j.val < 512 by omega)]
  exact congrArg₂ codeOf rfl (congrArg (fun i => dcv (ix2 r i)) (Fin.ext hj.symm))

/-- A code of the last group. -/
theorem codeV_high (r : Fin 256) (l : Fin 64) (j : Fin 576) (hj : j.val = 512 + l.val) :
    codeOf (downK (yOf (amaxOf (fun l : Fin 64 => drv (ix2 r l))))) (drv (ix2 r l)) = codeV dcv drv r j := by
  have hk' : kOf j = 4 := Fin.ext (by show j.val / 128 = 4; omega)
  unfold codeV codeS
  rw [downK_eq, ← upK_eq, scV_high dcv drv r, hk']
  unfold elS
  rw [dif_neg (show ¬ j.val < 512 by omega)]
  exact congrArg₂ codeOf rfl (congrArg (fun i => drv (ix2 r i)) (Fin.ext (by show l.val = j.val - 512; omega)))

/-- A product of one of the first four groups. -/
theorem prodV_low (r : Fin 256) (k : Fin 5) (hk : k.val < 4) (g : Fin 128 → EReal)
    (hg : ∀ x : Fin 128, g x = dcv (ix2 r ⟨k.val * 128 + x.val, by omega⟩)) (l : Fin 128) (j : Fin 576)
    (hj : j.val = k.val * 128 + l.val) :
    codeOf (downK (yOf (amaxOf g))) (g l) * upK (yOf (amaxOf g)) = prodV dcv drv r j := by
  have hk' : kOf j = k := Fin.ext (by show j.val / 128 = k.val; omega)
  rw [codeV_low dcv drv r k hk g hg l j hj, scV_low dcv drv r k hk g hg, ← hk']
  rfl

/-- A product of the last group. -/
theorem prodV_high (r : Fin 256) (l : Fin 64) (j : Fin 576) (hj : j.val = 512 + l.val) :
    codeOf (downK (yOf (amaxOf (fun l : Fin 64 => drv (ix2 r l))))) (drv (ix2 r l))
      * upK (yOf (amaxOf (fun l : Fin 64 => drv (ix2 r l)))) = prodV dcv drv r j := by
  have hk' : kOf j = 4 := Fin.ext (by show j.val / 128 = 4; omega)
  rw [codeV_high dcv drv r l j hj, scV_high dcv drv r, ← hk']
  rfl

/-- The five groups of codes, each in its columns. -/
theorem codePieces : View.PiecesOf (Val := Elt Ideal) (s := S1x256x576) (e := .fp8e5m2) (fun y => codeV dcv drv (y 1) (y 2)) [
    ⟨Rect.unit ![0, 0, 512] S1x256x64.size inb_S1x256x576_S1x256x64_0_0_512, k0_pay123 drv (k0_pay119 drv)⟩,
    ⟨Rect.unit ![0, 0, 384] S1x256x128.size inb_S1x256x576_S1x256x128_0_0_384, k0_pay116 (k0_pay115 (k0_pay111 dcv) (k0_pay112 dcv))⟩,
    ⟨Rect.unit ![0, 0, 256] S1x256x128.size inb_S1x256x576_S1x256x128_0_0_256, k0_pay108 (k0_pay102 dcv) (k0_pay103 dcv) (k0_pay104 dcv)⟩,
    ⟨Rect.unit ![0, 0, 128] S1x256x128.size inb_S1x256x576_S1x256x128_0_0_128, k0_pay99 (k0_pay93 dcv) (k0_pay96 dcv) k0_pay97⟩,
    ⟨Rect.unit ![0, 0, 0] S1x256x128.size inb_S1x256x576_S1x256x128_0_0_0,
      k0_pay90 (k0_pay84 dcv) (k0_pay85 dcv) (iota .tc S1x256 32 [1] iota_S1x256_d1_w32) k0_pay86⟩] := by
  refine ⟨fun x => ?_, fun x => ?_, fun x => ?_, fun x => ?_, fun x => ?_, trivial⟩
  all_goals idx_vars x
  all_goals obtain rfl : x0 = 0 := Subsingleton.elim _ _
  · refine (code_4 drv x1 x2).trans ((codeV_high dcv drv x1 x2 _ ?_).trans (congrArg (fun r => codeV dcv drv r _) (Fin.ext ?_)))
    · rw [ValueKit.rect_emb_unit_val]; rfl
    · rw [ValueKit.rect_emb_unit_val]; exact (Nat.zero_add _).symm
  · refine (code_3 dcv x1 x2).trans ((codeV_low dcv drv x1 3 (by decide) _ (fun x => congrArg (fun i => dcv (ix2 x1 i)) (Fin.ext (by show 384 + x.val = 3 * 128 + x.val; omega))) x2 _ ?_).trans (congrArg (fun r => codeV dcv drv r _) (Fin.ext ?_)))
    · rw [ValueKit.rect_emb_unit_val]; rfl
    · rw [ValueKit.rect_emb_unit_val]; exact (Nat.zero_add _).symm
  · refine (code_2 dcv x1 x2).trans ((codeV_low dcv drv x1 2 (by decide) _ (fun x => congrArg (fun i => dcv (ix2 x1 i)) (Fin.ext (by show 256 + x.val = 2 * 128 + x.val; omega))) x2 _ ?_).trans (congrArg (fun r => codeV dcv drv r _) (Fin.ext ?_)))
    · rw [ValueKit.rect_emb_unit_val]; rfl
    · rw [ValueKit.rect_emb_unit_val]; exact (Nat.zero_add _).symm
  · refine (code_1 dcv x1 x2).trans ((codeV_low dcv drv x1 1 (by decide) _ (fun x => congrArg (fun i => dcv (ix2 x1 i)) (Fin.ext (by show 128 + x.val = 1 * 128 + x.val; omega))) x2 _ ?_).trans (congrArg (fun r => codeV dcv drv r _) (Fin.ext ?_)))
    · rw [ValueKit.rect_emb_unit_val]; rfl
    · rw [ValueKit.rect_emb_unit_val]; exact (Nat.zero_add _).symm
  · refine (code_0 dcv x1 x2).trans ((codeV_low dcv drv x1 0 (by decide) _ (fun x => congrArg (fun i => dcv (ix2 x1 i)) (Fin.ext (by show x.val = 0 * 128 + x.val; omega))) x2 _ ?_).trans (congrArg (fun r => codeV dcv drv r _) (Fin.ext ?_)))
    · rw [ValueKit.rect_emb_unit_val]; rfl
    · rw [ValueKit.rect_emb_unit_val]; exact (Nat.zero_add _).symm

/-- The five scales, each in its column. -/
theorem scPieces : View.PiecesOf (Val := Elt Ideal) (s := S1x256x5) (e := .f32) (fun y => scV dcv drv (y 1) (y 2)) [
    ⟨Rect.unit ![0, 0, 4] S1x256x1.size inb_S1x256x5_S1x256x1_0_0_4, k0_pay124 (F := Ideal) (k0_pay120 drv) 23#32⟩,
    ⟨Rect.unit ![0, 0, 3] S1x256x1.size inb_S1x256x5_S1x256x1_0_0_3, k0_pay117 (k0_pay114 (k0_pay112 dcv))⟩,
    ⟨Rect.unit ![0, 0, 2] S1x256x1.size inb_S1x256x5_S1x256x1_0_0_2, k0_pay109 (k0_pay103 dcv) (k0_pay104 dcv)⟩,
    ⟨Rect.unit ![0, 0, 1] S1x256x1.size inb_S1x256x5_S1x256x1_0_0_1, k0_pay100 (k0_pay95 dcv)⟩,
    ⟨Rect.unit ![0, 0, 0] S1x256x1.size inb_S1x256x5_S1x256x1_0_0_0,
      k0_pay91 (k0_pay88 (k0_pay85 dcv) (iota .tc S1x256 32 [1] iota_S1x256_d1_w32) k0_pay86)⟩] := by
  refine ⟨fun x => ?_, fun x => ?_, fun x => ?_, fun x => ?_, fun x => ?_, trivial⟩
  all_goals idx_vars x
  all_goals obtain rfl : x0 = 0 := Subsingleton.elim _ _
  all_goals obtain rfl : x2 = 0 := Subsingleton.elim _ _
  · refine (scale_4 drv x1).trans ((scV_high dcv drv x1 ).trans (congrArg₂ (scV dcv drv) (Fin.ext ?_) (Fin.ext ?_)))
    · rw [ValueKit.rect_emb_unit_val]; exact (Nat.zero_add _).symm
    · rw [ValueKit.rect_emb_unit_val]; rfl
  · refine (scale_3 dcv x1).trans ((scV_low dcv drv x1 3 (by decide) _ (fun x => congrArg (fun i => dcv (ix2 x1 i)) (Fin.ext (by show 384 + x.val = 3 * 128 + x.val; omega))) ).trans (congrArg₂ (scV dcv drv) (Fin.ext ?_) (Fin.ext ?_)))
    · rw [ValueKit.rect_emb_unit_val]; exact (Nat.zero_add _).symm
    · rw [ValueKit.rect_emb_unit_val]; rfl
  · refine (scale_2 dcv x1).trans ((scV_low dcv drv x1 2 (by decide) _ (fun x => congrArg (fun i => dcv (ix2 x1 i)) (Fin.ext (by show 256 + x.val = 2 * 128 + x.val; omega))) ).trans (congrArg₂ (scV dcv drv) (Fin.ext ?_) (Fin.ext ?_)))
    · rw [ValueKit.rect_emb_unit_val]; exact (Nat.zero_add _).symm
    · rw [ValueKit.rect_emb_unit_val]; rfl
  · refine (scale_1 dcv x1).trans ((scV_low dcv drv x1 1 (by decide) _ (fun x => congrArg (fun i => dcv (ix2 x1 i)) (Fin.ext (by show 128 + x.val = 1 * 128 + x.val; omega))) ).trans (congrArg₂ (scV dcv drv) (Fin.ext ?_) (Fin.ext ?_)))
    · rw [ValueKit.rect_emb_unit_val]; exact (Nat.zero_add _).symm
    · rw [ValueKit.rect_emb_unit_val]; rfl
  · refine (scale_0 dcv x1).trans ((scV_low dcv drv x1 0 (by decide) _ (fun x => congrArg (fun i => dcv (ix2 x1 i)) (Fin.ext (by show x.val = 0 * 128 + x.val; omega))) ).trans (congrArg₂ (scV dcv drv) (Fin.ext ?_) (Fin.ext ?_)))
    · rw [ValueKit.rect_emb_unit_val]; exact (Nat.zero_add _).symm
    · rw [ValueKit.rect_emb_unit_val]; rfl

/-- The five groups of products, each in its columns. -/
theorem prodPieces : View.PiecesOf (Val := Elt Ideal) (s := S256x576) (e := .bf16) (fun y => prodV dcv drv (y 0) (y 1)) [
    ⟨Rect.unit ![0, 512] S256x64.size inb_S256x576_S256x64_0_512, k0_pay1 (k0_pay125 drv (k0_pay119 drv) (k0_pay120 drv) 23#32)⟩,
    ⟨Rect.unit ![0, 384] S256x128.size inb_S256x576_S256x128_0_384, k0_pay118 (k0_pay114 (k0_pay112 dcv)) (k0_pay115 (k0_pay111 dcv) (k0_pay112 dcv))⟩,
    ⟨Rect.unit ![0, 256] S256x128.size inb_S256x576_S256x128_0_256, k0_pay110 (k0_pay102 dcv) (k0_pay103 dcv) (k0_pay104 dcv)⟩,
    ⟨Rect.unit ![0, 128] S256x128.size inb_S256x576_S256x128_0_128, k0_pay101 (k0_pay93 dcv) (k0_pay95 dcv) (k0_pay96 dcv) k0_pay97⟩,
    ⟨Rect.unit ![0, 0] S256x128.size inb_S256x576_S256x128_0_0,
      k0_pay92 (k0_pay88 (k0_pay85 dcv) (iota .tc S1x256 32 [1] iota_S1x256_d1_w32) k0_pay86) (k0_pay89 (k0_pay84 dcv) (k0_pay85 dcv) (iota .tc S1x256 32 [1] iota_S1x256_d1_w32) k0_pay86)⟩] := by
  refine ⟨fun x => ?_, fun x => ?_, fun x => ?_, fun x => ?_, fun x => ?_, trivial⟩
  all_goals idx_vars x
  · refine (prod_4 drv x0 x1).trans ((prodV_high dcv drv x0 x1 _ ?_).trans (congrArg (fun r => prodV dcv drv r _) (Fin.ext ?_)))
    · rw [ValueKit.rect_emb_unit_val]; rfl
    · rw [ValueKit.rect_emb_unit_val]; exact (Nat.zero_add _).symm
  · refine (prod_3 dcv x0 x1).trans ((prodV_low dcv drv x0 3 (by decide) _ (fun x => congrArg (fun i => dcv (ix2 x0 i)) (Fin.ext (by show 384 + x.val = 3 * 128 + x.val; omega))) x1 _ ?_).trans (congrArg (fun r => prodV dcv drv r _) (Fin.ext ?_)))
    · rw [ValueKit.rect_emb_unit_val]; rfl
    · rw [ValueKit.rect_emb_unit_val]; exact (Nat.zero_add _).symm
  · refine (prod_2 dcv x0 x1).trans ((prodV_low dcv drv x0 2 (by decide) _ (fun x => congrArg (fun i => dcv (ix2 x0 i)) (Fin.ext (by show 256 + x.val = 2 * 128 + x.val; omega))) x1 _ ?_).trans (congrArg (fun r => prodV dcv drv r _) (Fin.ext ?_)))
    · rw [ValueKit.rect_emb_unit_val]; rfl
    · rw [ValueKit.rect_emb_unit_val]; exact (Nat.zero_add _).symm
  · refine (prod_1 dcv x0 x1).trans ((prodV_low dcv drv x0 1 (by decide) _ (fun x => congrArg (fun i => dcv (ix2 x0 i)) (Fin.ext (by show 128 + x.val = 1 * 128 + x.val; omega))) x1 _ ?_).trans (congrArg (fun r => prodV dcv drv r _) (Fin.ext ?_)))
    · rw [ValueKit.rect_emb_unit_val]; rfl
    · rw [ValueKit.rect_emb_unit_val]; exact (Nat.zero_add _).symm
  · refine (prod_0 dcv x0 x1).trans ((prodV_low dcv drv x0 0 (by decide) _ (fun x => congrArg (fun i => dcv (ix2 x0 i)) (Fin.ext (by show x.val = 0 * 128 + x.val; omega))) x1 _ ?_).trans (congrArg (fun r => prodV dcv drv r _) (Fin.ext ?_)))
    · rw [ValueKit.rect_emb_unit_val]; rfl
    · rw [ValueKit.rect_emb_unit_val]; exact (Nat.zero_add _).symm

end Cert.Val

end
end
-- ==== Proof.Val.KTile.lean ====
/- The rows of one tile of the kernel, as the row specification of what the tile reads: each output block at an index. -/
module
public import proofs.«01_k».proof.Proof.Val.XRead
public import proofs.«01_k».proof.Proof.Val.KSpec
public import proofs.«01_k».proof.Proof.KI.Body

@[expose] public section
set_option maxRecDepth 16384

noncomputable section

namespace Cert.Val.K

open Cert.KernelIdeal Cert.KernelIdeal.Gen Cert.KernelIdeal.Hand Idealize.ShloMosaic

variable (c : Dev nD) (v30 : BitVec 32) (arg2 : Memref sig .tc .vmem S1x256x7168 .fp8e4m3) (harg2 : arg2.IsWhole) (arg3 : Memref sig .tc .vmem S1x256x56 .f32) (harg3 : arg3.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg15 : Memref sig .tc .vmem S576x7168 .bf16) (harg15 : arg15.IsWhole) (arg16 : Memref sig .tc .vmem S256x7168 .bf16) (arg17 : Memref sig .tc .vmem S256x576 .bf16)
  (x0 : Vec Ideal S1x256x7168 .fp8e4m3) (x1 : Vec Ideal S1x256x56 .f32) (x4 : Vec Ideal S1x512 .f32) (x5 : Vec Ideal S1x1x256 .i32) (x6 : Vec Ideal S64x1 .f32) (x7 : Vec Ideal S1x256x512 .bf16) (x8 : Vec Ideal S1x256x64 .bf16) (W : Vec Ideal S576x7168 .bf16)

/-- The latent row's gradient, over the tile. -/
abbrev dcv := tokRun.sl.r_18 c v30 arg2 harg2 arg3 harg3 arg6 harg6 arg9 harg9 arg15 harg15 arg16 x0 x1 x4 x7 W
/-- The rope gradient, over the tile. -/
abbrev drv := tokRun.sl.r_21 c v30 arg7 harg7 arg8 harg8 arg10 harg10 x5 x6 x8

/-- The latent row of the tile. -/
def cfK (r : Fin 256) (l : Fin 512) : EReal := cfS (fun x => xwK x0 x1 (ix2 r x)) (fun j x => W (ix2 j x)) l
/-- The gradient entering at the latent row, nothing past the row count. -/
def gcK (r : Fin 256) (l : Fin 512) : EReal := x7 (ix3 0 r l) * vK v30 r
/-- The latent row's gradient. -/
def dcK (r : Fin 256) (l : Fin 512) : EReal := dcS (cfK x0 x1 W r) (gcK v30 x7 r) (fun l => x4 (ix2 0 l)) l
/-- The rope gradient of the row. -/
def drK (r : Fin 256) (l : Fin 64) : EReal :=
  rotS (fun l => x8 (ix3 0 r l) * vK v30 r) (fun l => x6 (ix2 l 0) * FloatOps.sitofp (F := Ideal) FTy.f32 (x5 (ix3 0 0 r))) l

/-- A value of the tile, read where the program reads it. -/
theorem wtop (l : Fin 512) (x : Fin 7168) : (View.readAt (Elt Ideal) arg15.view (Rect.unit (s := S576x7168) ![0, 0] S512x7168.size inb_S576x7168_S512x7168_0_0).toLoadRect (harg15.unread W)) (ix2 l x) = W (ix2 ⟨l.val, by omega⟩ x) := by
  simp only [Memref.IsWhole.readAt_unread]
  refine congrArg W ?_
  blk_ext
  all_goals rw [Rect.idx_unit_val]
  all_goals exact Nat.zero_add _

/-- A value of the tile, read where the program reads it. -/
theorem c_eq (r : Fin 256) (l : Fin 512) : k0_pay74 (tokRun.sl.v547 c arg2 harg2 arg3 harg3 arg16 x0 x1) (View.readAt (Elt Ideal) arg15.view (Rect.unit (s := S576x7168) ![0, 0] S512x7168.size inb_S576x7168_S512x7168_0_0).toLoadRect (harg15.unread W)) (ix2 r l) = cfK x0 x1 W r l := by
  rw [pay74, v547]
  exact Finset.sum_congr rfl fun x _ => congrArg (_ * ·) (wtop arg15 harg15 W l x)

/-- A value of the tile, read where the program reads it. -/
theorem dcv_eq (r : Fin 256) (l : Fin 512) : dcv c v30 arg2 harg2 arg3 harg3 arg6 harg6 arg9 harg9 arg15 harg15 arg16 x0 x1 x4 x7 W (ix2 r l) = dcK v30 x0 x1 x4 x7 W r l := by
  unfold dcv tokRun.sl.r_18 tokRun.sl.r_15 tokRun.sl.r_16 tokRun.sl.r_17
  rw [pay80]
  unfold dcK gcK
  refine congrFun (congr (congrArg₂ dcS (funext fun l => c_eq c arg2 harg2 arg3 harg3 arg15 harg15 arg16 x0 x1 W r l) (funext fun l => ?_)) (funext fun l => ?_)) l
  · congr 1; simp only [Memref.IsWhole.readAt_unread]; refine congrArg x7 ?_; blk_ext
    all_goals rw [Rect.idx_unit_val]
    all_goals exact Nat.zero_add _
  · simp only [Memref.IsWhole.readAt_unread]; refine congrArg x4 ?_; blk_ext
    all_goals rw [Rect.idx_unit_val]
    all_goals exact Nat.zero_add _

/-- A value of the tile, read where the program reads it. -/
theorem drv_eq (r : Fin 256) (l : Fin 64) : drv c v30 arg7 harg7 arg8 harg8 arg10 harg10 x5 x6 x8 (ix2 r l) = drK v30 x5 x6 x8 r l := by
  unfold drv tokRun.sl.r_21 tokRun.sl.r_19 tokRun.sl.r_20
  rw [pay83]
  unfold drK
  congr 1
  · funext l; congr 1; simp only [Memref.IsWhole.readAt_unread]; refine congrArg x8 ?_; blk_ext
    all_goals rw [Rect.idx_unit_val]
    all_goals exact Nat.zero_add _
  · funext l; simp only [Memref.IsWhole.readAt_unread]; congr 1
    · refine congrArg x6 ?_; blk_ext
      all_goals rw [Rect.idx_unit_val]
      all_goals exact Nat.zero_add _
    · congr 1; refine congrArg x5 ?_; blk_ext
      all_goals rw [Rect.idx_unit_val]
      all_goals exact Nat.zero_add _

/-- The codes of the tile. -/
def codeK (r : Fin 256) (j : Fin 576) : EReal := codeS (dcK v30 x0 x1 x4 x7 W r) (drK v30 x5 x6 x8 r) j
/-- The scales of the tile. -/
def scK (r : Fin 256) (k : Fin 5) : EReal := scS (dcK v30 x0 x1 x4 x7 W r) (drK v30 x5 x6 x8 r) k
/-- The products of the tile. -/
def prodK (r : Fin 256) (j : Fin 576) : EReal := prodS (dcK v30 x0 x1 x4 x7 W r) (drK v30 x5 x6 x8 r) j

section
variable (dcv : FVec Ideal S256x512 .f32) (drv : FVec Ideal S256x64 .f32)
theorem codeV_of (hd : ∀ r l, dcv (ix2 r l) = dcK v30 x0 x1 x4 x7 W r l) (hr : ∀ r l, drv (ix2 r l) = drK v30 x5 x6 x8 r l) (r j) :
    codeV dcv drv r j = codeK v30 x0 x1 x4 x5 x6 x7 x8 W r j := by
  unfold codeV; simp only [hd, hr]; rfl
theorem scV_of (hd : ∀ r l, dcv (ix2 r l) = dcK v30 x0 x1 x4 x7 W r l) (hr : ∀ r l, drv (ix2 r l) = drK v30 x5 x6 x8 r l) (r j) :
    scV dcv drv r j = scK v30 x0 x1 x4 x5 x6 x7 x8 W r j := by
  unfold scV; simp only [hd, hr]; rfl
theorem prodV_of (hd : ∀ r l, dcv (ix2 r l) = dcK v30 x0 x1 x4 x7 W r l) (hr : ∀ r l, drv (ix2 r l) = drK v30 x5 x6 x8 r l) (r j) :
    prodV dcv drv r j = prodK v30 x0 x1 x4 x5 x6 x7 x8 W r j := by
  unfold prodV; simp only [hd, hr]; rfl
end

set_option maxHeartbeats 8000000 in
/-- The codes' stores, read as one block. -/
theorem L11 (c : Dev nD) (v30 : BitVec 32) (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (x0 : Vec Ideal S1x256x7168 .fp8e4m3) (x1 : Vec Ideal S1x256x56 .f32) (x4 : Vec Ideal S1x512 .f32) (x5 : Vec Ideal S1x1x256 .i32) (x6 : Vec Ideal S64x1 .f32) (x7 : Vec Ideal S1x256x512 .bf16) (x8 : Vec Ideal S1x256x64 .bf16) (W : Vec Ideal S576x7168 .bf16) (y) : View.canon (tokRun c v30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 W).1.2.2.1 y = codeK v30 x0 x1 x4 x5 x6 x7 x8 W (y 1) (y 2) := by
  refine Eq.trans ?_ (codeV_of v30 x0 x1 x4 x5 x6 x7 x8 W
    (dcv c v30 arg2 harg2 arg3 harg3 arg6 harg6 arg9 harg9 arg15 harg15 arg16 x0 x1 x4 x7 W)
    (drv c v30 arg7 harg7 arg8 harg8 arg10 harg10 x5 x6 x8) (dcv_eq _ _ _ _ _ _ _ _ _ _ _ _ _ _ _ _ _ _) (drv_eq _ _ _ _ _ _ _ _ _ _ _) (y 1) (y 2))
  exact canon_of_piecesOf (s := S1x256x576) (e := .fp8e5m2) _ _ (codePieces _ _) y (tokCover11 c v30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 W y)

set_option maxHeartbeats 8000000 in
/-- The scales' stores, read as one block. -/
theorem L12 (c : Dev nD) (v30 : BitVec 32) (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (x0 : Vec Ideal S1x256x7168 .fp8e4m3) (x1 : Vec Ideal S1x256x56 .f32) (x4 : Vec Ideal S1x512 .f32) (x5 : Vec Ideal S1x1x256 .i32) (x6 : Vec Ideal S64x1 .f32) (x7 : Vec Ideal S1x256x512 .bf16) (x8 : Vec Ideal S1x256x64 .bf16) (W : Vec Ideal S576x7168 .bf16) (y) : View.canon (tokRun c v30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 W).1.2.2.2 y = scK v30 x0 x1 x4 x5 x6 x7 x8 W (y 1) (y 2) := by
  refine Eq.trans ?_ (scV_of v30 x0 x1 x4 x5 x6 x7 x8 W
    (dcv c v30 arg2 harg2 arg3 harg3 arg6 harg6 arg9 harg9 arg15 harg15 arg16 x0 x1 x4 x7 W)
    (drv c v30 arg7 harg7 arg8 harg8 arg10 harg10 x5 x6 x8) (dcv_eq _ _ _ _ _ _ _ _ _ _ _ _ _ _ _ _ _ _) (drv_eq _ _ _ _ _ _ _ _ _ _ _) (y 1) (y 2))
  exact canon_of_piecesOf (s := S1x256x5) (e := .f32) _ _ (scPieces _ _) y (tokCover12 c v30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 W y)

set_option maxHeartbeats 8000000 in
/-- The products the kernel writes group by group and reads back whole. -/
theorem v947 (y) : tokRun.sl.v947 c v30 arg2 harg2 arg3 harg3 arg6 harg6 arg7 harg7 arg8 harg8 arg9 harg9 arg10 harg10 arg15 harg15 arg16 arg17 x0 x1 x4 x5 x6 x7 x8 W y = prodK v30 x0 x1 x4 x5 x6 x7 x8 W (y 0) (y 1) := by
  unfold tokRun.sl.v947
  refine (congrFun ((View.readCov_eq_canon' _ _ _).trans (View.ld_unit_lit (S := S256x576) (Val := Elt Ideal) _ (View.canon _) (by decide))) y).trans ?_
  refine Eq.trans ?_ (prodV_of v30 x0 x1 x4 x5 x6 x7 x8 W
    (dcv c v30 arg2 harg2 arg3 harg3 arg6 harg6 arg9 harg9 arg15 harg15 arg16 x0 x1 x4 x7 W)
    (drv c v30 arg7 harg7 arg8 harg8 arg10 harg10 x5 x6 x8) (dcv_eq _ _ _ _ _ _ _ _ _ _ _ _ _ _ _ _ _ _) (drv_eq _ _ _ _ _ _ _ _ _ _ _) (y 0) (y 1))
  exact canon_of_piecesOf (s := S256x576) (e := .bf16) _ _ (prodPieces _ _) y (View.cover_of_tiledBy (s := S256x576) _ ![256, 64] (by sl_kernel_rfl) y)

/-- The input rows' gradient of the tile. -/
def dxK (r : Fin 256) (l : Fin 7168) : EReal := dxS (dcK v30 x0 x1 x4 x7 W r) (drK v30 x5 x6 x8 r) (fun j x => W (ix2 j x)) l
/-- The gain's gradient of each half of the tile. -/
def gpK (g : Fin 2) (l : Fin 512) : EReal :=
  ∑ x : Fin 128, gpS (cfK x0 x1 W ⟨g.val * 128 + x.val, by omega⟩) (gcK v30 x7 ⟨g.val * 128 + x.val, by omega⟩) l

/-- A value of the tile, read where the program reads it. -/
theorem wwhole : (View.readAt (Elt Ideal) arg15.view (Rect.unit (s := S576x7168) ![0, 0] S576x7168.size inb_S576x7168_S576x7168_0_0).toLoadRect (harg15.unread W)) = W := by
  funext y
  idx_vars y
  simp only [Memref.IsWhole.readAt_unread]
  refine congrArg W ?_
  blk_ext
  all_goals rw [Rect.idx_unit_val]
  all_goals exact Nat.zero_add _

/-- A value of the tile, read where the program reads it. -/
theorem dwhole : (View.readAt (Elt Ideal) arg9.view (Rect.unit (s := S1x256x512) ![0, 0, 0] S1x256x512.size inb_S1x256x512_S1x256x512_0_0_0).toLoadRect (harg9.unread x7)) = x7 := by
  funext y
  idx_vars y
  simp only [Memref.IsWhole.readAt_unread]
  refine congrArg x7 ?_
  blk_ext
  all_goals rw [Rect.idx_unit_val]
  all_goals exact Nat.zero_add _

set_option maxHeartbeats 8000000 in
/-- The input rows' gradient, stored whole. -/
theorem L9 (c : Dev nD) (v30 : BitVec 32) (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (x0 : Vec Ideal S1x256x7168 .fp8e4m3) (x1 : Vec Ideal S1x256x56 .f32) (x4 : Vec Ideal S1x512 .f32) (x5 : Vec Ideal S1x1x256 .i32) (x6 : Vec Ideal S64x1 .f32) (x7 : Vec Ideal S1x256x512 .bf16) (x8 : Vec Ideal S1x256x64 .bf16) (W : Vec Ideal S576x7168 .bf16) (y) : View.canon (tokRun c v30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 W).1.1 y = dxK v30 x0 x1 x4 x5 x6 x7 x8 W (y 1) (y 2) := by
  refine (congrFun (View.canon_cons_unit_lit _ _ _ (by decide)) y).trans ?_
  rw [wwhole]
  idx_vars y
  obtain rfl : y0 = 0 := Subsingleton.elim _ _
  rw [pay2]
  exact Finset.sum_congr rfl fun x _ => congrArg (· * _) (v947 c v30 arg2 harg2 arg3 harg3 arg6 harg6 arg7 harg7 arg8 harg8 arg9 harg9 arg10 harg10 arg15 harg15 arg16 arg17 x0 x1 x4 x5 x6 x7 x8 W _)

set_option maxHeartbeats 8000000 in
/-- The gain's gradient, stored whole. -/
theorem L10 (c : Dev nD) (v30 : BitVec 32) (i : grid0.Coords) (arg1 : Memref sig .tc .smem S2 .i32) (harg1 : arg1.IsWhole) (arg2 : Memref sig .tc .vmem S1x256x7168 .fp8e4m3) (harg2 : arg2.IsWhole) (arg3 : Memref sig .tc .vmem S1x256x56 .f32) (harg3 : arg3.IsWhole) (arg4 : Memref sig .tc .smem S5x56 .f32) (harg4 : arg4.IsWhole) (arg5 : Memref sig .tc .vmem S576x7168 .fp8e4m3) (harg5 : arg5.IsWhole) (arg6 : Memref sig .tc .vmem S1x512 .f32) (harg6 : arg6.IsWhole) (arg7 : Memref sig .tc .vmem S1x1x256 .i32) (harg7 : arg7.IsWhole) (arg8 : Memref sig .tc .vmem S64x1 .f32) (harg8 : arg8.IsWhole) (arg9 : Memref sig .tc .vmem S1x256x512 .bf16) (harg9 : arg9.IsWhole) (arg10 : Memref sig .tc .vmem S1x256x64 .bf16) (harg10 : arg10.IsWhole) (arg11 : Memref sig .tc .vmem S1x256x7168 .bf16) (harg11 : arg11.IsWhole) (arg12 : Memref sig .tc .vmem S1x1x2x512 .f32) (harg12 : arg12.IsWhole) (arg13 : Memref sig .tc .vmem S1x256x576 .fp8e5m2) (harg13 : arg13.IsWhole) (arg14 : Memref sig .tc .vmem S1x256x5 .f32) (harg14 : arg14.IsWhole) (arg15 : Memref sig .tc .vmem S576x7168 .bf16) (harg15 : arg15.IsWhole) (arg16 : Memref sig .tc .vmem S256x7168 .bf16) (harg16 : arg16.IsWhole) (arg17 : Memref sig .tc .vmem S256x576 .bf16) (harg17 : arg17.IsWhole) (x0 : Vec Ideal S1x256x7168 .fp8e4m3) (x1 : Vec Ideal S1x256x56 .f32) (x4 : Vec Ideal S1x512 .f32) (x5 : Vec Ideal S1x1x256 .i32) (x6 : Vec Ideal S64x1 .f32) (x7 : Vec Ideal S1x256x512 .bf16) (x8 : Vec Ideal S1x256x64 .bf16) (W : Vec Ideal S576x7168 .bf16) (y) : View.canon (tokRun c v30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x4 x5 x6 x7 x8 W).1.2.1 y = gpK v30 x0 x1 x7 W (y 2) (y 3) := by
  refine (congrFun (View.canon_cons_unit_lit _ _ _ (by decide)) y).trans ?_
  rw [dwhole]
  idx_vars y
  obtain rfl : y0 = 0 := Subsingleton.elim _ _
  obtain rfl : y1 = 0 := Subsingleton.elim _ _
  rw [pay78]
  exact Finset.sum_congr rfl fun x _ => congrArg (fun f => gpS f _ _) (funext fun l => c_eq c arg2 harg2 arg3 harg3 arg15 harg15 arg16 x0 x1 W _ l)

end Cert.Val.K

end
end
-- ==== Proof.Val.KOut.lean ====
/- What the kernel leaves in each output block at a point: the rows of the tile where it has tokens, the padding otherwise. -/
module

public import proofs.«01_k».proof.Proof.Val.KTile
public import proofs.«01_k».proof.Proof.KI.Frame

@[expose] public section

set_option maxRecDepth 16384

noncomputable section

namespace Cert.Val.K

open Cert.KernelIdeal Cert.KernelIdeal.Gen Cert.KernelIdeal.Hand Idealize.ShloMosaic

variable (m : (ℓ : Loc nD τ sig) → Buf (Elt Ideal) ℓ) (hO : Ok m) (c : Dev nD) (t : Fin (cfgM m hO).N)

/-- The widened weight at a place. -/
theorem wide_apply (x2 : Vec Ideal S5x56 .f32) (x3 : Vec Ideal S576x7168 .fp8e4m3) (y : S576x7168.Idx) :
    wide x2 x3 y = x3 y * x2 (sIx y) := rfl

/-- Output 9's block where the tile has tokens. -/
theorem out9_tok (h : 0 < (nValid (grid0.coords t) (lenW m hO t)).toInt) (y : S1x256x7168.Idx) :
    out9 m hO c t y = dxK (nValid (grid0.coords t) (lenW m hO t)) (iblk m hO c 0 t) (iblk m hO c 1 t) (iblk m hO c 4 t) (iblk m hO c 5 t) (iblk m hO c 6 t) (iblk m hO c 7 t) (iblk m hO c 8 t) (wide (iblk m hO c 2 t) (iblk m hO c 3 t)) (y 1) (y 2) := by
  unfold out9 blk9
  rw [if_neg (by rw [k0_cond2_iff]; exact not_not.mpr h), View.read_writes_junk_eq_canon]
  exact L9 _ _ _ _ _ _ _ _ _ _ _ _ _ _ _ _ _ _ _ _ _ _ _ _ _ _ _ _ _ _ _ _ _ _ _ _ _ _ _ _ _ _ _ _ _ _

/-- Output 9's block where the tile has none. -/
theorem out9_pad (h : ¬ 0 < (nValid (grid0.coords t) (lenW m hO t)).toInt) (y : S1x256x7168.Idx) :
    out9 m hO c t y = (0 : EReal) := by
  unfold out9 blk9
  rw [if_pos ((k0_cond2_iff _ _).mpr h)]
  idx_vars y
  pointwise [k0_pay131]

/-- Output 10's block where the tile has tokens. -/
theorem out10_tok (h : 0 < (nValid (grid0.coords t) (lenW m hO t)).toInt) (y : S1x1x2x512.Idx) :
    out10 m hO c t y = gpK (nValid (grid0.coords t) (lenW m hO t)) (iblk m hO c 0 t) (iblk m hO c 1 t) (iblk m hO c 7 t) (wide (iblk m hO c 2 t) (iblk m hO c 3 t)) (y 2) (y 3) := by
  unfold out10 blk10
  rw [if_neg (by rw [k0_cond2_iff]; exact not_not.mpr h), View.read_writes_junk_eq_canon]
  exact L10 _ _ _ _ _ _ _ _ _ _ _ _ _ _ _ _ _ _ _ _ _ _ _ _ _ _ _ _ _ _ _ _ _ _ _ _ _ _ _ _ _ _ _ _ _ _

/-- Output 10's block where the tile has none. -/
theorem out10_pad (h : ¬ 0 < (nValid (grid0.coords t) (lenW m hO t)).toInt) (y : S1x1x2x512.Idx) :
    out10 m hO c t y = (0 : EReal) := by
  unfold out10 blk10
  rw [if_pos ((k0_cond2_iff _ _).mpr h)]
  idx_vars y
  pointwise [k0_pay132]

/-- Output 11's block where the tile has tokens. -/
theorem out11_tok (h : 0 < (nValid (grid0.coords t) (lenW m hO t)).toInt) (y : S1x256x576.Idx) :
    out11 m hO c t y = codeK (nValid (grid0.coords t) (lenW m hO t)) (iblk m hO c 0 t) (iblk m hO c 1 t) (iblk m hO c 4 t) (iblk m hO c 5 t) (iblk m hO c 6 t) (iblk m hO c 7 t) (iblk m hO c 8 t) (wide (iblk m hO c 2 t) (iblk m hO c 3 t)) (y 1) (y 2) := by
  unfold out11 blk11
  rw [if_neg (by rw [k0_cond2_iff]; exact not_not.mpr h), View.read_writes_junk_eq_canon]
  exact L11 _ _ _ _ _ _ _ _ _ _ _ _ _ _ _ _ _ _ _ _ _ _ _ _ _ _ _ _ _ _ _ _ _ _ _ _ _ _ _ _ _ _ _ _ _ _

/-- Output 11's block where the tile has none. -/
theorem out11_pad (h : ¬ 0 < (nValid (grid0.coords t) (lenW m hO t)).toInt) (y : S1x256x576.Idx) :
    out11 m hO c t y = (0 : EReal) := by
  unfold out11 blk11
  rw [if_pos ((k0_cond2_iff _ _).mpr h)]
  idx_vars y
  pointwise [k0_pay133]

/-- Output 12's block where the tile has tokens. -/
theorem out12_tok (h : 0 < (nValid (grid0.coords t) (lenW m hO t)).toInt) (y : S1x256x5.Idx) :
    out12 m hO c t y = scK (nValid (grid0.coords t) (lenW m hO t)) (iblk m hO c 0 t) (iblk m hO c 1 t) (iblk m hO c 4 t) (iblk m hO c 5 t) (iblk m hO c 6 t) (iblk m hO c 7 t) (iblk m hO c 8 t) (wide (iblk m hO c 2 t) (iblk m hO c 3 t)) (y 1) (y 2) := by
  unfold out12 blk12
  rw [if_neg (by rw [k0_cond2_iff]; exact not_not.mpr h), View.read_writes_junk_eq_canon]
  exact L12 _ _ _ _ _ _ _ _ _ _ _ _ _ _ _ _ _ _ _ _ _ _ _ _ _ _ _ _ _ _ _ _ _ _ _ _ _ _ _ _ _ _ _ _ _ _

/-- Output 12's block where the tile has none. -/
theorem out12_pad (h : ¬ 0 < (nValid (grid0.coords t) (lenW m hO t)).toInt) (y : S1x256x5.Idx) :
    out12 m hO c t y = (1 : EReal) := by
  unfold out12 blk12
  rw [if_pos ((k0_cond2_iff _ _).mpr h)]
  idx_vars y
  pointwise [k0_pay134]

end Cert.Val.K

end
end
-- ==== Proof.Val.Glob.lean ====
/- The four results over the whole arrays, as functions of the nine arguments: what both programs are shown to leave. -/
module

public import proofs.«01_k».proof.Proof.Val.KRows

@[expose] public section

set_option maxRecDepth 16384

noncomputable section

namespace Cert.Val

open Idealize.ShloMosaic

/-- The nine arguments, by coordinates. -/
structure Args where
  /-- The input's codes. -/
  X : Fin 2 → Fin 16384 → Fin 7168 → EReal
  /-- The input's scales, one for each 128 columns. -/
  XS : Fin 2 → Fin 16384 → Fin 56 → EReal
  /-- The weight's codes. -/
  WC : Fin 576 → Fin 7168 → EReal
  /-- The weight's scales, one for each block of 128 by 128. -/
  WS : Fin 5 → Fin 56 → EReal
  /-- The norm's gain. -/
  GN : Fin 512 → EReal
  /-- The positions. -/
  PS : Fin 2 → Fin 16384 → BitVec 32
  /-- The sequences' lengths. -/
  LN : Fin 2 → BitVec 32
  /-- The latent gradient. -/
  DC : Fin 2 → Fin 16384 → Fin 512 → EReal
  /-- The rope gradient. -/
  DR : Fin 2 → Fin 16384 → Fin 64 → EReal

/-- The rotation frequency of a pair of lanes. -/
def frq (p : Fin 32) : EReal :=
  Ideal.div 1 (Ideal.pow (Ideal.ofBits .f32 1176256512#32)
    (Ideal.div (Ideal.ofBits .f32 1073741824#32 * FloatOps.sitofp (F := Ideal) .f32 (BitVec.ofNat 32 p.val)) (Ideal.ofBits .f32 1115684864#32)))

/-- The pair of a lane. -/
def pairOf (l : Fin 64) : Fin 32 := ⟨l.val / 2, by omega⟩

namespace Args

variable (A : Args) (b : Fin 2) (s : Fin 16384)

/-- One for a token of its sequence, zero past its end. -/
def val : EReal := if (s.val : ℤ) < (A.LN b).toInt then 1 else 0
/-- A token's dequantised row. -/
def xw (x : Fin 7168) : EReal := A.X b s x * A.XS b s ⟨x.val / 128, by omega⟩
/-- The dequantised weight. -/
def wt (j : Fin 576) (x : Fin 7168) : EReal := A.WC j x * A.WS ⟨j.val / 128, by omega⟩ ⟨x.val / 128, by omega⟩
/-- A token's latent row. -/
def cf : Fin 512 → EReal := cfS (A.xw b s) A.wt
/-- A token's gradient at the latent row. -/
def gc (l : Fin 512) : EReal := A.DC b s l * A.val b s
/-- A token's gradient through the norm. -/
def dc : Fin 512 → EReal := dcS (A.cf b s) (A.gc b s) A.GN
/-- A token's rope gradient, rotated back. -/
def dr : Fin 64 → EReal :=
  K.rotS (fun l => A.DR b s l * A.val b s) (fun l => frq (pairOf l) * FloatOps.sitofp (F := Ideal) .f32 (A.PS b s))

/-- The input's gradient. -/
def dx (l : Fin 7168) : EReal := dxS (A.dc b s) (A.dr b s) A.wt l
/-- The gain's gradient of 128 tokens. -/
def gp (g : Fin 64) (h : Fin 2) (l : Fin 512) : EReal :=
  ∑ x : Fin 128, gpS (A.cf b ⟨g.val * 256 + h.val * 128 + x.val, by omega⟩) (A.gc b ⟨g.val * 256 + h.val * 128 + x.val, by omega⟩) l
/-- The codes of the quantised gradient. -/
def code (j : Fin 576) : EReal := codeS (A.dc b s) (A.dr b s) j
/-- The scales of the quantised gradient. -/
def sc (k : Fin 5) : EReal := scS (A.dc b s) (A.dr b s) k

end Args

end Cert.Val

end
end
-- ==== Proof.Val.KArgs.lean ====
/- What the kernel's windows hold at a grid point, by the coordinates of its arguments. -/
module
public import proofs.«01_k».proof.Proof.Val.KOut
public import proofs.«01_k».proof.Proof.Val.Glob
public import Idealize.ShloMosaic.Lib.StableHlo.RunRead
@[expose] public section
set_option maxRecDepth 16384
noncomputable section
namespace Cert.Val.K
open Cert.KernelIdeal Cert.KernelIdeal.Gen Cert.KernelIdeal.Hand Idealize.ShloMosaic
variable (m : (ℓ : Loc nD τ sig) → Buf (Elt Ideal) ℓ) (c : Dev nD)

/-- The nine arguments the kernel is launched with. -/
def args : Args where
  X b s x := (m (c.tc.loc main_arg0) : Vec Ideal S2x16384x7168 .fp8e4m3) (ix3 b s x)
  XS b s x := (m (c.tc.loc main_arg1) : Vec Ideal S2x16384x56 .f32) (ix3 b s x)
  WC j x := (m (c.tc.loc main_arg2) : Vec Ideal S576x7168 .fp8e4m3) (ix2 j x)
  WS j x := (m (c.tc.loc main_arg3) : Vec Ideal S5x56 .f32) (ix2 j x)
  GN l := (m (c.tc.loc main_arg4) : Vec Ideal S512 .f32) (ix1 l)
  PS b s := (m (c.tc.loc main_arg5) : Vec Ideal S2x16384 .i32) (ix2 b s)
  LN b := (m (c.tc.loc main_arg6) : Vec Ideal S2 .i32) (ix1 b)
  DC b s l := (m (c.tc.loc main_arg7) : Vec Ideal S2x16384x512 .bf16) (ix3 b s l)
  DR b s l := (m (c.tc.loc main_arg8) : Vec Ideal S2x16384x64 .bf16) (ix3 b s l)

theorem Vfreq (j : Fin 64) : (V m c main_v13 : Vec Ideal S64x1 .f32) (ix2 j 0) = frq (pairOf j) := by
  entry_read
  pointwise
  rfl
theorem Vgain (j : Fin 512) : (V m c main_v14 : Vec Ideal S1x512 .f32) (ix2 0 j) = (args m c).GN j := by
  entry_read
  pointwise
  rfl
theorem Vpos (q : Fin 128) (r : Fin 256) : (V m c main_v15 : Vec Ideal S128x1x256 .i32) (ix3 q 0 r) = (args m c).PS ⟨q.val / 64, by omega⟩ ⟨(q.val % 64) * 256 + r.val, by omega⟩ := by
  entry_read
  pointwise
  rfl

/-- The length of a tile's rows, as an integer. -/
theorem nValid_toInt (i : grid0.Coords) (v : BitVec 32) (hv : 0 ≤ v.toInt) : (nValid i v).toInt = v.toInt - 256 * ((i 0).val % 64 : ℕ) := by
  have h1 := v.toInt_lt
  have h2 : (i 0).val % 64 < 64 := Nat.mod_lt _ (by norm_num)
  unfold nValid
  rw [BitVec.toInt_sub, WordCmp.toInt_ofNat_of_lt (by omega)]
  rw [Int.bmod_def]
  norm_num at h1 ⊢
  omega

/-- Where a tile has tokens, the tile its windows hold is its own. -/
theorem tin_tok (n : ℕ) (v : BitVec 32) (h : (256 * (n % 64 : ℕ) : ℤ) < v.toInt) : tin n v = n % 64 := by
  have h1 := v.toInt_lt
  have e : (v - 1#32).toInt = v.toInt - 1 := by
    rw [BitVec.toInt_sub, show (1#32 : BitVec 32).toInt = 1 from rfl, Int.bmod_def]
    norm_num at h1 ⊢
    omega
  unfold tin
  rw [e]
  omega

/-- The factor of a row. -/
theorem vK_eq (v30 : BitVec 32) (r : Fin 256) : vK v30 r = if (r.val : ℤ) < v30.toInt then 1 else 0 := by
  have e : (BitVec.ofNat 32 r.val).toInt = r.val := WordCmp.toInt_ofNat_of_lt (by omega)
  unfold vK
  by_cases h : (r.val : ℤ) < v30.toInt
  · rw [if_pos h]
    have : IntOp.cmpi CmpIPredicate.slt (BitVec.ofNat 32 r.val) v30 = 1#1 := by
      show BitVec.ofBool (BitVec.slt _ _) = 1#1
      rw [(BitVec.slt_iff_toInt_lt).mpr (by rw [e]; exact h)]; rfl
    rw [this]
    show (((BitVec.setWidth 32 1#1).toInt : ℝ) : EReal) = 1
    rw [show (BitVec.setWidth 32 1#1).toInt = 1 from rfl]; norm_num
  · rw [if_neg h]
    have : IntOp.cmpi CmpIPredicate.slt (BitVec.ofNat 32 r.val) v30 = 0#1 := by
      show BitVec.ofBool (BitVec.slt _ _) = 0#1
      have : BitVec.slt (BitVec.ofNat 32 r.val) v30 = false := by
        rw [Bool.eq_false_iff]; intro hh; exact h (by rw [← e]; exact BitVec.slt_iff_toInt_lt.mp hh)
      rw [this]; rfl
    rw [this]
    show (((BitVec.setWidth 32 0#1).toInt : ℝ) : EReal) = 0
    rw [show (BitVec.setWidth 32 0#1).toInt = 0 from rfl]; norm_num

variable (hO : Ok m) (t : Fin (cfgM m hO).N)

theorem t_lt : t.val < 128 := lt_of_lt_of_eq t.isLt (show (cfgM m hO).N = 128 from N_0)
theorem coord_eq : (grid0.coords t 0).val = t.val := (by decide +kernel : ∀ t : Fin grid0.N, (grid0.coords t 0).val = t.val) t

/-- The sequence of a point. -/
def seqT : Fin 2 := ⟨t.val / 64, by have := t_lt m hO t; omega⟩
/-- The token of a row of a point's tile. -/
def rowT (r : Fin 256) : Fin 16384 := ⟨t.val % 64 * 256 + r.val, by omega⟩

theorem off1_eq : k0_off1 (grid0.coords t) 0 = t.val / 64 := by
  have := t_lt m hO t
  show (seqW (grid0.coords t 0).val).toNat = _
  rw [coord_eq, seqW_toNat _ this]

theorem lenAt_eq : lenAt (tbl m) (grid0.coords t) = lenW m hO t := rfl
theorem lenW_eq : lenW m hO t = (args m c).LN (seqT m hO t) := by
  obtain rfl : c = 0 := Subsingleton.elim _ _
  unfold lenW
  refine (congrFun (V_arg m 0 main_arg6 (by decide)) _).trans (congrArg (m ((0 : Dev nD).tc.loc main_arg6)) ?_)
  funext a
  have ha : a = (0 : Fin 1) := Subsingleton.elim (α := Fin 1) _ _
  rw [ha]
  refine Fin.ext ?_
  show k0_off1 (grid0.coords t) 0 + 1 * 0 = _
  rw [off1_eq m hO t]
  rfl

/-- The windows' places at a point with tokens. -/
theorem idx0 : ((cfgM m hO).win 0).index t = ![t.val / 64, tin t.val (lenW m hO t), 0] := by
  refine (transform_0 (tbl m) (grid0.coords t)).trans ?_
  rw [coord_eq m hO t, lenAt_eq m hO t]
theorem idx1 : ((cfgM m hO).win 1).index t = ![t.val / 64, tin t.val (lenW m hO t), 0] := by
  refine (transform_1 (tbl m) (grid0.coords t)).trans ?_
  rw [coord_eq m hO t, lenAt_eq m hO t]
theorem idx5 : ((cfgM m hO).win 5).index t = ![64 * (t.val / 64) + tin t.val (lenW m hO t), 0, 0] := by
  refine (transform_5 (tbl m) (grid0.coords t)).trans ?_
  rw [coord_eq m hO t, lenAt_eq m hO t]
theorem idx7 : ((cfgM m hO).win 7).index t = ![t.val / 64, tin t.val (lenW m hO t), 0] := by
  refine (transform_7 (tbl m) (grid0.coords t)).trans ?_
  rw [coord_eq m hO t, lenAt_eq m hO t]
theorem idx8 : ((cfgM m hO).win 8).index t = ![t.val / 64, tin t.val (lenW m hO t), 0] := by
  refine (transform_8 (tbl m) (grid0.coords t)).trans ?_
  rw [coord_eq m hO t, lenAt_eq m hO t]
theorem idx9 : ((cfgM m hO).win 9).index t = ![t.val / 64, t.val % 64, 0] := by
  refine (transform_9 (grid0.coords t)).trans ?_
  rw [coord_eq m hO t]
theorem idx10 : ((cfgM m hO).win 10).index t = ![t.val / 64, t.val % 64, 0, 0] := by
  refine (transform_10 (grid0.coords t)).trans ?_
  rw [coord_eq m hO t]
theorem idx11 : ((cfgM m hO).win 11).index t = ![t.val / 64, t.val % 64, 0] := by
  refine (transform_11 (grid0.coords t)).trans ?_
  rw [coord_eq m hO t]
theorem idx12 : ((cfgM m hO).win 12).index t = ![t.val / 64, t.val % 64, 0] := by
  refine (transform_12 (grid0.coords t)).trans ?_
  rw [coord_eq m hO t]

theorem fin3 : ∀ a : Fin 3, a = 0 ∨ a = 1 ∨ a = 2 := by decide
theorem fin2 : ∀ a : Fin 2, a = 0 ∨ a = 1 := by decide

section
variable (ht : tin t.val (lenW m hO t) = t.val % 64) (r : Fin 256)
include ht

theorem blk0 (x : Fin 7168) : (iblk m hO c 0 t : Vec Ideal S1x256x7168 .fp8e4m3) (ix3 0 r x) = (args m c).X (seqT m hO t) (rowT m hO t r) x := by
  refine (congrFun (V_arg m c main_arg0 (by decide)) _).trans (congrArg (m (c.tc.loc main_arg0)) ?_)
  have e := idx0 m hO t
  rw [ht] at e
  have hv := fun a => Pipeline.Window.rect_emb_val ((cfgM m hO).win 0) t (ix3 0 r x : Shape.Idx S1x256x7168) a rfl
  rw [e] at hv
  funext a
  refine Fin.ext ((hv a).trans ?_)
  rcases fin3 a with h | h | h <;> subst h
  · show t.val / 64 * 1 + 0 = t.val / 64
    omega
  · rfl
  · show 0 * 7168 + x.val = x.val
    omega

theorem blk1 (x : Fin 56) : (iblk m hO c 1 t : Vec Ideal S1x256x56 .f32) (ix3 0 r x) = (args m c).XS (seqT m hO t) (rowT m hO t r) x := by
  refine (congrFun (V_arg m c main_arg1 (by decide)) _).trans (congrArg (m (c.tc.loc main_arg1)) ?_)
  have e := idx1 m hO t
  rw [ht] at e
  have hv := fun a => Pipeline.Window.rect_emb_val ((cfgM m hO).win 1) t (ix3 0 r x : Shape.Idx S1x256x56) a rfl
  rw [e] at hv
  funext a
  refine Fin.ext ((hv a).trans ?_)
  rcases fin3 a with h | h | h <;> subst h
  · show t.val / 64 * 1 + 0 = t.val / 64
    omega
  · rfl
  · show 0 * 56 + x.val = x.val
    omega

theorem blk7 (x : Fin 512) : (iblk m hO c 7 t : Vec Ideal S1x256x512 .bf16) (ix3 0 r x) = (args m c).DC (seqT m hO t) (rowT m hO t r) x := by
  refine (congrFun (V_arg m c main_arg7 (by decide)) _).trans (congrArg (m (c.tc.loc main_arg7)) ?_)
  have e := idx7 m hO t
  rw [ht] at e
  have hv := fun a => Pipeline.Window.rect_emb_val ((cfgM m hO).win 7) t (ix3 0 r x : Shape.Idx S1x256x512) a rfl
  rw [e] at hv
  funext a
  refine Fin.ext ((hv a).trans ?_)
  rcases fin3 a with h | h | h <;> subst h
  · show t.val / 64 * 1 + 0 = t.val / 64
    omega
  · rfl
  · show 0 * 512 + x.val = x.val
    omega

theorem blk8 (x : Fin 64) : (iblk m hO c 8 t : Vec Ideal S1x256x64 .bf16) (ix3 0 r x) = (args m c).DR (seqT m hO t) (rowT m hO t r) x := by
  refine (congrFun (V_arg m c main_arg8 (by decide)) _).trans (congrArg (m (c.tc.loc main_arg8)) ?_)
  have e := idx8 m hO t
  rw [ht] at e
  have hv := fun a => Pipeline.Window.rect_emb_val ((cfgM m hO).win 8) t (ix3 0 r x : Shape.Idx S1x256x64) a rfl
  rw [e] at hv
  funext a
  refine Fin.ext ((hv a).trans ?_)
  rcases fin3 a with h | h | h <;> subst h
  · show t.val / 64 * 1 + 0 = t.val / 64
    omega
  · rfl
  · show 0 * 64 + x.val = x.val
    omega

theorem blk5 : (iblk m hO c 5 t : Vec Ideal S1x1x256 .i32) (ix3 0 0 r) = (args m c).PS (seqT m hO t) (rowT m hO t r) := by
  have hlt := t_lt m hO t
  refine (congrArg (V m c main_v15 : Vec Ideal S128x1x256 .i32) (?_ : _ = ix3 ⟨t.val, hlt⟩ 0 r)).trans (Vpos m c ⟨t.val, hlt⟩ r)
  have e := idx5 m hO t
  rw [ht] at e
  have hv := fun a => Pipeline.Window.rect_emb_val ((cfgM m hO).win 5) t (ix3 0 0 r : Shape.Idx S1x1x256) a rfl
  rw [e] at hv
  funext a
  refine Fin.ext ((hv a).trans ?_)
  rcases fin3 a with h | h | h <;> subst h
  · show (64 * (t.val / 64) + t.val % 64) * 1 + 0 = t.val
    omega
  · rfl
  · show 0 * 256 + r.val = r.val
    omega

end

theorem blk2 (a0 : Fin 5) (b0 : Fin 56) : (iblk m hO c 2 t : Vec Ideal S5x56 .f32) (ix2 a0 b0) = (args m c).WS a0 b0 := by
  refine (congrFun (V_arg m c main_arg3 (by decide)) _).trans (congrArg (m (c.tc.loc main_arg3)) ?_)
  have e := (rfl : ((cfgM m hO).win 2).index t = ![0, 0])
  have hv := fun a => Pipeline.Window.rect_emb_val ((cfgM m hO).win 2) t (ix2 a0 b0 : Shape.Idx S5x56) a rfl
  rw [e] at hv
  funext a
  refine Fin.ext ((hv a).trans ?_)
  rcases fin2 a with h | h <;> subst h
  · show 0 * 5 + a0.val = a0.val
    omega
  · show 0 * 56 + b0.val = b0.val
    omega

theorem blk3 (a0 : Fin 576) (b0 : Fin 7168) : (iblk m hO c 3 t : Vec Ideal S576x7168 .fp8e4m3) (ix2 a0 b0) = (args m c).WC a0 b0 := by
  refine (congrFun (V_arg m c main_arg2 (by decide)) _).trans (congrArg (m (c.tc.loc main_arg2)) ?_)
  have e := (rfl : ((cfgM m hO).win 3).index t = ![0, 0])
  have hv := fun a => Pipeline.Window.rect_emb_val ((cfgM m hO).win 3) t (ix2 a0 b0 : Shape.Idx S576x7168) a rfl
  rw [e] at hv
  funext a
  refine Fin.ext ((hv a).trans ?_)
  rcases fin2 a with h | h <;> subst h
  · show 0 * 576 + a0.val = a0.val
    omega
  · show 0 * 7168 + b0.val = b0.val
    omega

theorem blk4 (b0 : Fin 512) : (iblk m hO c 4 t : Vec Ideal S1x512 .f32) (ix2 0 b0) = (args m c).GN b0 := by
  refine (congrArg (V m c main_v14 : Vec Ideal S1x512 .f32) (?_ : _ = ix2 0 b0)).trans (Vgain m c b0)
  have e := (rfl : ((cfgM m hO).win 4).index t = ![0, 0])
  have hv := fun a => Pipeline.Window.rect_emb_val ((cfgM m hO).win 4) t (ix2 0 b0 : Shape.Idx S1x512) a rfl
  rw [e] at hv
  funext a
  refine Fin.ext ((hv a).trans ?_)
  rcases fin2 a with h | h <;> subst h
  · rfl
  · show 0 * 512 + b0.val = b0.val
    omega

theorem blk6 (b0 : Fin 64) : (iblk m hO c 6 t : Vec Ideal S64x1 .f32) (ix2 b0 0) = frq (pairOf b0) := by
  refine (congrArg (V m c main_v13 : Vec Ideal S64x1 .f32) (?_ : _ = ix2 b0 0)).trans (Vfreq m c b0)
  have e := (rfl : ((cfgM m hO).win 6).index t = ![0, 0])
  have hv := fun a => Pipeline.Window.rect_emb_val ((cfgM m hO).win 6) t (ix2 b0 0 : Shape.Idx S64x1) a rfl
  rw [e] at hv
  funext a
  refine Fin.ext ((hv a).trans ?_)
  rcases fin2 a with h | h <;> subst h
  · show 0 * 64 + b0.val = b0.val
    omega
  · rfl

end Cert.Val.K
end
end
-- ==== Proof.Val.Pad.lean ====
/- A token past its sequence has no gradient: the results there are the padding. -/
module
public import proofs.«01_k».proof.Proof.Val.Glob

@[expose] public section
set_option maxRecDepth 16384

noncomputable section

namespace Cert.Val

open Idealize.ShloMosaic

/-- A reduction's absolute value of zeros. -/
theorem amaxOf_zero {n : ℕ} (g : Fin (n + 1) → EReal) (hg : ∀ x, g x = 0) : amaxOf g = 0 := by
  obtain rfl : g = fun _ => 0 := funext hg
  unfold amaxOf
  have e : (fun _ : Fin (n + 1) => FloatOps.absf (F := Ideal) (φ := .f32) (0 : EReal)) = fun _ => (0 : EReal) := by
    funext x; show ((max (0:EReal) (-0)) : EReal) = 0; simp
  have hb : Ideal.ofBits .f32 4286578688#32 = (⊥ : EReal) := by
    simp [Ideal.ofBits, Ideal.ieee]
  rw [e, hb]
  apply le_antisymm
  · rw [Finset.fold_max_le]; exact ⟨bot_le, fun _ _ => le_rfl⟩
  · rw [Finset.le_fold_max]; exact Or.inr ⟨0, Finset.mem_univ _, le_rfl⟩

theorem dcS_zero (c gc gain : Fin 512 → EReal) (h : ∀ l, gc l = 0) (l : Fin 512) : dcS c gc gain l = 0 := by
  have hd : Ideal.div 0 (Ideal.ofBits .f32 1140850688#32) = 0 := by
    have hne : Ideal.ofBits .f32 1140850688#32 ≠ 0 := by
      have e : Ideal.ofBits .f32 1140850688#32 = Ideal.ieee 8 23 1140850688#32 := rfl
      rw [e]; simp [Ideal.ieee]
    unfold Ideal.div; rw [if_neg hne]
    exact zero_mul (M₀ := EReal) _
  unfold dcS
  simp only [h, zero_mul, Finset.sum_const_zero, hd, mul_zero, sub_zero]

theorem gpS_zero (c gc : Fin 512 → EReal) (h : ∀ l, gc l = 0) (l : Fin 512) : gpS c gc l = 0 := by
  unfold gpS; simp only [h, zero_mul]

theorem scS_zero (dc : Fin 512 → EReal) (dr : Fin 64 → EReal) (h : ∀ l, dc l = 0) (h' : ∀ l, dr l = 0) (k : Fin 5) : scS dc dr k = 1 := by
  have e : amS dc dr k = 0 := by
    unfold amS; split_ifs
    · exact amaxOf_zero _ fun _ => h _
    · exact amaxOf_zero _ h'
  unfold scS scaleR
  rw [e, if_pos rfl]

theorem codeS_zero (dc : Fin 512 → EReal) (dr : Fin 64 → EReal) (h : ∀ l, dc l = 0) (h' : ∀ l, dr l = 0) (j : Fin 576) : codeS dc dr j = 0 := by
  have e : elS dc dr j = 0 := by
    unfold elS; split_ifs
    · exact h _
    · exact h' _
  have a : (0 : EReal) ≤ Ideal.ofBits .f32 1197473792#32 := by
    have e : Ideal.ofBits .f32 1197473792#32 = Ideal.ieee 8 23 1197473792#32 := rfl
    rw [e]; simp [Ideal.ieee]
    exact mul_nonneg (EReal.coe_nonneg.2 (by positivity)) (EReal.coe_nonneg.2 (by positivity))
  have b : Ideal.ofBits .f32 3344957440#32 ≤ (0 : EReal) := by
    have e : Ideal.ofBits .f32 3344957440#32 = Ideal.ieee 8 23 3344957440#32 := rfl
    rw [e]; simp [Ideal.ieee]
    exact mul_nonneg (EReal.coe_nonneg.2 (by positivity)) (EReal.coe_nonneg.2 (by positivity))
  unfold codeS codeOf
  rw [e, zero_mul, max_eq_right b, min_eq_right a]

theorem dxS_zero (dc : Fin 512 → EReal) (dr : Fin 64 → EReal) (W : Fin 576 → Fin 7168 → EReal) (h : ∀ l, dc l = 0) (h' : ∀ l, dr l = 0) (l : Fin 7168) :
    dxS dc dr W l = 0 := by
  unfold dxS prodS
  simp only [codeS_zero dc dr h h', zero_mul, Finset.sum_const_zero]

theorem rotS_zero (vd an : Fin 64 → EReal) (h : ∀ l, vd l = 0) (l : Fin 64) : K.rotS vd an l = 0 := by
  unfold K.rotS
  simp only [h, zero_mul, dite_eq_ite, ite_self, add_zero]

namespace Args
variable (A : Args) (b : Fin 2) (s : Fin 16384)

theorem gc_pad (h : ¬ (s.val : ℤ) < (A.LN b).toInt) (l) : A.gc b s l = 0 := by
  unfold gc val; rw [if_neg h, mul_zero]
theorem dc_pad (h : ¬ (s.val : ℤ) < (A.LN b).toInt) (l) : A.dc b s l = 0 := dcS_zero _ _ _ (A.gc_pad b s h) l
theorem dr_pad (h : ¬ (s.val : ℤ) < (A.LN b).toInt) (l) : A.dr b s l = 0 :=
  rotS_zero _ _ (fun l => by unfold val; rw [if_neg h, mul_zero]) l
theorem dx_pad (h : ¬ (s.val : ℤ) < (A.LN b).toInt) (l) : A.dx b s l = 0 := dxS_zero _ _ _ (A.dc_pad b s h) (A.dr_pad b s h) l
theorem code_pad (h : ¬ (s.val : ℤ) < (A.LN b).toInt) (l) : A.code b s l = 0 := codeS_zero _ _ (A.dc_pad b s h) (A.dr_pad b s h) l
theorem sc_pad (h : ¬ (s.val : ℤ) < (A.LN b).toInt) (l) : A.sc b s l = 1 := scS_zero _ _ (A.dc_pad b s h) (A.dr_pad b s h) l
theorem gp_pad (g : Fin 64) (hg : ∀ s : Fin 16384, g.val * 256 ≤ s.val → ¬ (s.val : ℤ) < (A.LN b).toInt) (h : Fin 2) (l) : A.gp b g h l = 0 := by
  unfold gp
  refine Finset.sum_eq_zero fun x _ => gpS_zero _ _ (A.gc_pad b _ (hg _ ?_)) l
  show g.val * 256 ≤ g.val * 256 + h.val * 128 + x.val
  omega
end Args
end Cert.Val
end
end
-- ==== Proof.Val.KPoint.lean ====
/- What the kernel leaves at each grid point, as the results over the whole arrays. -/
module
public import proofs.«01_k».proof.Proof.Val.KArgs
public import proofs.«01_k».proof.Proof.Val.Pad
public import Idealize.ShloMosaic.Lib.Pipeline.ValueKit
public import Idealize.ShloMosaic.Lib.Pipeline.Covers
@[expose] public section
set_option maxRecDepth 16384
noncomputable section
namespace Cert.Val.K
open Cert.KernelIdeal Cert.KernelIdeal.Gen Cert.KernelIdeal.Hand Idealize.ShloMosaic

section
variable (v30 : BitVec 32) (x0 : Vec Ideal S1x256x7168 .fp8e4m3) (x1 : Vec Ideal S1x256x56 .f32) (x4 : Vec Ideal S1x512 .f32) (x5 : Vec Ideal S1x1x256 .i32) (x6 : Vec Ideal S64x1 .f32) (x7 : Vec Ideal S1x256x512 .bf16) (x8 : Vec Ideal S1x256x64 .bf16) (W : Vec Ideal S576x7168 .bf16)
  (A : Args) (b : Fin 2) (s : Fin 16384) (r : Fin 256)

section
variable (h0 : ∀ x, x0 (ix3 0 r x) = A.X b s x) (h1 : ∀ x, x1 (ix3 0 r x) = A.XS b s x) (hW : ∀ j x, W (ix2 j x) = A.wt j x)
include h0 h1 hW
/-- The latent row of a tile's row. -/
theorem cfK_eq (l) : cfK x0 x1 W r l = A.cf b s l := by
  unfold cfK Args.cf
  exact congrFun (congrArg₂ cfS (funext fun x => congrArg₂ (· * ·) (h0 x) (h1 _)) (funext fun j => funext fun x => hW j x)) l
end

section
variable (h7 : ∀ l, x7 (ix3 0 r l) = A.DC b s l) (hv : vK v30 r = A.val b s)
include h7 hv
theorem gcK_eq (l) : gcK v30 x7 r l = A.gc b s l := congrArg₂ (· * ·) (h7 l) hv
end

section
variable (h0 : ∀ x, x0 (ix3 0 r x) = A.X b s x) (h1 : ∀ x, x1 (ix3 0 r x) = A.XS b s x) (hW : ∀ j x, W (ix2 j x) = A.wt j x)
  (h7 : ∀ l, x7 (ix3 0 r l) = A.DC b s l) (hv : vK v30 r = A.val b s) (h4 : ∀ l, x4 (ix2 0 l) = A.GN l)
include h0 h1 hW h7 hv h4
theorem dcK_eq : dcK v30 x0 x1 x4 x7 W r = A.dc b s := by
  funext l
  unfold dcK Args.dc
  exact congrFun (congr (congrArg₂ dcS (funext (cfK_eq x0 x1 W A b s r h0 h1 hW)) (funext (gcK_eq v30 x7 A b s r h7 hv))) (funext h4)) l
end

/-- The gain's gradient of each half of a tile. -/
theorem gpK_eq (q : Fin 64) (row : Fin 256 → Fin 16384) (hrow : ∀ r, (row r).val = q.val * 256 + r.val)
    (h0 : ∀ r x, x0 (ix3 0 r x) = A.X b (row r) x) (h1 : ∀ r x, x1 (ix3 0 r x) = A.XS b (row r) x) (hW : ∀ j x, W (ix2 j x) = A.wt j x)
    (h7 : ∀ r l, x7 (ix3 0 r l) = A.DC b (row r) l) (hv : ∀ r, vK v30 r = A.val b (row r)) (g : Fin 2) (l : Fin 512) :
    gpK v30 x0 x1 x7 W g l = A.gp b q g l := by
  unfold gpK Args.gp
  refine Finset.sum_congr rfl fun x _ => ?_
  have e : ∀ p, (⟨q.val * 256 + g.val * 128 + x.val, p⟩ : Fin 16384) = row ⟨g.val * 128 + x.val, by omega⟩ :=
    fun p => Fin.ext (by rw [hrow]; exact Nat.add_assoc _ _ _)
  rw [e]
  exact congrFun (congrArg₂ gpS (funext (cfK_eq x0 x1 W A b _ _ (h0 _) (h1 _) hW)) (funext (gcK_eq v30 x7 A b _ _ (h7 _) (hv _)))) l

section
variable (h8 : ∀ l, x8 (ix3 0 r l) = A.DR b s l) (hv : vK v30 r = A.val b s) (h5 : x5 (ix3 0 0 r) = A.PS b s) (h6 : ∀ l, x6 (ix2 l 0) = frq (pairOf l))
include h8 hv h5 h6
theorem drK_eq : drK v30 x5 x6 x8 r = A.dr b s := by
  funext l
  unfold drK Args.dr
  exact congrFun (congrArg₂ rotS (funext fun l => congrArg₂ (· * ·) (h8 l) hv) (funext fun l => congrArg₂ (· * ·) (h6 l) (congrArg _ h5))) l
end
end

variable (m : (ℓ : Loc nD τ sig) → Buf (Elt Ideal) ℓ) (c : Dev nD) (hO : Ok m) (t : Fin (cfgM m hO).N)

theorem fin4 : ∀ a : Fin 4, a = 0 ∨ a = 1 ∨ a = 2 ∨ a = 3 := by decide

theorem wide_eq (j : Fin 576) (x : Fin 7168) : wide (iblk m hO c 2 t) (iblk m hO c 3 t) (ix2 j x) = (args m c).wt j x := by
  refine (wide_apply (iblk m hO c 2 t) (iblk m hO c 3 t) (ix2 j x)).trans ?_
  unfold Args.wt
  refine congrArg₂ (· * ·) (blk3 m c hO t j x) ?_
  have e : sIx (ix2 j x) = ix2 ⟨j.val / 128, by omega⟩ ⟨x.val / 128, by omega⟩ := by
    funext a
    rcases fin2 a with h | h <;> subst h <;> rfl
  rw [e]
  exact blk2 m c hO t _ _

section
variable (hL : ∀ b, 0 ≤ ((args m c).LN b).toInt)
include hL

theorem nV : (nValid (grid0.coords t) (lenW m hO t)).toInt = ((args m c).LN (seqT m hO t)).toInt - 256 * (t.val % 64 : ℕ) := by
  rw [lenW_eq m c hO t, nValid_toInt _ _ (hL _), coord_eq m hO t]

theorem vK_val (r : Fin 256) : vK (nValid (grid0.coords t) (lenW m hO t)) r = (args m c).val (seqT m hO t) (rowT m hO t r) := by
  rw [vK_eq, nV m c hO t hL]
  unfold Args.val rowT
  refine if_congr ?_ rfl rfl
  push_cast
  constructor <;> intro h <;> omega

/-- Past the sequence's end when the tile has no tokens. -/
theorem pad_row (h : ¬ 0 < (nValid (grid0.coords t) (lenW m hO t)).toInt) (s : Fin 16384) (hs : t.val % 64 * 256 ≤ s.val) :
    ¬ (s.val : ℤ) < ((args m c).LN (seqT m hO t)).toInt := by
  rw [nV m c hO t hL] at h
  push_cast at h
  omega

section
variable (h : 0 < (nValid (grid0.coords t) (lenW m hO t)).toInt)
include h
theorem tin_own : tin t.val (lenW m hO t) = t.val % 64 := by
  rw [nV m c hO t hL] at h
  rw [lenW_eq m c hO t]
  exact tin_tok _ _ (by omega)

theorem dc_row (r : Fin 256) : dcK (nValid (grid0.coords t) (lenW m hO t)) (iblk m hO c 0 t) (iblk m hO c 1 t) (iblk m hO c 4 t) (iblk m hO c 7 t) (wide (iblk m hO c 2 t) (iblk m hO c 3 t)) r = (args m c).dc (seqT m hO t) (rowT m hO t r) :=
  have ht := tin_own m c hO t hL h
  dcK_eq _ _ _ _ _ _ (args m c) (seqT m hO t) (rowT m hO t r) r (blk0 m c hO t ht r) (blk1 m c hO t ht r) (wide_eq m c hO t) (blk7 m c hO t ht r) (vK_val m c hO t hL r) (blk4 m c hO t)
theorem dr_row (r : Fin 256) : drK (nValid (grid0.coords t) (lenW m hO t)) (iblk m hO c 5 t) (iblk m hO c 6 t) (iblk m hO c 8 t) r = (args m c).dr (seqT m hO t) (rowT m hO t r) :=
  have ht := tin_own m c hO t hL h
  drK_eq _ _ _ _ (args m c) (seqT m hO t) (rowT m hO t r) r (blk8 m c hO t ht r) (vK_val m c hO t hL r) (blk5 m c hO t ht r) (blk6 m c hO t)
end

/-- The four blocks a point leaves. -/
theorem p9 (y : S1x256x7168.Idx) : out9 m hO c t y = (args m c).dx (seqT m hO t) (rowT m hO t (y 1)) (y 2) := by
  by_cases h : 0 < (nValid (grid0.coords t) (lenW m hO t)).toInt
  · exact (out9_tok m hO c t h y).trans (congrFun (congr (congrArg₂ dxS (dc_row m c hO t hL h (y 1)) (dr_row m c hO t hL h (y 1))) (funext fun j => funext fun x => wide_eq m c hO t j x)) (y 2))
  · rw [out9_pad m hO c t h]
    exact ((args m c).dx_pad _ _ (pad_row m c hO t hL h _ (Nat.le_add_right _ _)) _).symm
theorem p11 (y : S1x256x576.Idx) : out11 m hO c t y = (args m c).code (seqT m hO t) (rowT m hO t (y 1)) (y 2) := by
  by_cases h : 0 < (nValid (grid0.coords t) (lenW m hO t)).toInt
  · exact (out11_tok m hO c t h y).trans (congrFun (congrArg₂ codeS (dc_row m c hO t hL h (y 1)) (dr_row m c hO t hL h (y 1))) (y 2))
  · rw [out11_pad m hO c t h]
    exact ((args m c).code_pad _ _ (pad_row m c hO t hL h _ (Nat.le_add_right _ _)) _).symm
theorem p12 (y : S1x256x5.Idx) : out12 m hO c t y = (args m c).sc (seqT m hO t) (rowT m hO t (y 1)) (y 2) := by
  by_cases h : 0 < (nValid (grid0.coords t) (lenW m hO t)).toInt
  · exact (out12_tok m hO c t h y).trans (congrFun (congrArg₂ scS (dc_row m c hO t hL h (y 1)) (dr_row m c hO t hL h (y 1))) (y 2))
  · rw [out12_pad m hO c t h]
    exact ((args m c).sc_pad _ _ (pad_row m c hO t hL h _ (Nat.le_add_right _ _)) _).symm
set_option maxHeartbeats 1000000 in
theorem p10 (y : S1x1x2x512.Idx) : out10 m hO c t y = (args m c).gp (seqT m hO t) ⟨t.val % 64, by omega⟩ (y 2) (y 3) := by
  by_cases h : 0 < (nValid (grid0.coords t) (lenW m hO t)).toInt
  · have ht := tin_own m c hO t hL h
    exact (out10_tok m hO c t h y).trans (gpK_eq _ _ _ _ _ (args m c) (seqT m hO t) ⟨t.val % 64, by omega⟩ (rowT m hO t) (fun _ => rfl) (blk0 m c hO t ht) (blk1 m c hO t ht) (wide_eq m c hO t) (blk7 m c hO t ht) (vK_val m c hO t hL) (y 2) (y 3))
  · rw [out10_pad m hO c t h]
    exact ((args m c).gp_pad (seqT m hO t) ⟨t.val % 64, by omega⟩ (pad_row m c hO t hL h) (y 2) (y 3)).symm
end
end Cert.Val.K
end
-- ==== Proof.Val.KCover.lean ====
/- Which elements of each result a grid point writes, and that the points write all of them. -/
module
public import proofs.«01_k».proof.Proof.Val.KPoint
@[expose] public section
set_option maxRecDepth 16384
noncomputable section
namespace Cert.Val.K
open Cert.KernelIdeal Cert.KernelIdeal.Gen Cert.KernelIdeal.Hand Idealize.ShloMosaic
variable (m : (ℓ : Loc nD τ sig) → Buf (Elt Ideal) ℓ) (c : Dev nD) (hO : Ok m)

theorem nblk9 : ∀ a, ((cfgM m hO).win 9).nblk a = (![2, 64, 1] : Fin 3 → ℕ) a := by
  intro a
  rcases fin3 a with h | h | h <;> subst h
  · show (2 + 1 - 1) / 1 = 2
    norm_num
  · show (16384 + 256 - 1) / 256 = 64
    norm_num
  · show (7168 + 7168 - 1) / 7168 = 1
    norm_num
theorem size9 : ∀ a, 0 < ((cfgM m hO).win 9).size a := by
  intro a
  rcases fin3 a with h | h | h <;> subst h
  · show 0 < 1
    norm_num
  · show 0 < 256
    norm_num
  · show 0 < 7168
    norm_num
theorem covers9 : ((cfgM m hO).win 9).Covers := by
  have hN : (cfgM m hO).grid.N = 128 := N_0
  refine Pipeline.Window.covers_of_index_surj _ rfl (size9 m hO) fun β => ?_
  have h0 : (β (0 : Fin 3)).val < 2 := lt_of_lt_of_eq (β (0 : Fin 3)).isLt (nblk9 m hO (0 : Fin 3))
  have h1 : (β (1 : Fin 3)).val < 64 := lt_of_lt_of_eq (β (1 : Fin 3)).isLt (nblk9 m hO (1 : Fin 3))
  have h2 : (β (2 : Fin 3)).val < 1 := lt_of_lt_of_eq (β (2 : Fin 3)).isLt (nblk9 m hO (2 : Fin 3))
  have hlt : (β (0 : Fin 3)).val * 64 + (β (1 : Fin 3)).val < (cfgM m hO).grid.N := lt_of_lt_of_eq (by omega : _ < 128) hN.symm
  refine ⟨⟨(β (0 : Fin 3)).val * 64 + (β (1 : Fin 3)).val, hlt⟩, fun a => ?_⟩
  rw [idx9]
  rcases fin3 a with h | h | h <;> subst h
  · show ((β (0 : Fin 3)).val * 64 + (β (1 : Fin 3)).val) / 64 = (β (0 : Fin 3)).val
    omega
  · show ((β (0 : Fin 3)).val * 64 + (β (1 : Fin 3)).val) % 64 = (β (1 : Fin 3)).val
    omega
  · show 0 = (β (2 : Fin 3)).val
    omega
theorem q9 (t : Fin (cfgM m hO).N) (hL : ∀ b, 0 ≤ ((args m c).LN b).toInt) (y : S1x256x7168.Idx) : (dats m hO 0 c).after 9 t (((cfgM m hO).win 9).xinj ((cfgM m hO).grid.coords t) y) = (args m c).dx (seqT m hO t) (rowT m hO t (y 1)) (y 2) := by
  refine Eq.trans (congrArg ((dats m hO 0 c).after 9 t) (?_ : _ = (y : ((cfgM m hO).win 9).block.Idx))) ((congrFun (after0_9 m hO c t) y).trans (p9 m c hO t hL y))
  rfl
theorem e9 (t : Fin (cfgM m hO).N) (y : S1x256x7168.Idx) : (((cfgM m hO).win 9).blk t).view.emb y = (ix3 (seqT m hO t) (rowT m hO t (y 1)) (y 2) : S2x16384x7168.Idx) := by
  have hv := fun a => Pipeline.Window.rect_emb_val ((cfgM m hO).win 9) t y a rfl
  rw [idx9] at hv
  have h0 : (y 0).val < 1 := (y 0).isLt
  funext a
  refine Fin.ext ((hv a).trans ?_)
  rcases fin3 a with h | h | h <;> subst h
  · show t.val / 64 * 1 + (y 0).val = t.val / 64
    omega
  · rfl
  · show 0 * 7168 + (y 2).val = (y 2).val
    omega

theorem nblk10 : ∀ a, ((cfgM m hO).win 10).nblk a = (![2, 64, 1, 1] : Fin 4 → ℕ) a := by
  intro a
  rcases fin4 a with h | h | h | h <;> subst h
  · show (2 + 1 - 1) / 1 = 2
    norm_num
  · show (64 + 1 - 1) / 1 = 64
    norm_num
  · show (2 + 2 - 1) / 2 = 1
    norm_num
  · show (512 + 512 - 1) / 512 = 1
    norm_num
theorem size10 : ∀ a, 0 < ((cfgM m hO).win 10).size a := by
  intro a
  rcases fin4 a with h | h | h | h <;> subst h
  · show 0 < 1
    norm_num
  · show 0 < 1
    norm_num
  · show 0 < 2
    norm_num
  · show 0 < 512
    norm_num
theorem covers10 : ((cfgM m hO).win 10).Covers := by
  have hN : (cfgM m hO).grid.N = 128 := N_0
  refine Pipeline.Window.covers_of_index_surj _ rfl (size10 m hO) fun β => ?_
  have h0 : (β (0 : Fin 4)).val < 2 := lt_of_lt_of_eq (β (0 : Fin 4)).isLt (nblk10 m hO (0 : Fin 4))
  have h1 : (β (1 : Fin 4)).val < 64 := lt_of_lt_of_eq (β (1 : Fin 4)).isLt (nblk10 m hO (1 : Fin 4))
  have h2 : (β (2 : Fin 4)).val < 1 := lt_of_lt_of_eq (β (2 : Fin 4)).isLt (nblk10 m hO (2 : Fin 4))
  have h3 : (β (3 : Fin 4)).val < 1 := lt_of_lt_of_eq (β (3 : Fin 4)).isLt (nblk10 m hO (3 : Fin 4))
  have hlt : (β (0 : Fin 4)).val * 64 + (β (1 : Fin 4)).val < (cfgM m hO).grid.N := lt_of_lt_of_eq (by omega : _ < 128) hN.symm
  refine ⟨⟨(β (0 : Fin 4)).val * 64 + (β (1 : Fin 4)).val, hlt⟩, fun a => ?_⟩
  rw [idx10]
  rcases fin4 a with h | h | h | h <;> subst h
  · show ((β (0 : Fin 4)).val * 64 + (β (1 : Fin 4)).val) / 64 = (β (0 : Fin 4)).val
    omega
  · show ((β (0 : Fin 4)).val * 64 + (β (1 : Fin 4)).val) % 64 = (β (1 : Fin 4)).val
    omega
  · show 0 = (β (2 : Fin 4)).val
    omega
  · show 0 = (β (3 : Fin 4)).val
    omega
theorem q10 (t : Fin (cfgM m hO).N) (hL : ∀ b, 0 ≤ ((args m c).LN b).toInt) (y : S1x1x2x512.Idx) : (dats m hO 0 c).after 10 t (((cfgM m hO).win 10).xinj ((cfgM m hO).grid.coords t) y) = (args m c).gp (seqT m hO t) ⟨t.val % 64, by omega⟩ (y 2) (y 3) := by
  refine Eq.trans (congrArg ((dats m hO 0 c).after 10 t) (?_ : _ = (y : ((cfgM m hO).win 10).block.Idx))) ((congrFun (after0_10 m hO c t) y).trans (p10 m c hO t hL y))
  rfl
theorem e10 (t : Fin (cfgM m hO).N) (y : S1x1x2x512.Idx) : (((cfgM m hO).win 10).blk t).view.emb y = (ix4 (seqT m hO t) ⟨t.val % 64, by omega⟩ (y 2) (y 3) : S2x64x2x512.Idx) := by
  have hv := fun a => Pipeline.Window.rect_emb_val ((cfgM m hO).win 10) t y a rfl
  rw [idx10] at hv
  have h0 : (y 0).val < 1 := (y 0).isLt
  funext a
  refine Fin.ext ((hv a).trans ?_)
  rcases fin4 a with h | h | h | h <;> subst h
  · show t.val / 64 * 1 + (y 0).val = t.val / 64
    omega
  · have h1 : (y 1).val < 1 := (y 1).isLt
    show t.val % 64 * 1 + (y 1).val = t.val % 64
    omega
  · show 0 * 2 + (y 2).val = (y 2).val
    omega
  · show 0 * 512 + (y 3).val = (y 3).val
    omega

theorem nblk11 : ∀ a, ((cfgM m hO).win 11).nblk a = (![2, 64, 1] : Fin 3 → ℕ) a := by
  intro a
  rcases fin3 a with h | h | h <;> subst h
  · show (2 + 1 - 1) / 1 = 2
    norm_num
  · show (16384 + 256 - 1) / 256 = 64
    norm_num
  · show (576 + 576 - 1) / 576 = 1
    norm_num
theorem size11 : ∀ a, 0 < ((cfgM m hO).win 11).size a := by
  intro a
  rcases fin3 a with h | h | h <;> subst h
  · show 0 < 1
    norm_num
  · show 0 < 256
    norm_num
  · show 0 < 576
    norm_num
theorem covers11 : ((cfgM m hO).win 11).Covers := by
  have hN : (cfgM m hO).grid.N = 128 := N_0
  refine Pipeline.Window.covers_of_index_surj _ rfl (size11 m hO) fun β => ?_
  have h0 : (β (0 : Fin 3)).val < 2 := lt_of_lt_of_eq (β (0 : Fin 3)).isLt (nblk11 m hO (0 : Fin 3))
  have h1 : (β (1 : Fin 3)).val < 64 := lt_of_lt_of_eq (β (1 : Fin 3)).isLt (nblk11 m hO (1 : Fin 3))
  have h2 : (β (2 : Fin 3)).val < 1 := lt_of_lt_of_eq (β (2 : Fin 3)).isLt (nblk11 m hO (2 : Fin 3))
  have hlt : (β (0 : Fin 3)).val * 64 + (β (1 : Fin 3)).val < (cfgM m hO).grid.N := lt_of_lt_of_eq (by omega : _ < 128) hN.symm
  refine ⟨⟨(β (0 : Fin 3)).val * 64 + (β (1 : Fin 3)).val, hlt⟩, fun a => ?_⟩
  rw [idx11]
  rcases fin3 a with h | h | h <;> subst h
  · show ((β (0 : Fin 3)).val * 64 + (β (1 : Fin 3)).val) / 64 = (β (0 : Fin 3)).val
    omega
  · show ((β (0 : Fin 3)).val * 64 + (β (1 : Fin 3)).val) % 64 = (β (1 : Fin 3)).val
    omega
  · show 0 = (β (2 : Fin 3)).val
    omega
theorem q11 (t : Fin (cfgM m hO).N) (hL : ∀ b, 0 ≤ ((args m c).LN b).toInt) (y : S1x256x576.Idx) : (dats m hO 0 c).after 11 t (((cfgM m hO).win 11).xinj ((cfgM m hO).grid.coords t) y) = (args m c).code (seqT m hO t) (rowT m hO t (y 1)) (y 2) := by
  refine Eq.trans (congrArg ((dats m hO 0 c).after 11 t) (?_ : _ = (y : ((cfgM m hO).win 11).block.Idx))) ((congrFun (after0_11 m hO c t) y).trans (p11 m c hO t hL y))
  rfl
theorem e11 (t : Fin (cfgM m hO).N) (y : S1x256x576.Idx) : (((cfgM m hO).win 11).blk t).view.emb y = (ix3 (seqT m hO t) (rowT m hO t (y 1)) (y 2) : S2x16384x576.Idx) := by
  have hv := fun a => Pipeline.Window.rect_emb_val ((cfgM m hO).win 11) t y a rfl
  rw [idx11] at hv
  have h0 : (y 0).val < 1 := (y 0).isLt
  funext a
  refine Fin.ext ((hv a).trans ?_)
  rcases fin3 a with h | h | h <;> subst h
  · show t.val / 64 * 1 + (y 0).val = t.val / 64
    omega
  · rfl
  · show 0 * 576 + (y 2).val = (y 2).val
    omega

theorem nblk12 : ∀ a, ((cfgM m hO).win 12).nblk a = (![2, 64, 1] : Fin 3 → ℕ) a := by
  intro a
  rcases fin3 a with h | h | h <;> subst h
  · show (2 + 1 - 1) / 1 = 2
    norm_num
  · show (16384 + 256 - 1) / 256 = 64
    norm_num
  · show (5 + 5 - 1) / 5 = 1
    norm_num
theorem size12 : ∀ a, 0 < ((cfgM m hO).win 12).size a := by
  intro a
  rcases fin3 a with h | h | h <;> subst h
  · show 0 < 1
    norm_num
  · show 0 < 256
    norm_num
  · show 0 < 5
    norm_num
theorem covers12 : ((cfgM m hO).win 12).Covers := by
  have hN : (cfgM m hO).grid.N = 128 := N_0
  refine Pipeline.Window.covers_of_index_surj _ rfl (size12 m hO) fun β => ?_
  have h0 : (β (0 : Fin 3)).val < 2 := lt_of_lt_of_eq (β (0 : Fin 3)).isLt (nblk12 m hO (0 : Fin 3))
  have h1 : (β (1 : Fin 3)).val < 64 := lt_of_lt_of_eq (β (1 : Fin 3)).isLt (nblk12 m hO (1 : Fin 3))
  have h2 : (β (2 : Fin 3)).val < 1 := lt_of_lt_of_eq (β (2 : Fin 3)).isLt (nblk12 m hO (2 : Fin 3))
  have hlt : (β (0 : Fin 3)).val * 64 + (β (1 : Fin 3)).val < (cfgM m hO).grid.N := lt_of_lt_of_eq (by omega : _ < 128) hN.symm
  refine ⟨⟨(β (0 : Fin 3)).val * 64 + (β (1 : Fin 3)).val, hlt⟩, fun a => ?_⟩
  rw [idx12]
  rcases fin3 a with h | h | h <;> subst h
  · show ((β (0 : Fin 3)).val * 64 + (β (1 : Fin 3)).val) / 64 = (β (0 : Fin 3)).val
    omega
  · show ((β (0 : Fin 3)).val * 64 + (β (1 : Fin 3)).val) % 64 = (β (1 : Fin 3)).val
    omega
  · show 0 = (β (2 : Fin 3)).val
    omega
theorem q12 (t : Fin (cfgM m hO).N) (hL : ∀ b, 0 ≤ ((args m c).LN b).toInt) (y : S1x256x5.Idx) : (dats m hO 0 c).after 12 t (((cfgM m hO).win 12).xinj ((cfgM m hO).grid.coords t) y) = (args m c).sc (seqT m hO t) (rowT m hO t (y 1)) (y 2) := by
  refine Eq.trans (congrArg ((dats m hO 0 c).after 12 t) (?_ : _ = (y : ((cfgM m hO).win 12).block.Idx))) ((congrFun (after0_12 m hO c t) y).trans (p12 m c hO t hL y))
  rfl
theorem e12 (t : Fin (cfgM m hO).N) (y : S1x256x5.Idx) : (((cfgM m hO).win 12).blk t).view.emb y = (ix3 (seqT m hO t) (rowT m hO t (y 1)) (y 2) : S2x16384x5.Idx) := by
  have hv := fun a => Pipeline.Window.rect_emb_val ((cfgM m hO).win 12) t y a rfl
  rw [idx12] at hv
  have h0 : (y 0).val < 1 := (y 0).isLt
  funext a
  refine Fin.ext ((hv a).trans ?_)
  rcases fin3 a with h | h | h <;> subst h
  · show t.val / 64 * 1 + (y 0).val = t.val / 64
    omega
  · rfl
  · show 0 * 5 + (y 2).val = (y 2).val
    omega

end Cert.Val.K
end
-- ==== Proof.Val.KArr.lean ====
/- The kernel's four arrays after the launch, as the results over the whole arrays. -/
module
public import proofs.«01_k».proof.Proof.Val.KCover
@[expose] public section
set_option maxRecDepth 16384
noncomputable section
namespace Cert.Val.K
open Cert.KernelIdeal Cert.KernelIdeal.Gen Cert.KernelIdeal.Hand Idealize.ShloMosaic
variable (m : (ℓ : Loc nD τ sig) → Buf (Elt Ideal) ℓ) (c : Dev nD) (hO : Ok m)

/-- The kernel's first result. -/
theorem arr9 (hL : ∀ b, 0 ≤ ((args m c).LN b).toInt) : (dats m hO 0 c).arrAt 9 (cfgM m hO).N = fun i : S2x16384x7168.Idx => (args m c).dx (i 0) (i 1) (i 2) := by
  refine (dats m hO 0 c).arrAt_eq_of_covers 9 _ (covers9 m hO) fun t hf y => ?_
  have h1 := q9 m c hO t hL y
  have h2 := congrArg (fun i : S2x16384x7168.Idx => (args m c).dx (i 0) (i 1) (i 2)) (e9 m hO t y)
  refine Eq.trans ?_ h2.symm
  refine Eq.trans ?_ h1
  exact eq_of_heq (cast_heq _ _)

/-- The kernel's second result. -/
theorem arr10 (hL : ∀ b, 0 ≤ ((args m c).LN b).toInt) : (dats m hO 0 c).arrAt 10 (cfgM m hO).N = fun i : S2x64x2x512.Idx => (args m c).gp (i 0) (i 1) (i 2) (i 3) := by
  refine (dats m hO 0 c).arrAt_eq_of_covers 10 _ (covers10 m hO) fun t hf y => ?_
  have h1 := q10 m c hO t hL y
  have h2 := congrArg (fun i : S2x64x2x512.Idx => (args m c).gp (i 0) (i 1) (i 2) (i 3)) (e10 m hO t y)
  refine Eq.trans ?_ h2.symm
  refine Eq.trans ?_ h1
  exact eq_of_heq (cast_heq _ _)

/-- The kernel's third result. -/
theorem arr11 (hL : ∀ b, 0 ≤ ((args m c).LN b).toInt) : (dats m hO 0 c).arrAt 11 (cfgM m hO).N = fun i : S2x16384x576.Idx => (args m c).code (i 0) (i 1) (i 2) := by
  refine (dats m hO 0 c).arrAt_eq_of_covers 11 _ (covers11 m hO) fun t hf y => ?_
  have h1 := q11 m c hO t hL y
  have h2 := congrArg (fun i : S2x16384x576.Idx => (args m c).code (i 0) (i 1) (i 2)) (e11 m hO t y)
  refine Eq.trans ?_ h2.symm
  refine Eq.trans ?_ h1
  exact eq_of_heq (cast_heq _ _)

/-- The kernel's fourth result. -/
theorem arr12 (hL : ∀ b, 0 ≤ ((args m c).LN b).toInt) : (dats m hO 0 c).arrAt 12 (cfgM m hO).N = fun i : S2x16384x5.Idx => (args m c).sc (i 0) (i 1) (i 2) := by
  refine (dats m hO 0 c).arrAt_eq_of_covers 12 _ (covers12 m hO) fun t hf y => ?_
  have h1 := q12 m c hO t hL y
  have h2 := congrArg (fun i : S2x16384x5.Idx => (args m c).sc (i 0) (i 1) (i 2)) (e12 m hO t y)
  refine Eq.trans ?_ h2.symm
  refine Eq.trans ?_ h1
  exact eq_of_heq (cast_heq _ _)

end Cert.Val.K
end
-- ==== Proof.Val.RRows.lean ====
/- The reference's four results at an index, as the row functions of its operands. -/
module

public import proofs.«01_k».proof.Proof.Val.Spec
public import proofs.«01_k».proof.Proof.Gen.ReferenceIdeal.Frame
public import Idealize.ShloMosaic.Lib.Pointwise

@[expose] public section

set_option maxRecDepth 16384

noncomputable section

namespace Cert.Val.R

open Cert.ReferenceIdeal Cert.ReferenceIdeal.Gen Idealize.ShloMosaic

variable (x0 : Vec Ideal S2x16384x7168 .fp8e4m3) (x1 : Vec Ideal S2x16384x56 .bf16) (x2 : Vec Ideal S576x7168 .fp8e4m3)
  (x3 : Vec Ideal S576x56 .bf16) (x4 : Vec Ideal S2x16384x512 .bf16) (x5 : Vec Ideal S2x16384x1 .f32) (x6 : Vec Ideal S512 .f32)
  (x7 : Vec Ideal S2x16384x64 .f32) (b : Fin 2) (r : Fin 16384)

/-- A token's dequantised row. -/
def xw (x : Fin 7168) : EReal := x0 (ix3 b r x) * x1 (ix3 b r ⟨x.val / 128, by omega⟩)
/-- The dequantised weight. -/
def wt (j : Fin 576) (x : Fin 7168) : EReal := x2 (ix2 j x) * x3 (ix2 j ⟨x.val / 128, by omega⟩)
/-- A token's latent gradient, zero for a token beyond its sequence. -/
def gc (l : Fin 512) : EReal := x4 (ix3 b r l) * x5 (ix3 b r 0)
/-- A token's rope gradient. -/
def dr (j : Fin 64) : EReal := x7 (ix3 b r j)
/-- A token's latent row. -/
def cf : Fin 512 → EReal := cfS (xw x0 x1 b r) (wt x2 x3)
/-- A token's gradient before quantisation. -/
def dc : Fin 512 → EReal := dcS (cf x0 x1 x2 x3 b r) (gc x4 x5 b r) (fun l => x6 (ix1 l))

theorem pay3 (l : Fin 512) : k0_pay3 x2 x3 x0 x1 (ix3 b r l) = cf x0 x1 x2 x3 b r l := by
  pointwise [k0_pay3, k0_pay2]
  rfl

theorem pay4 (l : Fin 512) : k0_pay4 x4 x5 (ix3 b r l) = gc x4 x5 b r l := by
  pointwise [k0_pay4]
  rfl

theorem pay5 : k0_pay5 x2 x3 x0 x1 (ix3 b r 0) = rsS (cf x0 x1 x2 x3 b r) := by
  pointwise [k0_pay5]
  simp only [pay3]
  rfl

theorem pay9 (l : Fin 512) : k0_pay9 (k0_pay3 x2 x3 x0 x1) (k0_pay4 x4 x5) (k0_pay5 x2 x3 x0 x1) x6 (ix3 b r l)
    = dc x0 x1 x2 x3 x4 x5 x6 b r l := by
  pointwise [k0_pay9]
  simp only [pay3, pay4, pay5]
  rfl

theorem pay10 (k : Fin 5) : k0_pay10 (k0_pay3 x2 x3 x0 x1) (k0_pay4 x4 x5) (k0_pay5 x2 x3 x0 x1) x6 x7 (ix3 b r k)
    = amS (dc x0 x1 x2 x3 x4 x5 x6 b r) (dr x7 b r) k := by
  pointwise [k0_pay10]
  simp only [pay9]
  rfl

theorem pay14 (k : Fin 5) :
    k0_pay14 (k0_pay10 (k0_pay3 x2 x3 x0 x1) (k0_pay4 x4 x5) (k0_pay5 x2 x3 x0 x1) x6 x7)
      (k0_pay12 (k0_pay3 x2 x3 x0 x1) (k0_pay4 x4 x5) (k0_pay5 x2 x3 x0 x1) x6 x7) (Scalar.ofBits .f32 0x7E800000#32) (k0_pay13 (F := Ideal)) (ix3 b r k)
    = scS (dc x0 x1 x2 x3 x4 x5 x6 b r) (dr x7 b r) k := by
  pointwise [k0_pay14, k0_pay13, k0_pay12, k0_pay11]
  simp only [pay10]
  rfl

theorem pay15_at (v60 : FVec Ideal S2x16384x512 .f32) (v69 : FVec Ideal S2x16384x5 .f32) (v80 : IVec S2x16384x5x253 1) (cst : Ideal .f32)
    (v82 : FVec Ideal S2x16384x5x253 .f32) (j : Fin 576) :
    k0_pay15 v60 v69 v80 cst v82 x7 (ix3 b r j)
      = codeOf (Ideal.div 1 (k0_pay14 v69 v80 cst v82 (ix3 b r (kOf j)))) (elS (fun l => v60 (ix3 b r l)) (dr x7 b r) j) := by
  pointwise [k0_pay15]
  have hk : kOf j = if j.val < 128 then 0 else if j.val < 256 then 1 else if j.val < 384 then 2 else if j.val < 512 then 3 else 4 :=
    (by decide +kernel : ∀ j : Fin 576, kOf j = if j.val < 128 then 0 else if j.val < 256 then 1 else if j.val < 384 then 2 else if j.val < 512 then 3 else 4) j
  unfold codeOf elS
  congr 3
  rw [hk]
  split_ifs <;> first | rfl | omega

theorem pay1_at (v8 : FVec Ideal S576x7168 .bf16) (v119 : FVec Ideal S2x16384x576 .bf16) (v69 : FVec Ideal S2x16384x5 .f32) (v80 : IVec S2x16384x5x253 1) (cst : Ideal .f32)
    (v82 : FVec Ideal S2x16384x5x253 .f32) (l : Fin 7168) :
    k0_pay1 v8 (k0_pay14 v69 v80 cst v82) v119 (k0_pay17 v69 v80 cst v82) (k0_pay18 v69 v80 cst v82) (ix3 b r l)
      = ∑ x, v119 (ix3 b r x) * k0_pay14 v69 v80 cst v82 (ix3 b r (kOf x)) * v8 (ix2 x l) := by
  pointwise [k0_pay1, k0_pay17, k0_pay18]
  refine Finset.sum_congr rfl fun j _ => ?_
  have hk : kOf j = if j.val < 128 then 0 else if j.val < 256 then 1 else if j.val < 384 then 2 else if j.val < 512 then 3 else 4 :=
    (by decide +kernel : ∀ j : Fin 576, kOf j = if j.val < 128 then 0 else if j.val < 256 then 1 else if j.val < 384 then 2 else if j.val < 512 then 3 else 4) j
  congr 2
  rw [hk]
  split_ifs <;> first | rfl | omega

theorem pay8_at (v38 v39 : FVec Ideal S2x16384x512 .f32) (g : Fin 64) (h : Fin 2) (l : Fin 512) :
    k0_pay8 v38 v39 (ix4 b g h l) = ∑ x : Fin 128, v38 (ix3 b ⟨g.val * 256 + h.val * 128 + x.val, by omega⟩ l)
      * v39 (ix3 b ⟨g.val * 256 + h.val * 128 + x.val, by omega⟩ l) := by
  pointwise [k0_pay8]

theorem pay15 (j : Fin 576) :
    k0_pay15 (k0_pay9 (k0_pay3 x2 x3 x0 x1) (k0_pay4 x4 x5) (k0_pay5 x2 x3 x0 x1) x6) (k0_pay10 (k0_pay3 x2 x3 x0 x1) (k0_pay4 x4 x5) (k0_pay5 x2 x3 x0 x1) x6 x7)
      (k0_pay12 (k0_pay3 x2 x3 x0 x1) (k0_pay4 x4 x5) (k0_pay5 x2 x3 x0 x1) x6 x7) (Scalar.ofBits .f32 0x7E800000#32) (k0_pay13 (F := Ideal)) x7 (ix3 b r j)
    = codeS (dc x0 x1 x2 x3 x4 x5 x6 b r) (dr x7 b r) j := by
  rw [pay15_at, pay14]
  simp only [pay9]
  rfl

theorem pay1 (l : Fin 7168) :
    k0_pay1 (k0_pay2 x2 x3) (k0_pay14 (k0_pay10 (k0_pay3 x2 x3 x0 x1) (k0_pay4 x4 x5) (k0_pay5 x2 x3 x0 x1) x6 x7)
      (k0_pay12 (k0_pay3 x2 x3 x0 x1) (k0_pay4 x4 x5) (k0_pay5 x2 x3 x0 x1) x6 x7) (Scalar.ofBits .f32 0x7E800000#32) (k0_pay13 (F := Ideal)))
      (k0_pay16 (k0_pay9 (k0_pay3 x2 x3 x0 x1) (k0_pay4 x4 x5) (k0_pay5 x2 x3 x0 x1) x6) (k0_pay10 (k0_pay3 x2 x3 x0 x1) (k0_pay4 x4 x5) (k0_pay5 x2 x3 x0 x1) x6 x7)
      (k0_pay12 (k0_pay3 x2 x3 x0 x1) (k0_pay4 x4 x5) (k0_pay5 x2 x3 x0 x1) x6 x7) (Scalar.ofBits .f32 0x7E800000#32) (k0_pay13 (F := Ideal)) x7)
      (k0_pay17 (k0_pay10 (k0_pay3 x2 x3 x0 x1) (k0_pay4 x4 x5) (k0_pay5 x2 x3 x0 x1) x6 x7)
      (k0_pay12 (k0_pay3 x2 x3 x0 x1) (k0_pay4 x4 x5) (k0_pay5 x2 x3 x0 x1) x6 x7) (Scalar.ofBits .f32 0x7E800000#32) (k0_pay13 (F := Ideal)))
      (k0_pay18 (k0_pay10 (k0_pay3 x2 x3 x0 x1) (k0_pay4 x4 x5) (k0_pay5 x2 x3 x0 x1) x6 x7)
      (k0_pay12 (k0_pay3 x2 x3 x0 x1) (k0_pay4 x4 x5) (k0_pay5 x2 x3 x0 x1) x6 x7) (Scalar.ofBits .f32 0x7E800000#32) (k0_pay13 (F := Ideal))) (ix3 b r l)
    = dxS (dc x0 x1 x2 x3 x4 x5 x6 b r) (dr x7 b r) (wt x2 x3) l := by
  rw [pay1_at]
  refine Finset.sum_congr rfl fun x _ => ?_
  rw [pay14]
  unfold k0_pay16
  show k0_pay15 (F := Ideal) _ _ _ _ _ _ _ * _ * _ = _
  rw [pay15]
  congr 1
  pointwise [k0_pay2]
  rfl

theorem pay8 (g : Fin 64) (h : Fin 2) (l : Fin 512) :
    k0_pay8 (k0_pay6 x2 x3 x0 x1 x4 x5) (k0_pay7 x2 x3 x0 x1) (ix4 b g h l)
      = ∑ x : Fin 128, gpS (cf x0 x1 x2 x3 b ⟨g.val * 256 + h.val * 128 + x.val, by omega⟩) (gc x4 x5 b ⟨g.val * 256 + h.val * 128 + x.val, by omega⟩) l := by
  rw [pay8_at]
  refine Finset.sum_congr rfl fun x _ => ?_
  generalize (⟨g.val * 256 + h.val * 128 + x.val, _⟩ : Fin 16384) = s
  pointwise [k0_pay7, k0_pay6]
  simp only [pay3, pay4, pay5]
  rfl

end Cert.Val.R

end
end
-- ==== Proof.Val.RRot.lean ====
/- Facts on the reference's words and its rotation. -/
module
public import proofs.«01_k».proof.Proof.Val.RRows
public import proofs.«01_k».proof.Proof.Val.Glob
public import Idealize.ShloMosaic.Lib.Pipeline.ValueKit
public import Idealize.ShloMosaic.Lib.StableHlo.RunRead
@[expose] public section
set_option maxRecDepth 16384
noncomputable section
namespace Cert.Val.R
open Cert.ReferenceIdeal Cert.ReferenceIdeal.Gen Idealize.ShloMosaic

theorem uval (s : Fin 16384) (v : BitVec 32) : FloatOps.uitofp (F := Ideal) FTy.f32 (IntOp.cmpi CmpIPredicate.slt (BitVec.ofNat 32 s.val) v) = if (s.val : ℤ) < v.toInt then (1 : EReal) else 0 := by
  have e : (BitVec.ofNat 32 s.val).toInt = s.val := WordCmp.toInt_ofNat_of_lt (by omega)
  by_cases h : (s.val : ℤ) < v.toInt
  · rw [if_pos h]
    have : IntOp.cmpi CmpIPredicate.slt (BitVec.ofNat 32 s.val) v = 1#1 := by
      show BitVec.ofBool (BitVec.slt _ _) = 1#1
      rw [(BitVec.slt_iff_toInt_lt).mpr (by rw [e]; exact h)]; rfl
    rw [this]
    show (((1#1 : BitVec 1).toNat : ℝ) : EReal) = 1
    rw [show (1#1 : BitVec 1).toNat = 1 from rfl]; norm_num
  · rw [if_neg h]
    have : IntOp.cmpi CmpIPredicate.slt (BitVec.ofNat 32 s.val) v = 0#1 := by
      show BitVec.ofBool (BitVec.slt _ _) = 0#1
      have : BitVec.slt (BitVec.ofNat 32 s.val) v = false := by
        rw [Bool.eq_false_iff]; intro hh; exact h (by rw [← e]; exact BitVec.slt_iff_toInt_lt.mp hh)
      rw [this]; rfl
    rw [this]
    show (((0#1 : BitVec 1).toNat : ℝ) : EReal) = 0
    rw [show (0#1 : BitVec 1).toNat = 0 from rfl]; norm_num

/-- The rotation by pairs of lanes is the rotation lane by lane. -/
theorem rot_two (d : Fin 64 → EReal) (V : EReal) (an : Fin 64 → EReal) (l : Fin 64) (A co si : EReal) (hA : A = an l) (hc : co = Ideal.cos A) (hs : si = Ideal.sin A) :
    (if _h : l.val % 2 < 1 then
      d ⟨l.val / 2 * 2, by omega⟩ * V * co + d ⟨l.val / 2 * 2 + 1, by omega⟩ * V * si
    else
      -(d ⟨l.val / 2 * 2, by omega⟩ * V) * si + d ⟨l.val / 2 * 2 + 1, by omega⟩ * V * co)
    = K.rotS (fun l => d l * V) an l := by
  subst hA
  have e : K.rotS (fun l => d l * V) an l = d l * V * co + (if h : l.val % 2 = 0 then d ⟨l.val + 1, by omega⟩ * V else d ⟨l.val - 1, by omega⟩ * V)
    * (if l.val % 2 = 0 then si else 0 - si) := by rw [hc, hs]; rfl
  rw [e]
  by_cases h : l.val % 2 = 0
  · rw [dif_pos (by omega), dif_pos h, if_pos h]
    have e1 : (⟨l.val / 2 * 2, by omega⟩ : Fin 64) = l := Fin.ext (by dsimp only; omega)
    have e2 : (⟨l.val / 2 * 2 + 1, by omega⟩ : Fin 64) = ⟨l.val + 1, by omega⟩ := Fin.ext (by dsimp only; omega)
    rw [e1, e2]
  · rw [dif_neg (by omega), dif_neg h, if_neg h]
    have e1 : (⟨l.val / 2 * 2, by omega⟩ : Fin 64) = ⟨l.val - 1, by omega⟩ := Fin.ext (by dsimp only; omega)
    have e2 : (⟨l.val / 2 * 2 + 1, by omega⟩ : Fin 64) = l := Fin.ext (by dsimp only; omega)
    rw [e1, e2, add_comm, EReal.neg_mul, zero_sub, mul_neg]
end Cert.Val.R
end
-- ==== Proof.Val.RArgs.lean ====
/- What the reference's operands hold, by the coordinates of its arguments. -/
module
public import proofs.«01_k».proof.Proof.Val.RRows
public import proofs.«01_k».proof.Proof.Val.RRot
public import Idealize.ShloMosaic.Lib.Pipeline.ValueKit
public import Idealize.ShloMosaic.Lib.StableHlo.RunRead
@[expose] public section
set_option maxRecDepth 16384
noncomputable section
namespace Cert.Val.R
open Cert.ReferenceIdeal Cert.ReferenceIdeal.Gen Idealize.ShloMosaic

variable (m : (ℓ : Loc nD τ sig) → Buf (Elt Ideal) ℓ) (c : Dev nD)

/-- The nine arguments the reference is launched with. -/
def args : Args where
  X b s x := (m (c.tc.loc main_arg0) : Vec Ideal S2x16384x7168 .fp8e4m3) (ix3 b s x)
  XS b s x := (m (c.tc.loc main_arg1) : Vec Ideal S2x16384x56 .f32) (ix3 b s x)
  WC j x := (m (c.tc.loc main_arg2) : Vec Ideal S576x7168 .fp8e4m3) (ix2 j x)
  WS j x := (m (c.tc.loc main_arg3) : Vec Ideal S5x56 .f32) (ix2 j x)
  GN l := (m (c.tc.loc main_arg4) : Vec Ideal S512 .f32) (ix1 l)
  PS b s := (m (c.tc.loc main_arg5) : Vec Ideal S2x16384 .i32) (ix2 b s)
  LN b := (m (c.tc.loc main_arg6) : Vec Ideal S2 .i32) (ix1 b)
  DC b s l := (m (c.tc.loc main_arg7) : Vec Ideal S2x16384x512 .bf16) (ix3 b s l)
  DR b s l := (m (c.tc.loc main_arg8) : Vec Ideal S2x16384x64 .bf16) (ix3 b s l)

theorem Vxs (b : Fin 2) (s : Fin 16384) (x : Fin 56) : (V m c main_v50 : Vec Ideal S2x16384x56 .bf16) (ix3 b s x) = (args m c).XS b s x := by
  entry_read
  pointwise
  rfl
theorem Vws (j : Fin 576) (x : Fin 56) : (V m c main_v3 : Vec Ideal S576x56 .bf16) (ix2 j x) = (args m c).WS ⟨j.val / 128, by omega⟩ x := by
  entry_read
  pointwise
  rfl
theorem Vval (b : Fin 2) (s : Fin 16384) : (V m c main_v11 : Vec Ideal S2x16384x1 .f32) (ix3 b s 0) = (args m c).val b s := by
  entry_read
  pointwise
  exact uval _ _
theorem Vdr (b : Fin 2) (s : Fin 16384) (l : Fin 64) : (V m c main_v49 : Vec Ideal S2x16384x64 .f32) (ix3 b s l) = (args m c).dr b s l := by
  entry_read
  pointwise
  have hV : FloatOps.uitofp (F := Ideal) FTy.f32 (IntOp.cmpi CmpIPredicate.slt (BitVec.ofNat 32 s.val) ((args m c).LN b)) = (args m c).val b s := uval s ((args m c).LN b)
  have h := rot_two ((args m c).DR b s) (FloatOps.uitofp (F := Ideal) FTy.f32 (IntOp.cmpi CmpIPredicate.slt (BitVec.ofNat 32 s.val) ((args m c).LN b))) (fun l => frq (pairOf l) * FloatOps.sitofp (F := Ideal) .f32 ((args m c).PS b s)) l
    (FloatOps.sitofp (F := Ideal) .f32 ((args m c).PS b s) * frq (pairOf l)) _ _ (EReal.mul_comm _ _) rfl rfl
  have h3 := congrArg (fun V => K.rotS (fun l => (args m c).DR b s l * V) (fun l => frq (pairOf l) * FloatOps.sitofp (F := Ideal) .f32 ((args m c).PS b s)) l) hV
  refine Eq.trans (Eq.trans ?_ h) h3
  exact rfl
end Cert.Val.R
end
-- ==== Proof.Val.ROut.lean ====
/- What the reference's body leaves in its four blocks, as the row functions of its operands. -/
module
public import proofs.«01_k».proof.Proof.Val.RRows
public import proofs.«01_k».proof.Proof.Val.RArgs
public import Idealize.ShloMosaic.Lib.Pipeline.ValueKit
public import Idealize.ShloMosaic.Lib.StableHlo.RunRead
@[expose] public section
set_option maxRecDepth 16384
noncomputable section
namespace Cert.Val.R
open Cert.ReferenceIdeal Cert.ReferenceIdeal.Gen Idealize.ShloMosaic

section
variable (x0 : Vec Ideal S2x16384x7168 .fp8e4m3) (x1 : Vec Ideal S2x16384x56 .bf16) (x2 : Vec Ideal S576x7168 .fp8e4m3)
  (x3 : Vec Ideal S576x56 .bf16) (x4 : Vec Ideal S2x16384x512 .bf16) (x5 : Vec Ideal S2x16384x1 .f32) (x6 : Vec Ideal S512 .f32)
  (x7 : Vec Ideal S2x16384x64 .f32) (b : Fin 2) (r : Fin 16384)

theorem ld2 : View.ld x2 r0_0 = x2 := View.ld_unit_lit _ _ (by decide)
theorem ld3 : View.ld x3 r0_1 = x3 := View.ld_unit_lit _ _ (by decide)
theorem ld0 : View.ld x0 r0_2 = x0 := View.ld_unit_lit _ _ (by decide)
theorem ld1 : View.ld x1 r0_3 = x1 := View.ld_unit_lit _ _ (by decide)
theorem ld4 : View.ld x4 r0_4 = x4 := View.ld_unit_lit _ _ (by decide)
theorem ld5 : View.ld x5 r0_5 = x5 := View.ld_unit_lit _ _ (by decide)
theorem ld6 : View.ld x6 r0_7 = x6 := View.ld_unit_lit _ _ (by decide)
theorem ld7 : View.ld x7 r0_8 = x7 := View.ld_unit_lit _ _ (by decide)
theorem e22 : k0_pay22 x0 x1 x2 x3 x4 x5 x6 x7 = k0_pay9 (k0_pay3 x2 x3 x0 x1) (k0_pay4 x4 x5) (k0_pay5 x2 x3 x0 x1) x6 := by
  unfold k0_pay22 k0_pay21 k0_pay20 k0_pay19
  rw [ld2, ld3, ld0, ld1, ld4, ld5, ld6]
theorem e23 : k0_pay23 x0 x1 x2 x3 x4 x5 x6 x7 = k0_pay10 (k0_pay3 x2 x3 x0 x1) (k0_pay4 x4 x5) (k0_pay5 x2 x3 x0 x1) x6 x7 := by
  unfold k0_pay23 k0_pay21 k0_pay20 k0_pay19
  rw [ld2, ld3, ld0, ld1, ld4, ld5, ld6, ld7]
theorem e24 : k0_pay24 x0 x1 x2 x3 x4 x5 x6 x7 = k0_pay12 (k0_pay3 x2 x3 x0 x1) (k0_pay4 x4 x5) (k0_pay5 x2 x3 x0 x1) x6 x7 := by
  unfold k0_pay24 k0_pay21 k0_pay20 k0_pay19
  rw [ld2, ld3, ld0, ld1, ld4, ld5, ld6, ld7]
theorem e25 : k0_pay25 x0 x1 x2 x3 x4 x5 x6 x7 = k0_pay13 (F := Ideal) := rfl

theorem o8 (l : Fin 7168) : out0_8 x0 x1 x2 x3 x4 x5 x6 x7 (ix3 b r l) = dxS (dc x0 x1 x2 x3 x4 x5 x6 b r) (dr x7 b r) (wt x2 x3) l := by
  frame_out
  rw [e22, e23, e24, e25]
  exact pay1 x0 x1 x2 x3 x4 x5 x6 x7 b r l
theorem o9 (g : Fin 64) (h : Fin 2) (l : Fin 512) : out0_9 x0 x1 x2 x3 x4 x5 x6 x7 (ix4 b g h l) = ∑ x : Fin 128, gpS (cf x0 x1 x2 x3 b ⟨g.val * 256 + h.val * 128 + x.val, by omega⟩) (gc x4 x5 b ⟨g.val * 256 + h.val * 128 + x.val, by omega⟩) l := by
  frame_out
  exact pay8 x0 x1 x2 x3 x4 x5 b g h l
theorem o10 (j : Fin 576) : out0_10 x0 x1 x2 x3 x4 x5 x6 x7 (ix3 b r j) = codeS (dc x0 x1 x2 x3 x4 x5 x6 b r) (dr x7 b r) j := by
  frame_out
  rw [e22, e23, e24, e25]
  exact pay15 x0 x1 x2 x3 x4 x5 x6 x7 b r j
theorem o11 (k : Fin 5) : out0_11 x0 x1 x2 x3 x4 x5 x6 x7 (ix3 b r k) = scS (dc x0 x1 x2 x3 x4 x5 x6 b r) (dr x7 b r) k := by
  frame_out
  rw [e23, e24, e25]
  exact pay14 x0 x1 x2 x3 x4 x5 x6 x7 b r k
end

end Cert.Val.R
end
-- ==== Proof.Val.RBlk.lean ====
/- The reference's windows hold their arrays whole. -/
module
public import proofs.«01_k».proof.Proof.Val.RArgs
public import proofs.«01_k».proof.Proof.Val.ROut
@[expose] public section
set_option maxRecDepth 16384
noncomputable section
namespace Cert.Val.R
open Cert.ReferenceIdeal Cert.ReferenceIdeal.Gen Idealize.ShloMosaic
variable (m : (ℓ : Loc nD τ sig) → Buf (Elt Ideal) ℓ) (c : Dev nD) (t : Fin cfg0.N)

theorem iz0 : ∀ (t : Fin cfg0.N) (a : Fin 3), (cfg0.win 0).index t a = 0 :=
  (by decide +kernel : ∀ (t : Fin grid0.N) (a : Fin 3), win0_0.index t a = 0)
theorem em0 (y : S2x16384x7168.Idx) : ((cfg0.win 0).blk t).view.emb y = y := by
  funext a
  refine Fin.ext (Pipeline.Window.rect_emb_val_of_index_zero (cfg0.win 0) t a (iz0 t a) y)
theorem ib0 (y : S2x16384x7168.Idx) : (iblk m c 0 t : Vec Ideal S2x16384x7168 .fp8e4m3) y = (V m c main_arg0 : Vec Ideal S2x16384x7168 .fp8e4m3) y := congrArg (V m c main_arg0 : Vec Ideal S2x16384x7168 .fp8e4m3) (em0 t y)
theorem iz1 : ∀ (t : Fin cfg0.N) (a : Fin 3), (cfg0.win 1).index t a = 0 :=
  (by decide +kernel : ∀ (t : Fin grid0.N) (a : Fin 3), win0_1.index t a = 0)
theorem em1 (y : S2x16384x56.Idx) : ((cfg0.win 1).blk t).view.emb y = y := by
  funext a
  refine Fin.ext (Pipeline.Window.rect_emb_val_of_index_zero (cfg0.win 1) t a (iz1 t a) y)
theorem ib1 (y : S2x16384x56.Idx) : (iblk m c 1 t : Vec Ideal S2x16384x56 .bf16) y = (V m c main_v50 : Vec Ideal S2x16384x56 .bf16) y := congrArg (V m c main_v50 : Vec Ideal S2x16384x56 .bf16) (em1 t y)
theorem iz2 : ∀ (t : Fin cfg0.N) (a : Fin 2), (cfg0.win 2).index t a = 0 :=
  (by decide +kernel : ∀ (t : Fin grid0.N) (a : Fin 2), win0_2.index t a = 0)
theorem em2 (y : S576x7168.Idx) : ((cfg0.win 2).blk t).view.emb y = y := by
  funext a
  refine Fin.ext (Pipeline.Window.rect_emb_val_of_index_zero (cfg0.win 2) t a (iz2 t a) y)
theorem ib2 (y : S576x7168.Idx) : (iblk m c 2 t : Vec Ideal S576x7168 .fp8e4m3) y = (V m c main_arg2 : Vec Ideal S576x7168 .fp8e4m3) y := congrArg (V m c main_arg2 : Vec Ideal S576x7168 .fp8e4m3) (em2 t y)
theorem iz3 : ∀ (t : Fin cfg0.N) (a : Fin 2), (cfg0.win 3).index t a = 0 :=
  (by decide +kernel : ∀ (t : Fin grid0.N) (a : Fin 2), win0_3.index t a = 0)
theorem em3 (y : S576x56.Idx) : ((cfg0.win 3).blk t).view.emb y = y := by
  funext a
  refine Fin.ext (Pipeline.Window.rect_emb_val_of_index_zero (cfg0.win 3) t a (iz3 t a) y)
theorem ib3 (y : S576x56.Idx) : (iblk m c 3 t : Vec Ideal S576x56 .bf16) y = (V m c main_v3 : Vec Ideal S576x56 .bf16) y := congrArg (V m c main_v3 : Vec Ideal S576x56 .bf16) (em3 t y)
theorem iz4 : ∀ (t : Fin cfg0.N) (a : Fin 3), (cfg0.win 4).index t a = 0 :=
  (by decide +kernel : ∀ (t : Fin grid0.N) (a : Fin 3), win0_4.index t a = 0)
theorem em4 (y : S2x16384x512.Idx) : ((cfg0.win 4).blk t).view.emb y = y := by
  funext a
  refine Fin.ext (Pipeline.Window.rect_emb_val_of_index_zero (cfg0.win 4) t a (iz4 t a) y)
theorem ib4 (y : S2x16384x512.Idx) : (iblk m c 4 t : Vec Ideal S2x16384x512 .bf16) y = (V m c main_arg7 : Vec Ideal S2x16384x512 .bf16) y := congrArg (V m c main_arg7 : Vec Ideal S2x16384x512 .bf16) (em4 t y)
theorem iz5 : ∀ (t : Fin cfg0.N) (a : Fin 3), (cfg0.win 5).index t a = 0 :=
  (by decide +kernel : ∀ (t : Fin grid0.N) (a : Fin 3), win0_5.index t a = 0)
theorem em5 (y : S2x16384x1.Idx) : ((cfg0.win 5).blk t).view.emb y = y := by
  funext a
  refine Fin.ext (Pipeline.Window.rect_emb_val_of_index_zero (cfg0.win 5) t a (iz5 t a) y)
theorem ib5 (y : S2x16384x1.Idx) : (iblk m c 5 t : Vec Ideal S2x16384x1 .f32) y = (V m c main_v11 : Vec Ideal S2x16384x1 .f32) y := congrArg (V m c main_v11 : Vec Ideal S2x16384x1 .f32) (em5 t y)
theorem iz6 : ∀ (t : Fin cfg0.N) (a : Fin 1), (cfg0.win 6).index t a = 0 :=
  (by decide +kernel : ∀ (t : Fin grid0.N) (a : Fin 1), win0_6.index t a = 0)
theorem em6 (y : S512.Idx) : ((cfg0.win 6).blk t).view.emb y = y := by
  funext a
  refine Fin.ext (Pipeline.Window.rect_emb_val_of_index_zero (cfg0.win 6) t a (iz6 t a) y)
theorem ib6 (y : S512.Idx) : (iblk m c 6 t : Vec Ideal S512 .f32) y = (V m c main_arg4 : Vec Ideal S512 .f32) y := congrArg (V m c main_arg4 : Vec Ideal S512 .f32) (em6 t y)
theorem iz7 : ∀ (t : Fin cfg0.N) (a : Fin 3), (cfg0.win 7).index t a = 0 :=
  (by decide +kernel : ∀ (t : Fin grid0.N) (a : Fin 3), win0_7.index t a = 0)
theorem em7 (y : S2x16384x64.Idx) : ((cfg0.win 7).blk t).view.emb y = y := by
  funext a
  refine Fin.ext (Pipeline.Window.rect_emb_val_of_index_zero (cfg0.win 7) t a (iz7 t a) y)
theorem ib7 (y : S2x16384x64.Idx) : (iblk m c 7 t : Vec Ideal S2x16384x64 .f32) y = (V m c main_v49 : Vec Ideal S2x16384x64 .f32) y := by
  have h := congrArg (V m c main_v49 : Vec Ideal S2x16384x64 .f32) (em7 t y)
  refine Eq.trans ?_ h
  unfold iblk
  rw [View.read_apply]
  exact eq_of_heq (cast_heq _ _)
theorem iz8 : ∀ (t : Fin cfg0.N) (a : Fin 3), (cfg0.win 8).index t a = 0 :=
  (by decide +kernel : ∀ (t : Fin grid0.N) (a : Fin 3), win0_8.index t a = 0)
theorem em8 (y : S2x16384x7168.Idx) : ((cfg0.win 8).blk t).view.emb y = y := by
  funext a
  refine Fin.ext (Pipeline.Window.rect_emb_val_of_index_zero (cfg0.win 8) t a (iz8 t a) y)
theorem iz9 : ∀ (t : Fin cfg0.N) (a : Fin 4), (cfg0.win 9).index t a = 0 :=
  (by decide +kernel : ∀ (t : Fin grid0.N) (a : Fin 4), win0_9.index t a = 0)
theorem em9 (y : S2x64x2x512.Idx) : ((cfg0.win 9).blk t).view.emb y = y := by
  funext a
  refine Fin.ext (Pipeline.Window.rect_emb_val_of_index_zero (cfg0.win 9) t a (iz9 t a) y)
theorem iz10 : ∀ (t : Fin cfg0.N) (a : Fin 3), (cfg0.win 10).index t a = 0 :=
  (by decide +kernel : ∀ (t : Fin grid0.N) (a : Fin 3), win0_10.index t a = 0)
theorem em10 (y : S2x16384x576.Idx) : ((cfg0.win 10).blk t).view.emb y = y := by
  funext a
  refine Fin.ext (Pipeline.Window.rect_emb_val_of_index_zero (cfg0.win 10) t a (iz10 t a) y)
theorem iz11 : ∀ (t : Fin cfg0.N) (a : Fin 3), (cfg0.win 11).index t a = 0 :=
  (by decide +kernel : ∀ (t : Fin grid0.N) (a : Fin 3), win0_11.index t a = 0)
theorem em11 (y : S2x16384x5.Idx) : ((cfg0.win 11).blk t).view.emb y = y := by
  funext a
  refine Fin.ext (Pipeline.Window.rect_emb_val_of_index_zero (cfg0.win 11) t a (iz11 t a) y)

end Cert.Val.R
end
-- ==== Proof.Val.RArr.lean ====
/- The reference's four arrays after the launch, as the results over the whole arrays. -/
module
public import proofs.«01_k».proof.Proof.Val.RBlk
@[expose] public section
set_option maxRecDepth 16384
noncomputable section
namespace Cert.Val.R
open Cert.ReferenceIdeal Cert.ReferenceIdeal.Gen Idealize.ShloMosaic

theorem ax4 : ∀ a : Fin 4, a = 0 ∨ a = 1 ∨ a = 2 ∨ a = 3 := by decide
theorem ax3 : ∀ a : Fin 3, a = 0 ∨ a = 1 ∨ a = 2 := by decide

section
variable (x0 : Vec Ideal S2x16384x7168 .fp8e4m3) (x1 : Vec Ideal S2x16384x56 .bf16) (x2 : Vec Ideal S576x7168 .fp8e4m3)
  (x3 : Vec Ideal S576x56 .bf16) (x4 : Vec Ideal S2x16384x512 .bf16) (x5 : Vec Ideal S2x16384x1 .f32) (x6 : Vec Ideal S512 .f32)
  (x7 : Vec Ideal S2x16384x64 .f32) (A : Args)
  (h0 : ∀ b s x, x0 (ix3 b s x) = A.X b s x) (h1 : ∀ b s x, x1 (ix3 b s x) = A.XS b s x) (h2 : ∀ j x, x2 (ix2 j x) = A.WC j x)
  (h3 : ∀ (j : Fin 576) (x : Fin 56), x3 (ix2 j x) = A.WS ⟨j.val / 128, by omega⟩ x) (h4 : ∀ b s l, x4 (ix3 b s l) = A.DC b s l)
  (h5 : ∀ b s, x5 (ix3 b s 0) = A.val b s) (h6 : ∀ l, x6 (ix1 l) = A.GN l) (h7 : ∀ b s l, x7 (ix3 b s l) = A.dr b s l)

include h2 h3 in
theorem wt_eq : wt x2 x3 = A.wt := funext fun j => funext fun x => congrArg₂ (· * ·) (h2 j x) (h3 j _)
include h0 h1 h2 h3 in
theorem cf_eq (b s) : cf x0 x1 x2 x3 b s = A.cf b s :=
  congrArg₂ cfS (funext fun x => congrArg₂ (· * ·) (h0 b s x) (h1 b s _)) (wt_eq x2 x3 A h2 h3)
include h4 h5 in
theorem gc_eq (b s) : gc x4 x5 b s = A.gc b s := funext fun l => congrArg₂ (· * ·) (h4 b s l) (h5 b s)
include h0 h1 h2 h3 h4 h5 h6 in
theorem dc_eq (b s) : dc x0 x1 x2 x3 x4 x5 x6 b s = A.dc b s := by
  unfold dc Args.dc
  exact congr (congrArg₂ dcS (cf_eq x0 x1 x2 x3 A h0 h1 h2 h3 b s) (gc_eq x4 x5 A h4 h5 b s)) (funext h6)
include h7 in
theorem dr_eq (b s) : dr x7 b s = A.dr b s := funext (h7 b s)

include h0 h1 h2 h3 h4 h5 h6 h7
theorem g8 (y : S2x16384x7168.Idx) : out0_8 x0 x1 x2 x3 x4 x5 x6 x7 y = A.dx (y 0) (y 1) (y 2) := by
  have e : y = ix3 (y 0) (y 1) (y 2) := by funext a; rcases ax3 a with h | h | h <;> subst h <;> rfl
  refine (congrArg _ e).trans ((o8 x0 x1 x2 x3 x4 x5 x6 x7 (y 0) (y 1) (y 2)).trans ?_)
  exact congrFun (congr (congrArg₂ dxS (dc_eq x0 x1 x2 x3 x4 x5 x6 A h0 h1 h2 h3 h4 h5 h6 _ _) (dr_eq x7 A h7 _ _)) (wt_eq x2 x3 A h2 h3)) (y 2)
theorem g10 (y : S2x16384x576.Idx) : out0_10 x0 x1 x2 x3 x4 x5 x6 x7 y = A.code (y 0) (y 1) (y 2) := by
  have e : y = ix3 (y 0) (y 1) (y 2) := by funext a; rcases ax3 a with h | h | h <;> subst h <;> rfl
  refine (congrArg _ e).trans ((o10 x0 x1 x2 x3 x4 x5 x6 x7 (y 0) (y 1) (y 2)).trans ?_)
  exact congrFun (congrArg₂ codeS (dc_eq x0 x1 x2 x3 x4 x5 x6 A h0 h1 h2 h3 h4 h5 h6 _ _) (dr_eq x7 A h7 _ _)) (y 2)
theorem g11 (y : S2x16384x5.Idx) : out0_11 x0 x1 x2 x3 x4 x5 x6 x7 y = A.sc (y 0) (y 1) (y 2) := by
  have e : y = ix3 (y 0) (y 1) (y 2) := by funext a; rcases ax3 a with h | h | h <;> subst h <;> rfl
  refine (congrArg _ e).trans ((o11 x0 x1 x2 x3 x4 x5 x6 x7 (y 0) (y 1) (y 2)).trans ?_)
  exact congrFun (congrArg₂ scS (dc_eq x0 x1 x2 x3 x4 x5 x6 A h0 h1 h2 h3 h4 h5 h6 _ _) (dr_eq x7 A h7 _ _)) (y 2)
theorem g9 (y : S2x64x2x512.Idx) : out0_9 x0 x1 x2 x3 x4 x5 x6 x7 y = A.gp (y 0) (y 1) (y 2) (y 3) := by
  have e : y = ix4 (y 0) (y 1) (y 2) (y 3) := by funext a; rcases ax4 a with h | h | h | h <;> subst h <;> rfl
  refine (congrArg _ e).trans ((o9 x0 x1 x2 x3 x4 x5 x6 x7 (y 0) (y 1) (y 2) (y 3)).trans ?_)
  unfold Args.gp
  exact Finset.sum_congr rfl fun x _ => congrFun (congrArg₂ gpS (cf_eq x0 x1 x2 x3 A h0 h1 h2 h3 _ _) (gc_eq x4 x5 A h4 h5 _ _)) (y 3)
end

variable (m : (ℓ : Loc nD τ sig) → Buf (Elt Ideal) ℓ) (c : Dev nD)

section
variable (t : Fin cfg0.N)
theorem hx0 (b s x) : (iblk m c 0 t : Vec Ideal S2x16384x7168 .fp8e4m3) (ix3 b s x) = (args m c).X b s x := (ib0 m c t _).trans (congrFun (V_main_arg0 m c) _)
theorem hx1 (b s x) : (iblk m c 1 t : Vec Ideal S2x16384x56 .bf16) (ix3 b s x) = (args m c).XS b s x := (ib1 m c t _).trans (Vxs m c b s x)
theorem hx2 (j x) : (iblk m c 2 t : Vec Ideal S576x7168 .fp8e4m3) (ix2 j x) = (args m c).WC j x := (ib2 m c t _).trans (congrFun (V_main_arg2 m c) _)
theorem hx3 (j : Fin 576) (x : Fin 56) : (iblk m c 3 t : Vec Ideal S576x56 .bf16) (ix2 j x) = (args m c).WS ⟨j.val / 128, by omega⟩ x := (ib3 m c t _).trans (Vws m c j x)
theorem hx4 (b s l) : (iblk m c 4 t : Vec Ideal S2x16384x512 .bf16) (ix3 b s l) = (args m c).DC b s l := (ib4 m c t _).trans (congrFun (V_main_arg7 m c) _)
theorem hx5 (b s) : (iblk m c 5 t : Vec Ideal S2x16384x1 .f32) (ix3 b s 0) = (args m c).val b s := (ib5 m c t _).trans (Vval m c b s)
theorem hx6 (l) : (iblk m c 6 t : Vec Ideal S512 .f32) (ix1 l) = (args m c).GN l := (ib6 m c t _).trans (congrFun (V_main_arg4 m c) _)
theorem hx7 (b s l) : (iblk m c 7 t : Vec Ideal S2x16384x64 .f32) (ix3 b s l) = (args m c).dr b s l := (ib7 m c t _).trans (Vdr m c b s l)
end

theorem q8 (t : Fin cfg0.N) (y : S2x16384x7168.Idx) : (dats m 0 c).after 8 t ((cfg0.win 8).xinj (cfg0.grid.coords t) y) = (args m c).dx (y 0) (y 1) (y 2) := by
  refine Eq.trans (congrArg ((dats m 0 c).after 8 t) (?_ : _ = (y : (cfg0.win 8).block.Idx))) ((congrFun (after0_8 m c t) y).trans
    (g8 _ _ _ _ _ _ _ _ (args m c) (hx0 m c t) (hx1 m c t) (hx2 m c t) (hx3 m c t) (hx4 m c t) (hx5 m c t) (hx6 m c t) (hx7 m c t) y))
  rfl
theorem cov8 : (cfg0.win 8).Covers := by decide +kernel
/-- The reference's first result. -/
theorem arr8 : (dats m 0 c).arrAt 8 cfg0.N = fun i : S2x16384x7168.Idx => (args m c).dx (i 0) (i 1) (i 2) := by
  refine (dats m 0 c).arrAt_eq_of_covers 8 _ cov8 fun t hf y => ?_
  have h1 := q8 m c t y
  have h2 := congrArg (fun i : S2x16384x7168.Idx => (args m c).dx (i 0) (i 1) (i 2)) (em8 t y)
  refine Eq.trans ?_ h2.symm
  refine Eq.trans ?_ h1
  exact eq_of_heq (cast_heq _ _)

theorem q9 (t : Fin cfg0.N) (y : S2x64x2x512.Idx) : (dats m 0 c).after 9 t ((cfg0.win 9).xinj (cfg0.grid.coords t) y) = (args m c).gp (y 0) (y 1) (y 2) (y 3) := by
  refine Eq.trans (congrArg ((dats m 0 c).after 9 t) (?_ : _ = (y : (cfg0.win 9).block.Idx))) ((congrFun (after0_9 m c t) y).trans
    (g9 _ _ _ _ _ _ _ _ (args m c) (hx0 m c t) (hx1 m c t) (hx2 m c t) (hx3 m c t) (hx4 m c t) (hx5 m c t) (hx6 m c t) (hx7 m c t) y))
  rfl
theorem cov9 : (cfg0.win 9).Covers := by decide +kernel
/-- The reference's second result. -/
theorem arr9 : (dats m 0 c).arrAt 9 cfg0.N = fun i : S2x64x2x512.Idx => (args m c).gp (i 0) (i 1) (i 2) (i 3) := by
  refine (dats m 0 c).arrAt_eq_of_covers 9 _ cov9 fun t hf y => ?_
  have h1 := q9 m c t y
  have h2 := congrArg (fun i : S2x64x2x512.Idx => (args m c).gp (i 0) (i 1) (i 2) (i 3)) (em9 t y)
  refine Eq.trans ?_ h2.symm
  refine Eq.trans ?_ h1
  exact eq_of_heq (cast_heq _ _)

theorem q10 (t : Fin cfg0.N) (y : S2x16384x576.Idx) : (dats m 0 c).after 10 t ((cfg0.win 10).xinj (cfg0.grid.coords t) y) = (args m c).code (y 0) (y 1) (y 2) := by
  refine Eq.trans (congrArg ((dats m 0 c).after 10 t) (?_ : _ = (y : (cfg0.win 10).block.Idx))) ((congrFun (after0_10 m c t) y).trans
    (g10 _ _ _ _ _ _ _ _ (args m c) (hx0 m c t) (hx1 m c t) (hx2 m c t) (hx3 m c t) (hx4 m c t) (hx5 m c t) (hx6 m c t) (hx7 m c t) y))
  rfl
theorem cov10 : (cfg0.win 10).Covers := by decide +kernel
/-- The reference's third result. -/
theorem arr10 : (dats m 0 c).arrAt 10 cfg0.N = fun i : S2x16384x576.Idx => (args m c).code (i 0) (i 1) (i 2) := by
  refine (dats m 0 c).arrAt_eq_of_covers 10 _ cov10 fun t hf y => ?_
  have h1 := q10 m c t y
  have h2 := congrArg (fun i : S2x16384x576.Idx => (args m c).code (i 0) (i 1) (i 2)) (em10 t y)
  refine Eq.trans ?_ h2.symm
  refine Eq.trans ?_ h1
  exact eq_of_heq (cast_heq _ _)

theorem q11 (t : Fin cfg0.N) (y : S2x16384x5.Idx) : (dats m 0 c).after 11 t ((cfg0.win 11).xinj (cfg0.grid.coords t) y) = (args m c).sc (y 0) (y 1) (y 2) := by
  refine Eq.trans (congrArg ((dats m 0 c).after 11 t) (?_ : _ = (y : (cfg0.win 11).block.Idx))) ((congrFun (after0_11 m c t) y).trans
    (g11 _ _ _ _ _ _ _ _ (args m c) (hx0 m c t) (hx1 m c t) (hx2 m c t) (hx3 m c t) (hx4 m c t) (hx5 m c t) (hx6 m c t) (hx7 m c t) y))
  rfl
theorem cov11 : (cfg0.win 11).Covers := by decide +kernel
/-- The reference's fourth result. -/
theorem arr11 : (dats m 0 c).arrAt 11 cfg0.N = fun i : S2x16384x5.Idx => (args m c).sc (i 0) (i 1) (i 2) := by
  refine (dats m 0 c).arrAt_eq_of_covers 11 _ cov11 fun t hf y => ?_
  have h1 := q11 m c t y
  have h2 := congrArg (fun i : S2x16384x5.Idx => (args m c).sc (i 0) (i 1) (i 2)) (em11 t y)
  refine Eq.trans ?_ h2.symm
  refine Eq.trans ?_ h1
  exact eq_of_heq (cast_heq _ _)
end Cert.Val.R
end
-- ==== Proof.Val.Alg.lean ====
/- The two programs leave the same four results: the kernel's arrays and the reference's, from equal arguments. -/
module
public import proofs.«01_k».proof.Defs
public import proofs.«01_k».proof.Proof.Val.KArr
public import proofs.«01_k».proof.Proof.Val.RArr
public import proofs.«01_k».proof.Proof.Gen.ReferenceIdeal.Value
@[expose] public section
set_option maxRecDepth 16384
noncomputable section
namespace Cert.Val
open Idealize.ShloMosaic Idealize.SL.Sem

/-- The stated side condition of the precondition. -/
theorem preFacts : Cert.Pre_lengths_not_negative.Facts where
  bcast_S_S2 := by decide

/-- The precondition says that no length is negative. -/
theorem len_nonneg [Cert.Pre_lengths_not_negative.Facts] (m : (ℓ : Loc Cert.KernelIdeal.nD Cert.KernelIdeal.τ Cert.KernelIdeal.sig) → Buf (Elt Ideal) ℓ)
    (h : Cert.Pre_KernelIdeal_lengths_not_negative m) (c : Dev Cert.KernelIdeal.nD) (b : Fin 2) : 0 ≤ ((K.args m c).LN b).toInt := by
  have h1 := congrFun (h c) (ix1 b)
  have h2 : IntOp.cmpi CmpIPredicate.sge ((K.args m c).LN b) 0#32 = 1#1 := by
    refine Eq.trans ?_ h1
    rfl
  have h3 : BitVec.ofBool (BitVec.sle 0#32 ((K.args m c).LN b)) = 1#1 := h2
  have h4 : BitVec.sle 0#32 ((K.args m c).LN b) = true := by
    cases hb : BitVec.sle 0#32 ((K.args m c).LN b) with
    | true => rfl
    | false => rw [hb] at h3; exact absurd h3 (by decide)
  have h5 := BitVec.sle_iff_toInt_le.mp h4
  exact h5

/-- Equal argument arrays are equal arguments by coordinates. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' (c.tc.loc Cert.ReferenceIdeal.main_arg0) = m (c.tc.loc Cert.KernelIdeal.main_arg0))
    (h1 : m' (c.tc.loc Cert.ReferenceIdeal.main_arg1) = m (c.tc.loc Cert.KernelIdeal.main_arg1))
    (h2 : m' (c.tc.loc Cert.ReferenceIdeal.main_arg2) = m (c.tc.loc Cert.KernelIdeal.main_arg2))
    (h3 : m' (c.tc.loc Cert.ReferenceIdeal.main_arg3) = m (c.tc.loc Cert.KernelIdeal.main_arg3))
    (h4 : m' (c.tc.loc Cert.ReferenceIdeal.main_arg4) = m (c.tc.loc Cert.KernelIdeal.main_arg4))
    (h5 : m' (c.tc.loc Cert.ReferenceIdeal.main_arg5) = m (c.tc.loc Cert.KernelIdeal.main_arg5))
    (h6 : m' (c.tc.loc Cert.ReferenceIdeal.main_arg6) = m (c.tc.loc Cert.KernelIdeal.main_arg6))
    (h7 : m' (c.tc.loc Cert.ReferenceIdeal.main_arg7) = m (c.tc.loc Cert.KernelIdeal.main_arg7))
    (h8 : m' (c.tc.loc Cert.ReferenceIdeal.main_arg8) = m (c.tc.loc Cert.KernelIdeal.main_arg8)) :
    R.args m' c = K.args m c := by
  have e0 : (R.args m' c).X = (K.args m c).X := funext fun _ => funext fun _ => funext fun _ => congrFun h0 _
  have e1 : (R.args m' c).XS = (K.args m c).XS := funext fun _ => funext fun _ => funext fun _ => congrFun h1 _
  have e2 : (R.args m' c).WC = (K.args m c).WC := funext fun _ => funext fun _ => congrFun h2 _
  have e3 : (R.args m' c).WS = (K.args m c).WS := funext fun _ => funext fun _ => congrFun h3 _
  have e4 : (R.args m' c).GN = (K.args m c).GN := funext fun _ => congrFun h4 _
  have e5 : (R.args m' c).PS = (K.args m c).PS := funext fun _ => funext fun _ => congrFun h5 _
  have e6 : (R.args m' c).LN = (K.args m c).LN := funext fun _ => congrFun h6 _
  have e7 : (R.args m' c).DC = (K.args m c).DC := funext fun _ => funext fun _ => funext fun _ => congrFun h7 _
  have e8 : (R.args m' c).DR = (K.args m c).DR := funext fun _ => funext fun _ => funext fun _ => congrFun h8 _
  generalize R.args m' c = A at *
  generalize K.args m c = B at *
  cases A; cases B
  simp only at e0 e1 e2 e3 e4 e5 e6 e7 e8
  subst e0 e1 e2 e3 e4 e5 e6 e7 e8
  rfl

/-- Both programs run and leave the same four results, the arguments unchanged. -/
theorem algebraic [Cert.Pre_lengths_not_negative.Facts] : Cert.algebraic_KernelIdeal_ReferenceIdeal_pre_lengths_not_negative
    (hKernelIdeal := Cert.KernelIdeal.Gen.facts) (hReferenceIdeal := Cert.ReferenceIdeal.Gen.facts) := by
  intro m g m' g' hpre hargs
  have hO := Cert.KernelIdeal.Hand.adm_ok m
  have hE : ∀ c : Dev Cert.KernelIdeal.nD, R.args m' c = K.args m c := fun c => by
    obtain ⟨h0, h1, h2, h3, h4, h5, h6, h7, h8⟩ := hargs c
    exact args_eq m m' c h0 h1 h2 h3 h4 h5 h6 h7 h8
  refine ⟨fun c => (fun i : Cert.KernelIdeal.S2x16384x7168.Idx => (K.args m c).dx (i 0) (i 1) (i 2)), fun c => (fun i : Cert.KernelIdeal.S2x64x2x512.Idx => (K.args m c).gp (i 0) (i 1) (i 2) (i 3)),
    fun c => (fun i : Cert.KernelIdeal.S2x16384x576.Idx => (K.args m c).code (i 0) (i 1) (i 2)), fun c => (fun i : Cert.KernelIdeal.S2x16384x5.Idx => (K.args m c).sc (i 0) (i 1) (i 2)), ?_, ?_⟩
  · refine (θ_run _ _ _).mono (fun r h c => ?_) (Cert.KernelIdeal.Hand.run_main m g hO)
    have hL := len_nonneg m hpre c
    exact ⟨((h.1 c).1 9).trans (K.arr9 m c hO hL), ((h.1 c).1 10).trans (K.arr10 m c hO hL), ((h.1 c).1 11).trans (K.arr11 m c hO hL),
      ((h.1 c).1 12).trans (K.arr12 m c hO hL), Cert.KernelIdeal.Hand.args_unchanged m hO r h.1 c⟩
  · refine (θ_run _ _ _).mono (fun r h c => ?_) (Cert.ReferenceIdeal.Value.run_blocks m' g')
    obtain ⟨h0, h1, h2, h3, h4⟩ := h c
    exact ⟨(h0.trans (R.arr8 m' c)).trans (congrArg (fun A : Args => fun i : Cert.KernelIdeal.S2x16384x7168.Idx => A.dx (i 0) (i 1) (i 2)) (hE c)),
      (h1.trans (R.arr9 m' c)).trans (congrArg (fun A : Args => fun i : Cert.KernelIdeal.S2x64x2x512.Idx => A.gp (i 0) (i 1) (i 2) (i 3)) (hE c)),
      (h2.trans (R.arr10 m' c)).trans (congrArg (fun A : Args => fun i : Cert.KernelIdeal.S2x16384x576.Idx => A.code (i 0) (i 1) (i 2)) (hE c)),
      (h3.trans (R.arr11 m' c)).trans (congrArg (fun A : Args => fun i : Cert.KernelIdeal.S2x16384x5.Idx => A.sc (i 0) (i 1) (i 2)) (hE c)), h4⟩

end Cert.Val
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.K.Frame
public import proofs.«01_k».proof.Proof.KI.Frame
public import proofs.«01_k».proof.Proof.Gen.ReferenceIdeal.Value
public import proofs.«01_k».proof.Proof.Val.Alg
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Val.preFacts,
  fun m ρ _ => Cert.Kernel.Hand.frame m ρ, fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ, trivial, @Cert.Val.algebraic Cert.Val.preFacts⟩

end Cert.Proof

end
